-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_and_finite [hPre_sorted_and_finite : Cert.Pre_sorted_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_and_finite [hPre_sorted_and_finite : Cert.Pre_sorted_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_sorted_and_finite [hKernelIdeal : Cert.KernelIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sorted_and_finite [hReferenceIdeal : Cert.ReferenceIdeal.Facts] [hPre_sorted_and_finite : Cert.Pre_sorted_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_sorted_and_finite [hKernelIdeal : Cert.KernelIdeal.Facts] [hReferenceIdeal : Cert.ReferenceIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_sorted_and_finite : Cert.Pre_sorted_and_finite.Facts),
    quiescent_Kernel (hKernel := hKernel)
    ∧ quiescent_KernelIdeal (hKernelIdeal := hKernelIdeal)
    ∧ quiescent_KernelIdeal_pre_sorted_and_finite (hKernelIdeal := hKernelIdeal) (hPre_sorted_and_finite := hPre_sorted_and_finite)
    ∧ quiescent_ReferenceIdeal (hReferenceIdeal := hReferenceIdeal)
    ∧ quiescent_ReferenceIdeal_pre_sorted_and_finite (hReferenceIdeal := hReferenceIdeal) (hPre_sorted_and_finite := hPre_sorted_and_finite)
    ∧ preserves_Kernel_KernelIdeal
    ∧ algebraic_KernelIdeal_ReferenceIdeal_pre_sorted_and_finite (hKernelIdeal := hKernelIdeal) (hReferenceIdeal := hReferenceIdeal) (hPre_sorted_and_finite := hPre_sorted_and_finite)
-- ==== Pre_sorted_and_finite.lean ====
abbrev S8x2048x20480 : Shape := ⟨3, ![8, 2048, 20480]⟩
abbrev S8x2048 : Shape := ⟨2, ![8, 2048]⟩
abbrev S8x2048x4096 : Shape := ⟨3, ![8, 2048, 4096]⟩
abbrev S16384x4096 : Shape := ⟨2, ![16384, 4096]⟩
abbrev S16384 : Shape := ⟨1, ![16384]⟩
abbrev S16383 : Shape := ⟨1, ![16383]⟩
abbrev S_ : Shape := ⟨0, ![]⟩

class Facts : Prop where
  slices_S16384_S16383_1 : S16384.Slices ![1] S16383
  slices_S16384_S16383_0 : S16384.Slices ![0] S16383
  reducesTo_S16383_S_d0 : S16383.ReducesTo [0] S_
  h_S_ : 0 < S_.numel
  bitsLt_bf16_f32 : FTy.bits .bf16 < FTy.bits .f32
  bcast_S_S8x2048x20480 : S_.BroadcastsInDim S8x2048x20480 (![] : Fin 0 → Fin S8x2048x20480.rank)
  reducesTo_S8x2048x20480_S_d0_1_2 : S8x2048x20480.ReducesTo [0, 1, 2] S_
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S8x2048x20480 .bf16) (main_arg1 : IVec S8x2048 32) (main_arg2 : FVec F S8x2048x4096 .fp8e4m3) (main_arg3 : FVec F S8x2048 .f32) (main_arg4 : FVec F S16384x4096 .fp8e5m2) (main_arg5 : FVec F S16384 .f32) (main_arg6 : IVec S16384 32) : IVec S_ 1 :=
  let main_v0 : IVec S16383 32 := (extractStridedSlice S16383 ![1] · slices_S16384_S16383_1) main_arg6
  let main_v1 : IVec S16383 32 := (extractStridedSlice S16383 ![0] · slices_S16384_S16383_0) main_arg6
  let main_v2 : IVec S16383 1 := cmpi .sge main_v0 main_v1
  let main_c : IVec S_ 1 := constantI S_ 1 1#1
  let main_v3 : IVec S_ 1 := (fun x v => Host.reduce IntOp.andi x v reducesTo_S16383_S_d0 h_S_) main_v2 main_c
  let main_v4 : FVec F S8x2048x20480 .f32 := (extf .f32 · bitsLt_bf16_f32) main_arg0
  let main_v5 : FVec F S8x2048x20480 .f32 := Host.absf main_v4
  let main_cst : FVec F S_ .f32 := constant S_ .f32 0x7F800000#32
  let main_v6 : FVec F S8x2048x20480 .f32 := broadcastInDim S8x2048x20480 ![] bcast_S_S8x2048x20480 main_cst
  let main_v7 : IVec S8x2048x20480 1 := cmpf .olt main_v5 main_v6
  let main_c_0 : IVec S_ 1 := constantI S_ 1 1#1
  let main_v8 : IVec S_ 1 := (fun x v => Host.reduce IntOp.andi x v reducesTo_S8x2048x20480_S_d0_1_2 h_S_) main_v7 main_c_0
  let main_v9 : FVec F S8x2048 .f32 := Host.absf main_arg3
  let main_cst_1 : FVec F S_ .f32 := constant S_ .f32 0x7F800000#32
  let main_v10 : FVec F S8x2048 .f32 := broadcastInDim S8x2048 ![] bcast_S_S8x2048 main_cst_1
  let main_v11 : IVec S8x2048 1 := cmpf .olt main_v9 main_v10
  let main_c_2 : IVec S_ 1 := constantI S_ 1 1#1
  let main_v12 : IVec S_ 1 := (fun x v => Host.reduce IntOp.andi x v reducesTo_S8x2048_S_d0_1 h_S_) main_v11 main_c_2
  let main_v13 : IVec S_ 1 := andi main_v3 main_v8
  let main_v14 : IVec S_ 1 := andi main_v13 main_v12
  main_v14
-- ==== Kernel.lean ====
abbrev S8x2048x20480 : Shape := ⟨3, ![8, 2048, 20480]⟩
abbrev S8x2048 : Shape := ⟨2, ![8, 2048]⟩
abbrev S8x2048x4096 : Shape := ⟨3, ![8, 2048, 4096]⟩
abbrev S16384x4096 : Shape := ⟨2, ![16384, 4096]⟩
abbrev S16384 : Shape := ⟨1, ![16384]⟩
abbrev S16384x20480 : Shape := ⟨2, ![16384, 20480]⟩
abbrev S2x16384 : Shape := ⟨2, ![2, 16384]⟩
abbrev S128x20480 : Shape := ⟨2, ![128, 20480]⟩
abbrev S2x128 : Shape := ⟨2, ![2, 128]⟩
abbrev S16x128 : Shape := ⟨2, ![16, 128]⟩
abbrev S16 : Shape := ⟨1, ![16]⟩
abbrev S16x1 : Shape := ⟨2, ![16, 1]⟩
abbrev S32x128 : Shape := ⟨2, ![32, 128]⟩
abbrev S128x32 : Shape := ⟨2, ![128, 32]⟩
abbrev S1x16 : Shape := ⟨2, ![1, 16]⟩
abbrev S21 : Shape := ⟨1, ![21]⟩
abbrev S_ : Shape := ⟨0, ![]⟩
abbrev S1x16384 : Shape := ⟨2, ![1, 16384]⟩
abbrev S21x1 : Shape := ⟨2, ![21, 1]⟩
abbrev S21x16384 : Shape := ⟨2, ![21, 16384]⟩
abbrev S64x1x256 : Shape := ⟨3, ![64, 1, 256]⟩
abbrev S20480x4096 : Shape := ⟨2, ![20480, 4096]⟩
abbrev S512x1024 : Shape := ⟨2, ![512, 1024]⟩
abbrev S2x512 : Shape := ⟨2, ![2, 512]⟩
abbrev S1x512 : Shape := ⟨2, ![1, 512]⟩
abbrev S512x4096 : Shape := ⟨2, ![512, 4096]⟩
abbrev S1024x4096 : Shape := ⟨2, ![1024, 4096]⟩
abbrev S1024x512 : Shape := ⟨2, ![1024, 512]⟩
abbrev S256x4096 : Shape := ⟨2, ![256, 4096]⟩
abbrev S1 : Shape := ⟨1, ![1]⟩
abbrev S1024x256 : Shape := ⟨2, ![1024, 256]⟩
abbrev S1x1x256 : Shape := ⟨3, ![1, 1, 256]⟩
abbrev S1x256 : Shape := ⟨2, ![1, 256]⟩
abbrev S256x512 : Shape := ⟨2, ![256, 512]⟩
abbrev S1024x128 : Shape := ⟨2, ![1024, 128]⟩
abbrev S128x1024 : Shape := ⟨2, ![128, 1024]⟩
abbrev S1x128 : Shape := ⟨2, ![1, 128]⟩
abbrev S512x512 : Shape := ⟨2, ![512, 512]⟩

abbrev nBuf : Space → Nat
  | .hbm => 26
  | .vmem => 20
  | .smem => 1
  | _ => 0

abbrev bufTy : (tb : Table) → Fin (tcTables nBuf tb) → BufTy
  | .hbm, ⟨0, _⟩ => ⟨S8x2048x20480, .bf16⟩
  | .hbm, ⟨1, _⟩ => ⟨S8x2048, .i32⟩
  | .hbm, ⟨2, _⟩ => ⟨S8x2048x4096, .fp8e4m3⟩
  | .hbm, ⟨3, _⟩ => ⟨S8x2048, .f32⟩
  | .hbm, ⟨4, _⟩ => ⟨S16384x4096, .fp8e5m2⟩
  | .hbm, ⟨5, _⟩ => ⟨S16384, .f32⟩
  | .hbm, ⟨6, _⟩ => ⟨S16384, .i32⟩
  | .hbm, ⟨7, _⟩ => ⟨S16384x20480, .bf16⟩
  | .hbm, ⟨8, _⟩ => ⟨S2x16384, .f32⟩
  | .hbm, ⟨9, _⟩ => ⟨S21, .i32⟩
  | .hbm, ⟨10, _⟩ => ⟨S_, .i32⟩
  | .hbm, ⟨11, _⟩ => ⟨S21, .i32⟩
  | .hbm, ⟨12, _⟩ => ⟨S21, .i32⟩
  | .hbm, ⟨13, _⟩ => ⟨S1x16384, .i32⟩
  | .hbm, ⟨14, _⟩ => ⟨S21x1, .i32⟩
  | .hbm, ⟨15, _⟩ => ⟨S21x16384, .i32⟩
  | .hbm, ⟨16, _⟩ => ⟨S21x16384, .i32⟩
  | .hbm, ⟨17, _⟩ => ⟨S21x16384, .i1⟩
  | .hbm, ⟨18, _⟩ => ⟨S21x16384, .i32⟩
  | .hbm, ⟨19, _⟩ => ⟨S_, .i32⟩
  | .hbm, ⟨20, _⟩ => ⟨S1x16384, .i32⟩
  | .hbm, ⟨21, _⟩ => ⟨S1x16384, .f32⟩
  | .hbm, ⟨22, _⟩ => ⟨S16384x4096, .fp8e4m3⟩
  | .hbm, ⟨23, _⟩ => ⟨S64x1x256, .i32⟩
  | .hbm, ⟨24, _⟩ => ⟨S64x1x256, .f32⟩
  | .hbm, ⟨25, _⟩ => ⟨S20480x4096, .f32⟩
  | .local _ .vmem, ⟨0, _⟩ => ⟨S128x20480, .bf16⟩
  | .local _ .vmem, ⟨1, _⟩ => ⟨S128x20480, .bf16⟩
  | .local _ .vmem, ⟨2, _⟩ => ⟨S2x128, .f32⟩
  | .local _ .vmem, ⟨3, _⟩ => ⟨S2x128, .f32⟩
  | .local _ .vmem, ⟨4, _⟩ => ⟨S512x1024, .bf16⟩
  | .local _ .vmem, ⟨5, _⟩ => ⟨S512x1024, .bf16⟩
  | .local _ .vmem, ⟨6, _⟩ => ⟨S2x512, .f32⟩
  | .local _ .vmem, ⟨7, _⟩ => ⟨S2x512, .f32⟩
  | .local _ .vmem, ⟨8, _⟩ => ⟨S1x512, .i32⟩
  | .local _ .vmem, ⟨9, _⟩ => ⟨S1x512, .i32⟩
  | .local _ .vmem, ⟨10, _⟩ => ⟨S1x512, .f32⟩
  | .local _ .vmem, ⟨11, _⟩ => ⟨S1x512, .f32⟩
  | .local _ .vmem, ⟨12, _⟩ => ⟨S512x4096, .fp8e4m3⟩
  | .local _ .vmem, ⟨13, _⟩ => ⟨S512x4096, .fp8e4m3⟩
  | .local _ .vmem, ⟨14, _⟩ => ⟨S64x1x256, .i32⟩
  | .local _ .vmem, ⟨15, _⟩ => ⟨S64x1x256, .f32⟩
  | .local _ .vmem, ⟨16, _⟩ => ⟨S1024x4096, .f32⟩
  | .local _ .vmem, ⟨17, _⟩ => ⟨S1024x4096, .f32⟩
  | .local _ .vmem, ⟨18, _⟩ => ⟨S1024x512, .bf16⟩
  | .local _ .vmem, ⟨19, _⟩ => ⟨S256x4096, .fp8e5m2⟩
  | .local _ .smem, ⟨0, _⟩ => ⟨S21, .i32⟩
  | _, _ => ⟨S8x2048x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![128], ![false]⟩

@[reducible] def k0_t1_loop : Scf.Loop 32 :=
  let c1_i32 : BitVec 32 := 1#32
  let c159_i32 : BitVec 32 := 159#32
  let v2 : BitVec 32 := Scalar.addi c1_i32 c159_i32
  let c1_i32_1 : BitVec 32 := 1#32
  ⟨c1_i32, v2, c1_i32_1⟩
def k0_off1 (k0_t1 : Fin k0_t1_loop.trips) : Fin 2 → Nat :=
  let c0_130 : Index := 0#32
  let c1_i32 : BitVec 32 := 1#32
  let c1_i32_1 : BitVec 32 := 1#32
  let arg3 : BitVec 32 := Scf.iv c1_i32 c1_i32_1 k0_t1
  let c128_i32 : BitVec 32 := 128#32
  let v192 : BitVec 32 := Scalar.muli arg3 c128_i32
  let v193 : Index := Scalar.indexCast v192
  ![0, v193.toNat]
@[reducible] def k0_t2_loop : Scf.Loop 32 :=
  let c0_i32 : BitVec 32 := 0#32
  let c160_i32 : BitVec 32 := 160#32
  let v8 : BitVec 32 := Scalar.addi c0_i32 c160_i32
  let c1_i32_4 : BitVec 32 := 1#32
  ⟨c0_i32, v8, c1_i32_4⟩
def k0_off2 (k0_t2 : Fin k0_t2_loop.trips) : Fin 2 → Nat :=
  let c0_130 : Index := 0#32
  let c0_i32 : BitVec 32 := 0#32
  let c1_i32_4 : BitVec 32 := 1#32
  let arg3 : BitVec 32 := Scf.iv c0_i32 c1_i32_4 k0_t2
  let c128_i32 : BitVec 32 := 128#32
  let v192 : BitVec 32 := Scalar.muli arg3 c128_i32
  let v193 : Index := Scalar.indexCast v192
  ![0, v193.toNat]
@[reducible] def k0_t3_loop : Scf.Loop 32 :=
  let c1_i32_12 : BitVec 32 := 1#32
  let c159_i32_13 : BitVec 32 := 159#32
  let v26 : BitVec 32 := Scalar.addi c1_i32_12 c159_i32_13
  let c1_i32_14 : BitVec 32 := 1#32
  ⟨c1_i32_12, v26, c1_i32_14⟩
def k0_off3 (k0_t3 : Fin k0_t3_loop.trips) : Fin 2 → Nat :=
  let c16_130 : Index := 16#32
  let c1_i32_12 : BitVec 32 := 1#32
  let c1_i32_14 : BitVec 32 := 1#32
  let arg3 : BitVec 32 := Scf.iv c1_i32_12 c1_i32_14 k0_t3
  let c128_i32 : BitVec 32 := 128#32
  let v192 : BitVec 32 := Scalar.muli arg3 c128_i32
  let v193 : Index := Scalar.indexCast v192
  ![16, v193.toNat]
@[reducible] def k0_t4_loop : Scf.Loop 32 :=
  let c0_i32_18 : BitVec 32 := 0#32
  let c160_i32_19 : BitVec 32 := 160#32
  let v32 : BitVec 32 := Scalar.addi c0_i32_18 c160_i32_19
  let c1_i32_20 : BitVec 32 := 1#32
  ⟨c0_i32_18, v32, c1_i32_20⟩
def k0_off4 (k0_t4 : Fin k0_t4_loop.trips) : Fin 2 → Nat :=
  let c16_130 : Index := 16#32
  let c0_i32_18 : BitVec 32 := 0#32
  let c1_i32_20 : BitVec 32 := 1#32
  let arg3 : BitVec 32 := Scf.iv c0_i32_18 c1_i32_20 k0_t4
  let c128_i32 : BitVec 32 := 128#32
  let v192 : BitVec 32 := Scalar.muli arg3 c128_i32
  let v193 : Index := Scalar.indexCast v192
  ![16, v193.toNat]
@[reducible] def k0_t5_loop : Scf.Loop 32 :=
  let c1_i32_29 : BitVec 32 := 1#32
  let c159_i32_30 : BitVec 32 := 159#32
  let v50 : BitVec 32 := Scalar.addi c1_i32_29 c159_i32_30
  let c1_i32_31 : BitVec 32 := 1#32
  ⟨c1_i32_29, v50, c1_i32_31⟩
def k0_off5 (k0_t5 : Fin k0_t5_loop.trips) : Fin 2 → Nat :=
  let c32_130 : Index := 32#32
  let c1_i32_29 : BitVec 32 := 1#32
  let c1_i32_31 : BitVec 32 := 1#32
  let arg3 : BitVec 32 := Scf.iv c1_i32_29 c1_i32_31 k0_t5
  let c128_i32 : BitVec 32 := 128#32
  let v192 : BitVec 32 := Scalar.muli arg3 c128_i32
  let v193 : Index := Scalar.indexCast v192
  ![32, v193.toNat]
@[reducible] def k0_t6_loop : Scf.Loop 32 :=
  let c0_i32_35 : BitVec 32 := 0#32
  let c160_i32_36 : BitVec 32 := 160#32
  let v56 : BitVec 32 := Scalar.addi c0_i32_35 c160_i32_36
  let c1_i32_37 : BitVec 32 := 1#32
  ⟨c0_i32_35, v56, c1_i32_37⟩
def k0_off6 (k0_t6 : Fin k0_t6_loop.trips) : Fin 2 → Nat :=
  let c32_130 : Index := 32#32
  let c0_i32_35 : BitVec 32 := 0#32
  let c1_i32_37 : BitVec 32 := 1#32
  let arg3 : BitVec 32 := Scf.iv c0_i32_35 c1_i32_37 k0_t6
  let c128_i32 : BitVec 32 := 128#32
  let v192 : BitVec 32 := Scalar.muli arg3 c128_i32
  let v193 : Index := Scalar.indexCast v192
  ![32, v193.toNat]
@[reducible] def k0_t7_loop : Scf.Loop 32 :=
  let c1_i32_46 : BitVec 32 := 1#32
  let c159_i32_47 : BitVec 32 := 159#32
  let v74 : BitVec 32 := Scalar.addi c1_i32_46 c159_i32_47
  let c1_i32_48 : BitVec 32 := 1#32
  ⟨c1_i32_46, v74, c1_i32_48⟩
def k0_off7 (k0_t7 : Fin k0_t7_loop.trips) : Fin 2 → Nat :=
  let c48_130 : Index := 48#32
  let c1_i32_46 : BitVec 32 := 1#32
  let c1_i32_48 : BitVec 32 := 1#32
  let arg3 : BitVec 32 := Scf.iv c1_i32_46 c1_i32_48 k0_t7
  let c128_i32 : BitVec 32 := 128#32
  let v192 : BitVec 32 := Scalar.muli arg3 c128_i32
  let v193 : Index := Scalar.indexCast v192
  ![48, v193.toNat]
@[reducible] def k0_t8_loop : Scf.Loop 32 :=
  let c0_i32_52 : BitVec 32 := 0#32
  let c160_i32_53 : BitVec 32 := 160#32
  let v80 : BitVec 32 := Scalar.addi c0_i32_52 c160_i32_53
  let c1_i32_54 : BitVec 32 := 1#32
  ⟨c0_i32_52, v80, c1_i32_54⟩
def k0_off8 (k0_t8 : Fin k0_t8_loop.trips) : Fin 2 → Nat :=
  let c48_130 : Index := 48#32
  let c0_i32_52 : BitVec 32 := 0#32
  let c1_i32_54 : BitVec 32 := 1#32
  let arg3 : BitVec 32 := Scf.iv c0_i32_52 c1_i32_54 k0_t8
  let c128_i32 : BitVec 32 := 128#32
  let v192 : BitVec 32 := Scalar.muli arg3 c128_i32
  let v193 : Index := Scalar.indexCast v192
  ![48, v193.toNat]
@[reducible] def k0_t9_loop : Scf.Loop 32 :=
  let c1_i32_63 : BitVec 32 := 1#32
  let c159_i32_64 : BitVec 32 := 159#32
  let v98 : BitVec 32 := Scalar.addi c1_i32_63 c159_i32_64
  let c1_i32_65 : BitVec 32 := 1#32
  ⟨c1_i32_63, v98, c1_i32_65⟩
def k0_off9 (k0_t9 : Fin k0_t9_loop.trips) : Fin 2 → Nat :=
  let c64_130 : Index := 64#32
  let c1_i32_63 : BitVec 32 := 1#32
  let c1_i32_65 : BitVec 32 := 1#32
  let arg3 : BitVec 32 := Scf.iv c1_i32_63 c1_i32_65 k0_t9
  let c128_i32 : BitVec 32 := 128#32
  let v192 : BitVec 32 := Scalar.muli arg3 c128_i32
  let v193 : Index := Scalar.indexCast v192
  ![64, v193.toNat]
@[reducible] def k0_t10_loop : Scf.Loop 32 :=
  let c0_i32_69 : BitVec 32 := 0#32
  let c160_i32_70 : BitVec 32 := 160#32
  let v104 : BitVec 32 := Scalar.addi c0_i32_69 c160_i32_70
  let c1_i32_71 : BitVec 32 := 1#32
  ⟨c0_i32_69, v104, c1_i32_71⟩
def k0_off10 (k0_t10 : Fin k0_t10_loop.trips) : Fin 2 → Nat :=
  let c64_130 : Index := 64#32
  let c0_i32_69 : BitVec 32 := 0#32
  let c1_i32_71 : BitVec 32 := 1#32
  let arg3 : BitVec 32 := Scf.iv c0_i32_69 c1_i32_71 k0_t10
  let c128_i32 : BitVec 32 := 128#32
  let v192 : BitVec 32 := Scalar.muli arg3 c128_i32
  let v193 : Index := Scalar.indexCast v192
  ![64, v193.toNat]
@[reducible] def k0_t11_loop : Scf.Loop 32 :=
  let c1_i32_80 : BitVec 32 := 1#32
  let c159_i32_81 : BitVec 32 := 159#32
  let v122 : BitVec 32 := Scalar.addi c1_i32_80 c159_i32_81
  let c1_i32_82 : BitVec 32 := 1#32
  ⟨c1_i32_80, v122, c1_i32_82⟩
def k0_off11 (k0_t11 : Fin k0_t11_loop.trips) : Fin 2 → Nat :=
  let c80_130 : Index := 80#32
  let c1_i32_80 : BitVec 32 := 1#32
  let c1_i32_82 : BitVec 32 := 1#32
  let arg3 : BitVec 32 := Scf.iv c1_i32_80 c1_i32_82 k0_t11
  let c128_i32 : BitVec 32 := 128#32
  let v192 : BitVec 32 := Scalar.muli arg3 c128_i32
  let v193 : Index := Scalar.indexCast v192
  ![80, v193.toNat]
@[reducible] def k0_t12_loop : Scf.Loop 32 :=
  let c0_i32_86 : BitVec 32 := 0#32
  let c160_i32_87 : BitVec 32 := 160#32
  let v128 : BitVec 32 := Scalar.addi c0_i32_86 c160_i32_87
  let c1_i32_88 : BitVec 32 := 1#32
  ⟨c0_i32_86, v128, c1_i32_88⟩
def k0_off12 (k0_t12 : Fin k0_t12_loop.trips) : Fin 2 → Nat :=
  let c80_130 : Index := 80#32
  let c0_i32_86 : BitVec 32 := 0#32
  let c1_i32_88 : BitVec 32 := 1#32
  let arg3 : BitVec 32 := Scf.iv c0_i32_86 c1_i32_88 k0_t12
  let c128_i32 : BitVec 32 := 128#32
  let v192 : BitVec 32 := Scalar.muli arg3 c128_i32
  let v193 : Index := Scalar.indexCast v192
  ![80, v193.toNat]
@[reducible] def k0_t13_loop : Scf.Loop 32 :=
  let c1_i32_97 : BitVec 32 := 1#32
  let c159_i32_98 : BitVec 32 := 159#32
  let v146 : BitVec 32 := Scalar.addi c1_i32_97 c159_i32_98
  let c1_i32_99 : BitVec 32 := 1#32
  ⟨c1_i32_97, v146, c1_i32_99⟩
def k0_off13 (k0_t13 : Fin k0_t13_loop.trips) : Fin 2 → Nat :=
  let c96_130 : Index := 96#32
  let c1_i32_97 : BitVec 32 := 1#32
  let c1_i32_99 : BitVec 32 := 1#32
  let arg3 : BitVec 32 := Scf.iv c1_i32_97 c1_i32_99 k0_t13
  let c128_i32 : BitVec 32 := 128#32
  let v192 : BitVec 32 := Scalar.muli arg3 c128_i32
  let v193 : Index := Scalar.indexCast v192
  ![96, v193.toNat]
@[reducible] def k0_t14_loop : Scf.Loop 32 :=
  let c0_i32_103 : BitVec 32 := 0#32
  let c160_i32_104 : BitVec 32 := 160#32
  let v152 : BitVec 32 := Scalar.addi c0_i32_103 c160_i32_104
  let c1_i32_105 : BitVec 32 := 1#32
  ⟨c0_i32_103, v152, c1_i32_105⟩
def k0_off14 (k0_t14 : Fin k0_t14_loop.trips) : Fin 2 → Nat :=
  let c96_130 : Index := 96#32
  let c0_i32_103 : BitVec 32 := 0#32
  let c1_i32_105 : BitVec 32 := 1#32
  let arg3 : BitVec 32 := Scf.iv c0_i32_103 c1_i32_105 k0_t14
  let c128_i32 : BitVec 32 := 128#32
  let v192 : BitVec 32 := Scalar.muli arg3 c128_i32
  let v193 : Index := Scalar.indexCast v192
  ![96, v193.toNat]
@[reducible] def k0_t15_loop : Scf.Loop 32 :=
  let c1_i32_114 : BitVec 32 := 1#32
  let c159_i32_115 : BitVec 32 := 159#32
  let v170 : BitVec 32 := Scalar.addi c1_i32_114 c159_i32_115
  let c1_i32_116 : BitVec 32 := 1#32
  ⟨c1_i32_114, v170, c1_i32_116⟩
def k0_off15 (k0_t15 : Fin k0_t15_loop.trips) : Fin 2 → Nat :=
  let c112_130 : Index := 112#32
  let c1_i32_114 : BitVec 32 := 1#32
  let c1_i32_116 : BitVec 32 := 1#32
  let arg3 : BitVec 32 := Scf.iv c1_i32_114 c1_i32_116 k0_t15
  let c128_i32 : BitVec 32 := 128#32
  let v192 : BitVec 32 := Scalar.muli arg3 c128_i32
  let v193 : Index := Scalar.indexCast v192
  ![112, v193.toNat]
@[reducible] def k0_t16_loop : Scf.Loop 32 :=
  let c0_i32_120 : BitVec 32 := 0#32
  let c160_i32_121 : BitVec 32 := 160#32
  let v176 : BitVec 32 := Scalar.addi c0_i32_120 c160_i32_121
  let c1_i32_122 : BitVec 32 := 1#32
  ⟨c0_i32_120, v176, c1_i32_122⟩
def k0_off16 (k0_t16 : Fin k0_t16_loop.trips) : Fin 2 → Nat :=
  let c112_130 : Index := 112#32
  let c0_i32_120 : BitVec 32 := 0#32
  let c1_i32_122 : BitVec 32 := 1#32
  let arg3 : BitVec 32 := Scf.iv c0_i32_120 c1_i32_122 k0_t16
  let c128_i32 : BitVec 32 := 128#32
  let v192 : BitVec 32 := Scalar.muli arg3 c128_i32
  let v193 : Index := Scalar.indexCast v192
  ![112, v193.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x20480 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![20, 32], ![false, false]⟩

abbrev pre1 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k1_cond1 (i : grid1.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k1_off1 (i : grid1.Coords) : Fin 1 → Nat :=
  let arg0 : BitVec 32 := BitVec.ofNat 32 (i 0).val
  let v213 : Index := Scalar.indexCast arg0
  ![v213.toNat]
def k1_off2 (i : grid1.Coords) : Fin 1 → Nat :=
  let arg0 : BitVec 32 := BitVec.ofNat 32 (i 0).val
  let c1_i32 : BitVec 32 := 1#32
  let v215 : BitVec 32 := Scalar.addi arg0 c1_i32
  let v216 : Index := Scalar.indexCast v215
  ![v216.toNat]
@[reducible] def k1_t1_loop (v214 : BitVec 32) (v217 : BitVec 32) : Scf.Loop 32 :=
  let c0_i32_127 : BitVec 32 := 0#32
  let v219 : BitVec 1 := Scalar.cmpi .sgt v214 c0_i32_127
  let v220 : BitVec 32 := Scalar.extui v219
  let c0_i32_128 : BitVec 32 := 0#32
  let v221 : BitVec 1 := Scalar.cmpi .slt v214 c0_i32_128
  let v222 : BitVec 32 := Scalar.extui v221
  let v223 : BitVec 32 := Scalar.subi v220 v222
  let c256_i32 : BitVec 32 := 256#32
  let c0_i32_129 : BitVec 32 := 0#32
  let v224 : BitVec 1 := Scalar.cmpi .sgt c256_i32 c0_i32_129
  let v225 : BitVec 32 := Scalar.extui v224
  let c0_i32_130 : BitVec 32 := 0#32
  let v226 : BitVec 1 := Scalar.cmpi .slt c256_i32 c0_i32_130
  let v227 : BitVec 32 := Scalar.extui v226
  let v228 : BitVec 32 := Scalar.subi v225 v227
  let v229 : BitVec 1 := Scalar.cmpi .ne v223 v228
  let v230 : BitVec 32 := Scalar.remsi v214 c256_i32
  let c0_i32_131 : BitVec 32 := 0#32
  let v231 : BitVec 1 := Scalar.cmpi .ne v230 c0_i32_131
  let v232 : BitVec 1 := Scalar.andi v229 v231
  let v218 : BitVec 32 := Scalar.divsi v214 c256_i32
  let c1_i32_132 : BitVec 32 := 1#32
  let v233 : BitVec 32 := Scalar.subi v218 c1_i32_132
  let v234 : BitVec 32 := Scalar.select v232 v233 v218
  let v235 : BitVec 1 := Scalar.cmpi .sgt v217 v214
  let c255_i32 : BitVec 32 := 255#32
  let v236 : BitVec 32 := Scalar.addi v217 c255_i32
  let c256_i32_133 : BitVec 32 := 256#32
  let v237 : BitVec 32 := Scalar.divsi v236 c256_i32_133
  let v238 : BitVec 32 := Scalar.select v235 v237 v234
  let v239 : BitVec 32 := Scalar.subi v238 v234
  let c1_i32_135 : BitVec 32 := 1#32
  let v241 : BitVec 32 := Scalar.divsi v239 c1_i32_135
  let v242 : BitVec 32 := Scalar.muli v241 c1_i32_135
  let v243 : BitVec 32 := Scalar.addi v234 v242
  let c1_i32_136 : BitVec 32 := 1#32
  ⟨v234, v243, c1_i32_136⟩

def k1_off3 (v214 : BitVec 32) (v217 : BitVec 32) (k1_t1 : Fin (k1_t1_loop v214 v217).trips) : Fin 2 → Nat :=
  let c0_i32_127 : BitVec 32 := 0#32
  let v219 : BitVec 1 := Scalar.cmpi .sgt v214 c0_i32_127
  let v220 : BitVec 32 := Scalar.extui v219
  let c0_i32_128 : BitVec 32 := 0#32
  let v221 : BitVec 1 := Scalar.cmpi .slt v214 c0_i32_128
  let v222 : BitVec 32 := Scalar.extui v221
  let v223 : BitVec 32 := Scalar.subi v220 v222
  let c256_i32 : BitVec 32 := 256#32
  let c0_i32_129 : BitVec 32 := 0#32
  let v224 : BitVec 1 := Scalar.cmpi .sgt c256_i32 c0_i32_129
  let v225 : BitVec 32 := Scalar.extui v224
  let c0_i32_130 : BitVec 32 := 0#32
  let v226 : BitVec 1 := Scalar.cmpi .slt c256_i32 c0_i32_130
  let v227 : BitVec 32 := Scalar.extui v226
  let v228 : BitVec 32 := Scalar.subi v225 v227
  let v229 : BitVec 1 := Scalar.cmpi .ne v223 v228
  let v230 : BitVec 32 := Scalar.remsi v214 c256_i32
  let c0_i32_131 : BitVec 32 := 0#32
  let v231 : BitVec 1 := Scalar.cmpi .ne v230 c0_i32_131
  let v232 : BitVec 1 := Scalar.andi v229 v231
  let v218 : BitVec 32 := Scalar.divsi v214 c256_i32
  let c1_i32_132 : BitVec 32 := 1#32
  let v233 : BitVec 32 := Scalar.subi v218 c1_i32_132
  let v234 : BitVec 32 := Scalar.select v232 v233 v218
  let c1_i32_136 : BitVec 32 := 1#32
  let arg15 : BitVec 32 := Scf.iv v234 c1_i32_136 k1_t1
  let c256_i32_138 : BitVec 32 := 256#32
  let v244 : BitVec 32 := Scalar.muli arg15 c256_i32_138
  let c0_i32_139 : BitVec 32 := 0#32
  ![v244.toNat, 0]
def k1_off4 (v214 : BitVec 32) (v217 : BitVec 32) (k1_t1 : Fin (k1_t1_loop v214 v217).trips) : Fin 3 → Nat :=
  let c0_i32_127 : BitVec 32 := 0#32
  let v219 : BitVec 1 := Scalar.cmpi .sgt v214 c0_i32_127
  let v220 : BitVec 32 := Scalar.extui v219
  let c0_i32_128 : BitVec 32 := 0#32
  let v221 : BitVec 1 := Scalar.cmpi .slt v214 c0_i32_128
  let v222 : BitVec 32 := Scalar.extui v221
  let v223 : BitVec 32 := Scalar.subi v220 v222
  let c256_i32 : BitVec 32 := 256#32
  let c0_i32_129 : BitVec 32 := 0#32
  let v224 : BitVec 1 := Scalar.cmpi .sgt c256_i32 c0_i32_129
  let v225 : BitVec 32 := Scalar.extui v224
  let c0_i32_130 : BitVec 32 := 0#32
  let v226 : BitVec 1 := Scalar.cmpi .slt c256_i32 c0_i32_130
  let v227 : BitVec 32 := Scalar.extui v226
  let v228 : BitVec 32 := Scalar.subi v225 v227
  let v229 : BitVec 1 := Scalar.cmpi .ne v223 v228
  let v230 : BitVec 32 := Scalar.remsi v214 c256_i32
  let c0_i32_131 : BitVec 32 := 0#32
  let v231 : BitVec 1 := Scalar.cmpi .ne v230 c0_i32_131
  let v232 : BitVec 1 := Scalar.andi v229 v231
  let v218 : BitVec 32 := Scalar.divsi v214 c256_i32
  let c1_i32_132 : BitVec 32 := 1#32
  let v233 : BitVec 32 := Scalar.subi v218 c1_i32_132
  let v234 : BitVec 32 := Scalar.select v232 v233 v218
  let c1_i32_136 : BitVec 32 := 1#32
  let arg15 : BitVec 32 := Scf.iv v234 c1_i32_136 k1_t1
  let v250 : Index := Scalar.indexCast arg15
  let c0_141 : Index := 0#32
  let c0_142 : Index := 0#32
  ![v250.toNat, 0, 0]
@[reducible] def k1_t2_loop (v214 : BitVec 32) (v217 : BitVec 32) : Scf.Loop 32 :=
  let c0_i32_127 : BitVec 32 := 0#32
  let v219 : BitVec 1 := Scalar.cmpi .sgt v214 c0_i32_127
  let v220 : BitVec 32 := Scalar.extui v219
  let c0_i32_128 : BitVec 32 := 0#32
  let v221 : BitVec 1 := Scalar.cmpi .slt v214 c0_i32_128
  let v222 : BitVec 32 := Scalar.extui v221
  let v223 : BitVec 32 := Scalar.subi v220 v222
  let c256_i32 : BitVec 32 := 256#32
  let c0_i32_129 : BitVec 32 := 0#32
  let v224 : BitVec 1 := Scalar.cmpi .sgt c256_i32 c0_i32_129
  let v225 : BitVec 32 := Scalar.extui v224
  let c0_i32_130 : BitVec 32 := 0#32
  let v226 : BitVec 1 := Scalar.cmpi .slt c256_i32 c0_i32_130
  let v227 : BitVec 32 := Scalar.extui v226
  let v228 : BitVec 32 := Scalar.subi v225 v227
  let v229 : BitVec 1 := Scalar.cmpi .ne v223 v228
  let v230 : BitVec 32 := Scalar.remsi v214 c256_i32
  let c0_i32_131 : BitVec 32 := 0#32
  let v231 : BitVec 1 := Scalar.cmpi .ne v230 c0_i32_131
  let v232 : BitVec 1 := Scalar.andi v229 v231
  let v218 : BitVec 32 := Scalar.divsi v214 c256_i32
  let c1_i32_132 : BitVec 32 := 1#32
  let v233 : BitVec 32 := Scalar.subi v218 c1_i32_132
  let v234 : BitVec 32 := Scalar.select v232 v233 v218
  let v235 : BitVec 1 := Scalar.cmpi .sgt v217 v214
  let c255_i32 : BitVec 32 := 255#32
  let v236 : BitVec 32 := Scalar.addi v217 c255_i32
  let c256_i32_133 : BitVec 32 := 256#32
  let v237 : BitVec 32 := Scalar.divsi v236 c256_i32_133
  let v238 : BitVec 32 := Scalar.select v235 v237 v234
  let v239 : BitVec 32 := Scalar.subi v238 v234
  let c1_i32_135 : BitVec 32 := 1#32
  let v241 : BitVec 32 := Scalar.divsi v239 c1_i32_135
  let v242 : BitVec 32 := Scalar.muli v241 c1_i32_135
  let v243 : BitVec 32 := Scalar.addi v234 v242
  let v240 : BitVec 32 := Scalar.addi v234 v239
  let c1_i32_137 : BitVec 32 := 1#32
  ⟨v243, v240, c1_i32_137⟩
def k1_off5 (v214 : BitVec 32) (v217 : BitVec 32) (k1_t2 : Fin (k1_t2_loop v214 v217).trips) : Fin 2 → Nat :=
  let c0_i32_127 : BitVec 32 := 0#32
  let v219 : BitVec 1 := Scalar.cmpi .sgt v214 c0_i32_127
  let v220 : BitVec 32 := Scalar.extui v219
  let c0_i32_128 : BitVec 32 := 0#32
  let v221 : BitVec 1 := Scalar.cmpi .slt v214 c0_i32_128
  let v222 : BitVec 32 := Scalar.extui v221
  let v223 : BitVec 32 := Scalar.subi v220 v222
  let c256_i32 : BitVec 32 := 256#32
  let c0_i32_129 : BitVec 32 := 0#32
  let v224 : BitVec 1 := Scalar.cmpi .sgt c256_i32 c0_i32_129
  let v225 : BitVec 32 := Scalar.extui v224
  let c0_i32_130 : BitVec 32 := 0#32
  let v226 : BitVec 1 := Scalar.cmpi .slt c256_i32 c0_i32_130
  let v227 : BitVec 32 := Scalar.extui v226
  let v228 : BitVec 32 := Scalar.subi v225 v227
  let v229 : BitVec 1 := Scalar.cmpi .ne v223 v228
  let v230 : BitVec 32 := Scalar.remsi v214 c256_i32
  let c0_i32_131 : BitVec 32 := 0#32
  let v231 : BitVec 1 := Scalar.cmpi .ne v230 c0_i32_131
  let v232 : BitVec 1 := Scalar.andi v229 v231
  let v218 : BitVec 32 := Scalar.divsi v214 c256_i32
  let c1_i32_132 : BitVec 32 := 1#32
  let v233 : BitVec 32 := Scalar.subi v218 c1_i32_132
  let v234 : BitVec 32 := Scalar.select v232 v233 v218
  let v235 : BitVec 1 := Scalar.cmpi .sgt v217 v214
  let c255_i32 : BitVec 32 := 255#32
  let v236 : BitVec 32 := Scalar.addi v217 c255_i32
  let c256_i32_133 : BitVec 32 := 256#32
  let v237 : BitVec 32 := Scalar.divsi v236 c256_i32_133
  let v238 : BitVec 32 := Scalar.select v235 v237 v234
  let v239 : BitVec 32 := Scalar.subi v238 v234
  let c1_i32_135 : BitVec 32 := 1#32
  let v241 : BitVec 32 := Scalar.divsi v239 c1_i32_135
  let v242 : BitVec 32 := Scalar.muli v241 c1_i32_135
  let v243 : BitVec 32 := Scalar.addi v234 v242
  let c1_i32_137 : BitVec 32 := 1#32
  let arg15 : BitVec 32 := Scf.iv v243 c1_i32_137 k1_t2
  let c256_i32_138 : BitVec 32 := 256#32
  let v244 : BitVec 32 := Scalar.muli arg15 c256_i32_138
  let c0_i32_139 : BitVec 32 := 0#32
  ![v244.toNat, 0]
def k1_off6 (v214 : BitVec 32) (v217 : BitVec 32) (k1_t2 : Fin (k1_t2_loop v214 v217).trips) : Fin 3 → Nat :=
  let c0_i32_127 : BitVec 32 := 0#32
  let v219 : BitVec 1 := Scalar.cmpi .sgt v214 c0_i32_127
  let v220 : BitVec 32 := Scalar.extui v219
  let c0_i32_128 : BitVec 32 := 0#32
  let v221 : BitVec 1 := Scalar.cmpi .slt v214 c0_i32_128
  let v222 : BitVec 32 := Scalar.extui v221
  let v223 : BitVec 32 := Scalar.subi v220 v222
  let c256_i32 : BitVec 32 := 256#32
  let c0_i32_129 : BitVec 32 := 0#32
  let v224 : BitVec 1 := Scalar.cmpi .sgt c256_i32 c0_i32_129
  let v225 : BitVec 32 := Scalar.extui v224
  let c0_i32_130 : BitVec 32 := 0#32
  let v226 : BitVec 1 := Scalar.cmpi .slt c256_i32 c0_i32_130
  let v227 : BitVec 32 := Scalar.extui v226
  let v228 : BitVec 32 := Scalar.subi v225 v227
  let v229 : BitVec 1 := Scalar.cmpi .ne v223 v228
  let v230 : BitVec 32 := Scalar.remsi v214 c256_i32
  let c0_i32_131 : BitVec 32 := 0#32
  let v231 : BitVec 1 := Scalar.cmpi .ne v230 c0_i32_131
  let v232 : BitVec 1 := Scalar.andi v229 v231
  let v218 : BitVec 32 := Scalar.divsi v214 c256_i32
  let c1_i32_132 : BitVec 32 := 1#32
  let v233 : BitVec 32 := Scalar.subi v218 c1_i32_132
  let v234 : BitVec 32 := Scalar.select v232 v233 v218
  let v235 : BitVec 1 := Scalar.cmpi .sgt v217 v214
  let c255_i32 : BitVec 32 := 255#32
  let v236 : BitVec 32 := Scalar.addi v217 c255_i32
  let c256_i32_133 : BitVec 32 := 256#32
  let v237 : BitVec 32 := Scalar.divsi v236 c256_i32_133
  let v238 : BitVec 32 := Scalar.select v235 v237 v234
  let v239 : BitVec 32 := Scalar.subi v238 v234
  let c1_i32_135 : BitVec 32 := 1#32
  let v241 : BitVec 32 := Scalar.divsi v239 c1_i32_135
  let v242 : BitVec 32 := Scalar.muli v241 c1_i32_135
  let v243 : BitVec 32 := Scalar.addi v234 v242
  let c1_i32_137 : BitVec 32 := 1#32
  let arg15 : BitVec 32 := Scf.iv v243 c1_i32_137 k1_t2
  let v250 : Index := Scalar.indexCast arg15
  let c0_141 : Index := 0#32
  let c0_142 : Index := 0#32
  ![v250.toNat, 0, 0]

def k1_chk1 (i : grid1.Coords) (v214 : BitVec 32) (v217 : BitVec 32) : Prop :=
  (∀ (k1_h1 : k1_cond1 i = 1#1), (k1_t1_loop v214 v217).OK) ∧
  (∀ k1_t1 : Fin (k1_t1_loop v214 v217).trips, ∀ (k1_h1 : k1_cond1 i = 1#1), ∀ a, (k1_off3 v214 v217 k1_t1) a + S256x4096.size a ≤ S16384x4096.size a) ∧
  (∀ k1_t1 : Fin (k1_t1_loop v214 v217).trips, ∀ (k1_h1 : k1_cond1 i = 1#1), ∀ (hinb : ∀ a, (k1_off3 v214 v217 k1_t1) a + S256x4096.size a ≤ S16384x4096.size a), (Rect.unit (s := S16384x4096) (k1_off3 v214 v217 k1_t1) S256x4096.size hinb).WholeWords (EltTy.packing .fp8e5m2)) ∧
  (∀ k1_t1 : Fin (k1_t1_loop v214 v217).trips, ∀ (k1_h1 : k1_cond1 i = 1#1), ∀ a, (k1_off4 v214 v217 k1_t1) a + S1x1x256.size a ≤ S64x1x256.size a) ∧
  (∀ (k1_h1 : k1_cond1 i = 1#1), (k1_t2_loop v214 v217).OK) ∧
  (∀ k1_t2 : Fin (k1_t2_loop v214 v217).trips, ∀ (k1_h1 : k1_cond1 i = 1#1), ∀ a, (k1_off5 v214 v217 k1_t2) a + S256x4096.size a ≤ S16384x4096.size a) ∧
  (∀ k1_t2 : Fin (k1_t2_loop v214 v217).trips, ∀ (k1_h1 : k1_cond1 i = 1#1), ∀ (hinb : ∀ a, (k1_off5 v214 v217 k1_t2) a + S256x4096.size a ≤ S16384x4096.size a), (Rect.unit (s := S16384x4096) (k1_off5 v214 v217 k1_t2) S256x4096.size hinb).WholeWords (EltTy.packing .fp8e5m2)) ∧
  (∀ k1_t2 : Fin (k1_t2_loop v214 v217).trips, ∀ (k1_h1 : k1_cond1 i = 1#1), ∀ a, (k1_off6 v214 v217 k1_t2) a + S1x1x256.size a ≤ S64x1x256.size a)
theorem k1_t1_ok : ∀ (i : grid1.Coords) (v214 : BitVec 32) (v217 : BitVec 32) (k1_hw1 : k1_chk1 i v214 v217), ∀ (k1_h1 : k1_cond1 i = 1#1), (k1_t1_loop v214 v217).OK := fun i v214 v217 k1_hw1 k1_h1 => k1_hw1.1 k1_h1
theorem k1_off3_inb : ∀ (i : grid1.Coords) (v214 : BitVec 32) (v217 : BitVec 32) (k1_hw1 : k1_chk1 i v214 v217) (k1_t1 : Fin (k1_t1_loop v214 v217).trips), ∀ (k1_h1 : k1_cond1 i = 1#1), ∀ a, (k1_off3 v214 v217 k1_t1) a + S256x4096.size a ≤ S16384x4096.size a := fun i v214 v217 k1_hw1 k1_t1 k1_h1 => k1_hw1.2.1 k1_t1 k1_h1
theorem k1_off3_wordsfp8e5m2 : ∀ (i : grid1.Coords) (v214 : BitVec 32) (v217 : BitVec 32) (k1_hw1 : k1_chk1 i v214 v217) (k1_t1 : Fin (k1_t1_loop v214 v217).trips), ∀ (k1_h1 : k1_cond1 i = 1#1), (Rect.unit (s := S16384x4096) (k1_off3 v214 v217 k1_t1) S256x4096.size (k1_off3_inb i v214 v217 k1_hw1 k1_t1 k1_h1)).WholeWords (EltTy.packing .fp8e5m2) := fun i v214 v217 k1_hw1 k1_t1 k1_h1 => k1_hw1.2.2.1 k1_t1 k1_h1 (k1_off3_inb i v214 v217 k1_hw1 k1_t1 k1_h1)
theorem k1_off4_inb : ∀ (i : grid1.Coords) (v214 : BitVec 32) (v217 : BitVec 32) (k1_hw1 : k1_chk1 i v214 v217) (k1_t1 : Fin (k1_t1_loop v214 v217).trips), ∀ (k1_h1 : k1_cond1 i = 1#1), ∀ a, (k1_off4 v214 v217 k1_t1) a + S1x1x256.size a ≤ S64x1x256.size a := fun i v214 v217 k1_hw1 k1_t1 k1_h1 => k1_hw1.2.2.2.1 k1_t1 k1_h1
theorem k1_t2_ok : ∀ (i : grid1.Coords) (v214 : BitVec 32) (v217 : BitVec 32) (k1_hw1 : k1_chk1 i v214 v217), ∀ (k1_h1 : k1_cond1 i = 1#1), (k1_t2_loop v214 v217).OK := fun i v214 v217 k1_hw1 k1_h1 => k1_hw1.2.2.2.2.1 k1_h1
theorem k1_off5_inb : ∀ (i : grid1.Coords) (v214 : BitVec 32) (v217 : BitVec 32) (k1_hw1 : k1_chk1 i v214 v217) (k1_t2 : Fin (k1_t2_loop v214 v217).trips), ∀ (k1_h1 : k1_cond1 i = 1#1), ∀ a, (k1_off5 v214 v217 k1_t2) a + S256x4096.size a ≤ S16384x4096.size a := fun i v214 v217 k1_hw1 k1_t2 k1_h1 => k1_hw1.2.2.2.2.2.1 k1_t2 k1_h1
theorem k1_off5_wordsfp8e5m2 : ∀ (i : grid1.Coords) (v214 : BitVec 32) (v217 : BitVec 32) (k1_hw1 : k1_chk1 i v214 v217) (k1_t2 : Fin (k1_t2_loop v214 v217).trips), ∀ (k1_h1 : k1_cond1 i = 1#1), (Rect.unit (s := S16384x4096) (k1_off5 v214 v217 k1_t2) S256x4096.size (k1_off5_inb i v214 v217 k1_hw1 k1_t2 k1_h1)).WholeWords (EltTy.packing .fp8e5m2) := fun i v214 v217 k1_hw1 k1_t2 k1_h1 => k1_hw1.2.2.2.2.2.2.1 k1_t2 k1_h1 (k1_off5_inb i v214 v217 k1_hw1 k1_t2 k1_h1)
theorem k1_off6_inb : ∀ (i : grid1.Coords) (v214 : BitVec 32) (v217 : BitVec 32) (k1_hw1 : k1_chk1 i v214 v217) (k1_t2 : Fin (k1_t2_loop v214 v217).trips), ∀ (k1_h1 : k1_cond1 i = 1#1), ∀ a, (k1_off6 v214 v217 k1_t2) a + S1x1x256.size a ≤ S64x1x256.size a := fun i v214 v217 k1_hw1 k1_t2 k1_h1 => k1_hw1.2.2.2.2.2.2.2 k1_t2 k1_h1

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x4096 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S64x1x256 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x2048x20480 : Shape := ⟨3, ![8, 2048, 20480]⟩
abbrev S8x2048 : Shape := ⟨2, ![8, 2048]⟩
abbrev S8x2048x4096 : Shape := ⟨3, ![8, 2048, 4096]⟩
abbrev S16384x4096 : Shape := ⟨2, ![16384, 4096]⟩
abbrev S16384 : Shape := ⟨1, ![16384]⟩
abbrev S_ : Shape := ⟨0, ![]⟩
abbrev S8x2048x1 : Shape := ⟨3, ![8, 2048, 1]⟩
abbrev S1x1x20480 : Shape := ⟨3, ![1, 1, 20480]⟩
abbrev S20480x4096 : Shape := ⟨2, ![20480, 4096]⟩
abbrev S16384x1 : Shape := ⟨2, ![16384, 1]⟩

abbrev nBuf : Space → Nat
  | .hbm => 52
  | .vmem => 4
  | .smem => 0
  | _ => 0

abbrev bufTy : (tb : Table) → Fin (tcTables nBuf tb) → BufTy
  | .hbm, ⟨0, _⟩ => ⟨S8x2048x20480, .bf16⟩
  | .hbm, ⟨1, _⟩ => ⟨S8x2048, .i32⟩
  | .hbm, ⟨2, _⟩ => ⟨S8x2048x4096, .fp8e4m3⟩
  | .hbm, ⟨3, _⟩ => ⟨S8x2048, .f32⟩
  | .hbm, ⟨4, _⟩ => ⟨S16384x4096, .fp8e5m2⟩
  | .hbm, ⟨5, _⟩ => ⟨S16384, .f32⟩
  | .hbm, ⟨6, _⟩ => ⟨S16384, .i32⟩
  | .hbm, ⟨7, _⟩ => ⟨S8x2048x20480, .f32⟩
  | .hbm, ⟨8, _⟩ => ⟨S_, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048x1, .f32⟩
  | .hbm, ⟨14, _⟩ => ⟨S8x2048x20480, .f32⟩
  | .hbm, ⟨15, _⟩ => ⟨S8x2048x20480, .f32⟩
  | .hbm, ⟨16, _⟩ => ⟨S8x2048x20480, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S8x2048x20480, .f32⟩
  | .hbm, ⟨21, _⟩ => ⟨S8x2048x20480, .f32⟩
  | .hbm, ⟨22, _⟩ => ⟨S_, .i32⟩
  | .hbm, ⟨23, _⟩ => ⟨S8x2048, .i32⟩
  | .hbm, ⟨24, _⟩ => ⟨S8x2048, .i1⟩
  | .hbm, ⟨25, _⟩ => ⟨S8x2048x1, .i32⟩
  | .hbm, ⟨26, _⟩ => ⟨S1x1x20480, .i32⟩
  | .hbm, ⟨27, _⟩ => ⟨S8x2048x20480, .i32⟩
  | .hbm, ⟨28, _⟩ => ⟨S8x2048x20480, .i32⟩
  | .hbm, ⟨29, _⟩ => ⟨S8x2048x20480, .i1⟩
  | .hbm, ⟨30, _⟩ => ⟨S8x2048x20480, .f32⟩
  | .hbm, ⟨31, _⟩ => ⟨S8x2048x20480, .f32⟩
  | .hbm, ⟨32, _⟩ => ⟨S8x2048x1, .i1⟩
  | .hbm, ⟨33, _⟩ => ⟨S8x2048x1, .f32⟩
  | .hbm, ⟨34, _⟩ => ⟨S8x2048x20480, .f32⟩
  | .hbm, ⟨35, _⟩ => ⟨S8x2048x20480, .f32⟩
  | .hbm, ⟨36, _⟩ => ⟨S8x2048x20480, .bf16⟩
  | .hbm, ⟨37, _⟩ => ⟨S8x2048x4096, .bf16⟩
  | .hbm, ⟨38, _⟩ => ⟨S16384x4096, .f32⟩
  | .hbm, ⟨39, _⟩ => ⟨S8x2048, .bf16⟩
  | .hbm, ⟨40, _⟩ => ⟨S8x2048x1, .bf16⟩
  | .hbm, ⟨41, _⟩ => ⟨S8x2048x4096, .bf16⟩
  | .hbm, ⟨42, _⟩ => ⟨S8x2048x4096, .bf16⟩
  | .hbm, ⟨43, _⟩ => ⟨S20480x4096, .f32⟩
  | .hbm, ⟨44, _⟩ => ⟨S16384x1, .f32⟩
  | .hbm, ⟨45, _⟩ => ⟨S16384x4096, .f32⟩
  | .hbm, ⟨46, _⟩ => ⟨S16384x4096, .f32⟩
  | .hbm, ⟨47, _⟩ => ⟨S_, .f32⟩
  | .hbm, ⟨48, _⟩ => ⟨S20480x4096, .f32⟩
  | .hbm, ⟨49, _⟩ => ⟨S16384x1, .i32⟩
  | .hbm, ⟨50, _⟩ => ⟨S20480x4096, .f32⟩
  | .hbm, ⟨51, _⟩ => ⟨S20480x4096, .f32⟩
  | .local _ .vmem, ⟨0, _⟩ => ⟨S8x2048x4096, .fp8e4m3⟩
  | .local _ .vmem, ⟨1, _⟩ => ⟨S16384x4096, .fp8e5m2⟩
  | .local _ .vmem, ⟨2, _⟩ => ⟨S8x2048x4096, .bf16⟩
  | .local _ .vmem, ⟨3, _⟩ => ⟨S16384x4096, .f32⟩
  | _, _ => ⟨S8x2048x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x2048x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x4096 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.RunCond.lean ====
/-
  The whole run, given what each of its two kernels leaves: the arguments are unchanged and the result is the second
  kernel's.
-/
module

public import proofs.«01_k».proof.Proof.Gen.KernelIdeal.Regions

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

variable (m : (ℓ : Loc nD τ sig) → Buf (Elt F) ℓ)

-- `θ_run_regions_kit_dev_sems`'s implicit arguments are found by unifying its conclusion with this one, which takes unfolding
-- plain definitions in a metavariable's type
set_option backward.isDefEq.respectTransparency.types false in
/-- The run of the whole program, given each region's record: the arguments end as launched, the result holds what the
    second region leaves, every counter is at zero. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v17) = outs 4 main_v17 c)
      ∧ r.2.sem = fun _ => 0) := by
  refine Pipeline.θ_run_regions_kit_dev_sems (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_v17) = outs 4 main_v17 c)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c),
        (h (Proc.devRef .tc main_arg4) (Finset.mem_filter.mpr ⟨StableHlo.devRef_mem_tcRefs main_arg4, by decide⟩)).trans (V4_main_arg4 m outs c),
        (h (Proc.devRef .tc main_arg5) (Finset.mem_filter.mpr ⟨StableHlo.devRef_mem_tcRefs main_arg5, by decide⟩)).trans (V4_main_arg5 m outs c),
        (h (Proc.devRef .tc main_arg6) (Finset.mem_filter.mpr ⟨StableHlo.devRef_mem_tcRefs main_arg6, by decide⟩)).trans (V4_main_arg6 m outs c),
        (h (Proc.devRef .tc main_v17) (Finset.mem_filter.mpr ⟨StableHlo.devRef_mem_tcRefs main_v17, by decide⟩)).trans (by simp only [V4, Function.update_self])⟩
    · iexact HSI

end Cert.KernelIdeal.Hand

end
-- ==== Proof.StatsLoops.lean ====
/-
  The sixteen counted loops of the statistics kernel, each by an invariant: the block of logits is only read, and
  the value carried is the fold of the trips run so far (`fold`), each trip applying the loop's own step to the
  128 columns it loads. The loops come in pairs, one pair for each group of 16 rows: the first takes the running
  maximum over the column groups 1..159, the second adds up the exponentials over the column groups 0..159.
-/
module

public import proofs.«01_k».proof.Proof.Gen.KernelIdeal.Loops
public import Idealize.ShloMosaic.Lib.Pipeline.FrameBody
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The 16 rows and 128 columns of the block that start at the offset `o`. -/
abbrev slice (arg1 : Memref sig .tc .vmem S128x20480 .bf16) (X : BufTy.Contents (Elt F) arg1.view.ty) (o : Fin 2 → ℕ)
    (h : ∀ a, o a + S16x128.size a ≤ S128x20480.size a) : Vec F S16x128 .bf16 :=
  View.readAt (Elt F) arg1.view (Rect.unit (s := S128x20480) o S16x128.size h).toLoadRect X

/-- The value carried after `k` trips of a counted loop of `n` trips with step `f`, from `a`. -/
@[reducible] def fold {α : Type} (n : ℕ) (f : Fin n → α → α) (a : α) (k : ℕ) : α :=
  Nat.rec a (fun k b => if h : k < n then f ⟨k, h⟩ b else b) k

theorem fold_succ {α : Type} (n : ℕ) (f : Fin n → α → α) (a : α) (k : Fin n) :
    fold n f a (k.val + 1) = f k (fold n f a k.val) := dif_pos k.isLt

set_option warn.classDefReducibility false in
/-- The running maximum over the column groups, rows 0 to 15. -/
@[sl_loop] def loop1 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (X : BufTy.Contents (Elt F) arg1.view.ty) (init : FVec F S16x128 .bf16) :
    LoopInvTy_k0_t1 (F := F) Unit ℕ U ℕ 𝒱 c bd E i arg1 harg1 arg2 harg2 init where
  inv k acc := iprop((arg1.view.loc (c : Thread nD τ) ↦[arg1.view.set]{fullShare} X)
    ∗ ⌜acc = fold _ (fun k a => k0_pay11 a (slice arg1 X (k0_off1 k) (k0_off1_inb k))) init k⌝)
  step k acc := by
    iintro ⟨H, %h⟩
    subst h
    unfold k0_t1_body
    sl_exec
    sl_step
    isplitl [H]
    · iexact H
    ipureintro
    exact (fold_succ _ (fun k a => k0_pay11 a (slice arg1 X (k0_off1 k) (k0_off1_inb k))) init k).symm

set_option warn.classDefReducibility false in
/-- The sum of exponentials over the column groups, rows 0 to 15. -/
@[sl_loop] def loop2 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v3 : FVec F S16x128 .bf16) (X : BufTy.Contents (Elt F) arg1.view.ty) (init : FVec F S16x128 .f32) :
    LoopInvTy_k0_t2 (F := F) Unit ℕ U ℕ 𝒱 c bd E i arg1 harg1 arg2 harg2 v3 init where
  inv k acc := iprop((arg1.view.loc (c : Thread nD τ) ↦[arg1.view.set]{fullShare} X)
    ∗ ⌜acc = fold _ (fun k a => k0_pay14 v3 a (slice arg1 X (k0_off2 k) (k0_off2_inb k))) init k⌝)
  step k acc := by
    iintro ⟨H, %h⟩
    subst h
    unfold k0_t2_body
    sl_exec
    sl_step
    isplitl [H]
    · iexact H
    ipureintro
    exact (fold_succ _ (fun k a => k0_pay14 v3 a (slice arg1 X (k0_off2 k) (k0_off2_inb k))) init k).symm

set_option warn.classDefReducibility false in
/-- The running maximum over the column groups, rows 16 to 31. -/
@[sl_loop] def loop3 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (X : BufTy.Contents (Elt F) arg1.view.ty) (init : FVec F S16x128 .bf16) :
    LoopInvTy_k0_t3 (F := F) Unit ℕ U ℕ 𝒱 c bd E i arg1 harg1 arg2 harg2 init where
  inv k acc := iprop((arg1.view.loc (c : Thread nD τ) ↦[arg1.view.set]{fullShare} X)
    ∗ ⌜acc = fold _ (fun k a => k0_pay19 a (slice arg1 X (k0_off3 k) (k0_off3_inb k))) init k⌝)
  step k acc := by
    iintro ⟨H, %h⟩
    subst h
    unfold k0_t3_body
    sl_exec
    sl_step
    isplitl [H]
    · iexact H
    ipureintro
    exact (fold_succ _ (fun k a => k0_pay19 a (slice arg1 X (k0_off3 k) (k0_off3_inb k))) init k).symm

set_option warn.classDefReducibility false in
/-- The sum of exponentials over the column groups, rows 16 to 31. -/
@[sl_loop] def loop4 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v30 : FVec F S16x1 .f32) (cst_17 : F .f32) (X : BufTy.Contents (Elt F) arg1.view.ty) (init : FVec F S16x128 .f32) :
    LoopInvTy_k0_t4 (F := F) Unit ℕ U ℕ 𝒱 c bd E i arg1 harg1 arg2 harg2 v30 cst_17 init where
  inv k acc := iprop((arg1.view.loc (c : Thread nD τ) ↦[arg1.view.set]{fullShare} X)
    ∗ ⌜acc = fold _ (fun k a => k0_pay22 v30 a (slice arg1 X (k0_off4 k) (k0_off4_inb k))) init k⌝)
  step k acc := by
    iintro ⟨H, %h⟩
    subst h
    unfold k0_t4_body
    sl_exec
    sl_step
    isplitl [H]
    · iexact H
    ipureintro
    exact (fold_succ _ (fun k a => k0_pay22 v30 a (slice arg1 X (k0_off4 k) (k0_off4_inb k))) init k).symm

set_option warn.classDefReducibility false in
/-- The running maximum over the column groups, rows 32 to 47. -/
@[sl_loop] def loop5 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v30 : FVec F S16x1 .f32) (cst_17 : F .f32) (X : BufTy.Contents (Elt F) arg1.view.ty) (init : FVec F S16x128 .bf16) :
    LoopInvTy_k0_t5 (F := F) Unit ℕ U ℕ 𝒱 c bd E i arg1 harg1 arg2 harg2 v30 cst_17 init where
  inv k acc := iprop((arg1.view.loc (c : Thread nD τ) ↦[arg1.view.set]{fullShare} X)
    ∗ ⌜acc = fold _ (fun k a => k0_pay27 a (slice arg1 X (k0_off5 k) (k0_off5_inb k))) init k⌝)
  step k acc := by
    iintro ⟨H, %h⟩
    subst h
    unfold k0_t5_body
    sl_exec
    sl_step
    isplitl [H]
    · iexact H
    ipureintro
    exact (fold_succ _ (fun k a => k0_pay27 a (slice arg1 X (k0_off5 k) (k0_off5_inb k))) init k).symm

set_option warn.classDefReducibility false in
/-- The sum of exponentials over the column groups, rows 32 to 47. -/
@[sl_loop] def loop6 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v30 : FVec F S16x1 .f32) (cst_17 : F .f32) (v51 : FVec F S16x128 .bf16) (X : BufTy.Contents (Elt F) arg1.view.ty) (init : FVec F S16x128 .f32) :
    LoopInvTy_k0_t6 (F := F) Unit ℕ U ℕ 𝒱 c bd E i arg1 harg1 arg2 harg2 v30 cst_17 v51 init where
  inv k acc := iprop((arg1.view.loc (c : Thread nD τ) ↦[arg1.view.set]{fullShare} X)
    ∗ ⌜acc = fold _ (fun k a => k0_pay30 v51 a (slice arg1 X (k0_off6 k) (k0_off6_inb k))) init k⌝)
  step k acc := by
    iintro ⟨H, %h⟩
    subst h
    unfold k0_t6_body
    sl_exec
    sl_step
    isplitl [H]
    · iexact H
    ipureintro
    exact (fold_succ _ (fun k a => k0_pay30 v51 a (slice arg1 X (k0_off6 k) (k0_off6_inb k))) init k).symm

set_option warn.classDefReducibility false in
/-- The running maximum over the column groups, rows 48 to 63. -/
@[sl_loop] def loop7 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v61 : FVec F S16x128 .f32) (v64 : FVec F S16x1 .f32) (X : BufTy.Contents (Elt F) arg1.view.ty) (init : FVec F S16x128 .bf16) :
    LoopInvTy_k0_t7 (F := F) Unit ℕ U ℕ 𝒱 c bd E i arg1 harg1 arg2 harg2 v61 v64 init where
  inv k acc := iprop((arg1.view.loc (c : Thread nD τ) ↦[arg1.view.set]{fullShare} X)
    ∗ ⌜acc = fold _ (fun k a => k0_pay37 a (slice arg1 X (k0_off7 k) (k0_off7_inb k))) init k⌝)
  step k acc := by
    iintro ⟨H, %h⟩
    subst h
    unfold k0_t7_body
    sl_exec
    sl_step
    isplitl [H]
    · iexact H
    ipureintro
    exact (fold_succ _ (fun k a => k0_pay37 a (slice arg1 X (k0_off7 k) (k0_off7_inb k))) init k).symm

set_option warn.classDefReducibility false in
/-- The sum of exponentials over the column groups, rows 48 to 63. -/
@[sl_loop] def loop8 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v61 : FVec F S16x128 .f32) (v64 : FVec F S16x1 .f32) (v75 : FVec F S16x128 .bf16) (X : BufTy.Contents (Elt F) arg1.view.ty) (init : FVec F S16x128 .f32) :
    LoopInvTy_k0_t8 (F := F) Unit ℕ U ℕ 𝒱 c bd E i arg1 harg1 arg2 harg2 v61 v64 v75 init where
  inv k acc := iprop((arg1.view.loc (c : Thread nD τ) ↦[arg1.view.set]{fullShare} X)
    ∗ ⌜acc = fold _ (fun k a => k0_pay40 v75 a (slice arg1 X (k0_off8 k) (k0_off8_inb k))) init k⌝)
  step k acc := by
    iintro ⟨H, %h⟩
    subst h
    unfold k0_t8_body
    sl_exec
    sl_step
    isplitl [H]
    · iexact H
    ipureintro
    exact (fold_succ _ (fun k a => k0_pay40 v75 a (slice arg1 X (k0_off8 k) (k0_off8_inb k))) init k).symm

set_option warn.classDefReducibility false in
/-- The running maximum over the column groups, rows 64 to 79. -/
@[sl_loop] def loop9 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v96 : Vec F S16x128 .bf16) (X : BufTy.Contents (Elt F) arg1.view.ty) (init : FVec F S16x128 .bf16) :
    LoopInvTy_k0_t9 (F := F) Unit ℕ U ℕ 𝒱 c bd E i arg1 harg1 arg2 harg2 v96 init where
  inv k acc := iprop((arg1.view.loc (c : Thread nD τ) ↦[arg1.view.set]{fullShare} X)
    ∗ ⌜acc = fold _ (fun k a => k0_pay45 a (slice arg1 X (k0_off9 k) (k0_off9_inb k))) init k⌝)
  step k acc := by
    iintro ⟨H, %h⟩
    subst h
    unfold k0_t9_body
    sl_exec
    sl_step
    isplitl [H]
    · iexact H
    ipureintro
    exact (fold_succ _ (fun k a => k0_pay45 a (slice arg1 X (k0_off9 k) (k0_off9_inb k))) init k).symm

set_option warn.classDefReducibility false in
/-- The sum of exponentials over the column groups, rows 64 to 79. -/
@[sl_loop] def loop10 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v96 : Vec F S16x128 .bf16) (v99 : FVec F S16x128 .bf16) (X : BufTy.Contents (Elt F) arg1.view.ty) (init : FVec F S16x128 .f32) :
    LoopInvTy_k0_t10 (F := F) Unit ℕ U ℕ 𝒱 c bd E i arg1 harg1 arg2 harg2 v96 v99 init where
  inv k acc := iprop((arg1.view.loc (c : Thread nD τ) ↦[arg1.view.set]{fullShare} X)
    ∗ ⌜acc = fold _ (fun k a => k0_pay48 v99 a (slice arg1 X (k0_off10 k) (k0_off10_inb k))) init k⌝)
  step k acc := by
    iintro ⟨H, %h⟩
    subst h
    unfold k0_t10_body
    sl_exec
    sl_step
    isplitl [H]
    · iexact H
    ipureintro
    exact (fold_succ _ (fun k a => k0_pay48 v99 a (slice arg1 X (k0_off10 k) (k0_off10_inb k))) init k).symm

set_option warn.classDefReducibility false in
/-- The running maximum over the column groups, rows 80 to 95. -/
@[sl_loop] def loop11 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v96 : Vec F S16x128 .bf16) (X : BufTy.Contents (Elt F) arg1.view.ty) (init : FVec F S16x128 .bf16) :
    LoopInvTy_k0_t11 (F := F) Unit ℕ U ℕ 𝒱 c bd E i arg1 harg1 arg2 harg2 v96 init where
  inv k acc := iprop((arg1.view.loc (c : Thread nD τ) ↦[arg1.view.set]{fullShare} X)
    ∗ ⌜acc = fold _ (fun k a => k0_pay53 a (slice arg1 X (k0_off11 k) (k0_off11_inb k))) init k⌝)
  step k acc := by
    iintro ⟨H, %h⟩
    subst h
    unfold k0_t11_body
    sl_exec
    sl_step
    isplitl [H]
    · iexact H
    ipureintro
    exact (fold_succ _ (fun k a => k0_pay53 a (slice arg1 X (k0_off11 k) (k0_off11_inb k))) init k).symm

set_option warn.classDefReducibility false in
/-- The sum of exponentials over the column groups, rows 80 to 95. -/
@[sl_loop] def loop12 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v126 : FVec F S16x1 .f32) (v127 : FVec F S16x128 .f32) (c0_i32_86 : BitVec 32) (X : BufTy.Contents (Elt F) arg1.view.ty) (init : FVec F S16x128 .f32) :
    LoopInvTy_k0_t12 (F := F) Unit ℕ U ℕ 𝒱 c bd E i arg1 harg1 arg2 harg2 v126 v127 c0_i32_86 init where
  inv k acc := iprop((arg1.view.loc (c : Thread nD τ) ↦[arg1.view.set]{fullShare} X)
    ∗ ⌜acc = fold _ (fun k a => k0_pay56 v126 a (slice arg1 X (k0_off12 k) (k0_off12_inb k))) init k⌝)
  step k acc := by
    iintro ⟨H, %h⟩
    subst h
    unfold k0_t12_body
    sl_exec
    sl_step
    isplitl [H]
    · iexact H
    ipureintro
    exact (fold_succ _ (fun k a => k0_pay56 v126 a (slice arg1 X (k0_off12 k) (k0_off12_inb k))) init k).symm

set_option warn.classDefReducibility false in
/-- The running maximum over the column groups, rows 96 to 111. -/
@[sl_loop] def loop13 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v126 : FVec F S16x1 .f32) (v127 : FVec F S16x128 .f32) (c0_i32_86 : BitVec 32) (X : BufTy.Contents (Elt F) arg1.view.ty) (init : FVec F S16x128 .bf16) :
    LoopInvTy_k0_t13 (F := F) Unit ℕ U ℕ 𝒱 c bd E i arg1 harg1 arg2 harg2 v126 v127 c0_i32_86 init where
  inv k acc := iprop((arg1.view.loc (c : Thread nD τ) ↦[arg1.view.set]{fullShare} X)
    ∗ ⌜acc = fold _ (fun k a => k0_pay61 a (slice arg1 X (k0_off13 k) (k0_off13_inb k))) init k⌝)
  step k acc := by
    iintro ⟨H, %h⟩
    subst h
    unfold k0_t13_body
    sl_exec
    sl_step
    isplitl [H]
    · iexact H
    ipureintro
    exact (fold_succ _ (fun k a => k0_pay61 a (slice arg1 X (k0_off13 k) (k0_off13_inb k))) init k).symm

set_option warn.classDefReducibility false in
/-- The sum of exponentials over the column groups, rows 96 to 111. -/
@[sl_loop] def loop14 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v126 : FVec F S16x1 .f32) (v127 : FVec F S16x128 .f32) (c0_i32_86 : BitVec 32) (v147 : FVec F S16x128 .bf16) (X : BufTy.Contents (Elt F) arg1.view.ty) (init : FVec F S16x128 .f32) :
    LoopInvTy_k0_t14 (F := F) Unit ℕ U ℕ 𝒱 c bd E i arg1 harg1 arg2 harg2 v126 v127 c0_i32_86 v147 init where
  inv k acc := iprop((arg1.view.loc (c : Thread nD τ) ↦[arg1.view.set]{fullShare} X)
    ∗ ⌜acc = fold _ (fun k a => k0_pay64 v147 a (slice arg1 X (k0_off14 k) (k0_off14_inb k))) init k⌝)
  step k acc := by
    iintro ⟨H, %h⟩
    subst h
    unfold k0_t14_body
    sl_exec
    sl_step
    isplitl [H]
    · iexact H
    ipureintro
    exact (fold_succ _ (fun k a => k0_pay64 v147 a (slice arg1 X (k0_off14 k) (k0_off14_inb k))) init k).symm

set_option warn.classDefReducibility false in
/-- The running maximum over the column groups, rows 112 to 127. -/
@[sl_loop] def loop15 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (X : BufTy.Contents (Elt F) arg1.view.ty) (init : FVec F S16x128 .bf16) :
    LoopInvTy_k0_t15 (F := F) Unit ℕ U ℕ 𝒱 c bd E i arg1 harg1 arg2 harg2 init where
  inv k acc := iprop((arg1.view.loc (c : Thread nD τ) ↦[arg1.view.set]{fullShare} X)
    ∗ ⌜acc = fold _ (fun k a => k0_pay3 a (slice arg1 X (k0_off15 k) (k0_off15_inb k))) init k⌝)
  step k acc := by
    iintro ⟨H, %h⟩
    subst h
    unfold k0_t15_body
    sl_exec
    sl_step
    isplitl [H]
    · iexact H
    ipureintro
    exact (fold_succ _ (fun k a => k0_pay3 a (slice arg1 X (k0_off15 k) (k0_off15_inb k))) init k).symm

set_option warn.classDefReducibility false in
/-- The sum of exponentials over the column groups, rows 112 to 127. -/
@[sl_loop] def loop16 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v171 : FVec F S16x128 .bf16) (X : BufTy.Contents (Elt F) arg1.view.ty) (init : FVec F S16x128 .f32) :
    LoopInvTy_k0_t16 (F := F) Unit ℕ U ℕ 𝒱 c bd E i arg1 harg1 arg2 harg2 v171 init where
  inv k acc := iprop((arg1.view.loc (c : Thread nD τ) ↦[arg1.view.set]{fullShare} X)
    ∗ ⌜acc = fold _ (fun k a => k0_pay6 v171 a (slice arg1 X (k0_off16 k) (k0_off16_inb k))) init k⌝)
  step k acc := by
    iintro ⟨H, %h⟩
    subst h
    unfold k0_t16_body
    sl_exec
    sl_step
    isplitl [H]
    · iexact H
    ipureintro
    exact (fold_succ _ (fun k a => k0_pay6 v171 a (slice arg1 X (k0_off16 k) (k0_off16_inb k))) init k).symm

end Cert.KernelIdeal.Hand

end
-- ==== Proof.StatsRun.lean ====
/-
  The statistics kernel's body on one block of 128 rows of logits: what it stores.
-/
module

public import proofs.«01_k».proof.Proof.StatsLoops
public import proofs.«01_k».proof.Proof.Gen.KernelIdeal.Points
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 1040000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def statsRun (c : Dev nD) (i : grid0.Coords) (arg1 : Memref sig .tc .vmem S128x20480 .bf16) (harg1 : arg1.IsWhole) (arg2 : Memref sig .tc .vmem S2x128 .f32) (harg2 : arg2.IsWhole)
    (x0 : Vec F S128x20480 .bf16) :
    { L1 : List (View.Piece (Elt F) S2x128 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0_stats i arg1 harg1 arg2 harg2) K } := by
  refine ⟨?_, fun E K => ?run⟩
  case run =>
    simp only [cc0_stats_eq_skeleton]; unfold cc0_stats_skel
    simp only [k0_part1_eq_skeleton, k0_part2_eq_skeleton, k0_part3_eq_skeleton, k0_part4_eq_skeleton, k0_part5_eq_skeleton]
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

end Cert.KernelIdeal.Hand

end
-- ==== Proof.StatsRegion.lean ====
/-
  The statistics kernel's pipeline: what it leaves in its result, and that its body meets the pipeline's demands.
-/
module

public import proofs.«01_k».proof.Proof.StatsRun
public import proofs.«01_k».proof.Proof.Gen.KernelIdeal.Launch
public import Idealize.ShloMosaic.Lib.Pipeline.FrameBody
public import Idealize.ShloMosaic.Lib.Ring
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The row statistics' pipeline: what its buffers hold

The pipeline of the first kernel, with the arrays as the region finds them (`V`). -/

variable (V : (c : Dev nD) → (b : Ref sig .tc) → Buf (Elt F) ((c : Thread nD τ).loc b))

/-- One staging buffer of the output window. -/
abbrev VO0_1 : View sig .tc .vmem S2x128 .f32 := (Memref.whole cc0_stg1_0 : Memref sig .tc .vmem S2x128 .f32).view
/-- Each window's current staging memref at point `t`, and its wholeness. -/
abbrev ms0_0 (t : Fin cfg0.N) : Memref sig .tc .vmem S128x20480 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x128 .f32 := win0_1.stage (cfg0.slots t 1)
abbrev hs0_1 (t : Fin cfg0.N) : (ms0_1 t).IsWhole := hstage0_1 ((cfg0.slots t 1).cast nbuf0_1)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The run's pieces for output 1 tile its block (16 stores of `S1x16`, checked by the kernel's evaluation: Lib/Ring.lean `Piece.tiledL`, linear in the pieces, through a loop's `@[irreducible]` trip theorem too), so they cover it. -/
theorem cover0_A_1 (c : Dev nD) (i : grid0.Coords) (arg1 : Memref sig .tc .vmem S128x20480 .bf16) (harg1 : arg1.IsWhole) (arg2 : Memref sig .tc .vmem S2x128 .f32) (harg2 : arg2.IsWhole)
    (x0 : Vec F S128x20480 .bf16) (y : S2x128.Idx) :
    ∃ pc ∈ (statsRun c i arg1 harg1 arg2 harg2 x0).1, y ∈ pc.1.set :=
  View.cover_of_tiledL (statsRun c i arg1 harg1 arg2 harg2 x0).1 S1x16.size (by sl_kernel_rfl) y

/-- What the run leaves in output 1's staging buffer: its pieces read back over junk. -/
def out0_A_1 (c : Dev nD) (i : grid0.Coords) (arg1 : Memref sig .tc .vmem S128x20480 .bf16) (harg1 : arg1.IsWhole) (arg2 : Memref sig .tc .vmem S2x128 .f32) (harg2 : arg2.IsWhole)
    (x0 : Vec F S128x20480 .bf16) : Vec F S2x128 .f32 :=
  VO0_1.read (Elt F) (VO0_1.writes (Elt F) VO0_1.junk (statsRun c i arg1 harg1 arg2 harg2 x0).1)

/-! ## What the outputs hold after each point -/

/-- What the outputs' staging buffers hold after the body at point `t`: the run's contents at
    the point's memrefs and input blocks. -/
def outsAt0 (c : Dev nD) (t : Fin cfg0.N) : Vec F S2x128 .f32 :=
  out0_A_1 c (grid0.coords t) (ms0_0 t) (hs0_0 t) (ms0_1 t) (hs0_1 t) (iblk0 V c 0 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => (outsAt0 V c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  unfold outsAt0
  unfold out0_A_1
  iintro ⟨HΦ, Ho, ⟨%d0, H0⟩, ⟨%d1, H1⟩⟩
  iapply ((statsRun c (grid0.coords t) _ _ _ _ (iblk0 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_A_1 c _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.MainShared.lean ====
/-
  What the two runs of the main kernel share.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The body sums the embedding blocks at this grid point. -/
abbrev condM (i : grid1.Coords) : Prop := k1_cond1 i = 1#1

/-- It does so at the first reduction step of every output block. -/
theorem hcondM : ∀ t : Fin grid1.N, condM (grid1.coords t) ↔ t.val % 32 = 0 :=
  fun t => by
    have ht : t.val < 640 := Nat.lt_of_lt_of_eq t.isLt N_1
    have e0 : (grid1.coords t 0).val = t.val / 32 % 20 := Pipeline.Grid.coords_val t 0 (by decide) rfl
    have e1 : (grid1.coords t 1).val = t.val / 1 % 32 := Pipeline.Grid.coords_val t 1 (by decide) rfl
    simp only [condM, k1_cond1, e0, e1]
    word_cmp

/-- The embedding gradient rows, left in HBM. -/
abbrev hbM : Memref sig .tc .hbm S16384x4096 .fp8e5m2 := Memref.whole main_arg4
/-- The table of first embedding rows. -/
abbrev tbM : Memref sig .tc .smem S21 .i32 := Memref.whole main_v11
/-- The contents of a memref's buffer, and the buffer held whole. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The table word of the output block, and the one after it. -/
abbrev tblLo (c : Dev nD) (i : grid1.Coords) (hc0 : condM i) (ft : HbBuf (F := F) c tbM) : BitVec 32 :=
  View.readAt (Elt F) tbM.view (Rect.unit (s := S21) (k1_off1 i) S1.size (k1_off1_inb i hc0)).toLoadRect ft (Shape.Idx.first (numel1_S1.symm ▸ Nat.one_pos))
abbrev tblHi (c : Dev nD) (i : grid1.Coords) (hc0 : condM i) (ft : HbBuf (F := F) c tbM) : BitVec 32 :=
  View.readAt (Elt F) tbM.view (Rect.unit (s := S21) (k1_off2 i) S1.size (k1_off2_inb i hc0)).toLoadRect ft (Shape.Idx.first (numel1_S1.symm ▸ Nat.one_pos))

end Cert.KernelIdeal.Hand

end
-- ==== Proof.MainRunA.lean ====
/-
  The main kernel's body at a grid point: what it stores, first reduction step (the embedding blocks are summed first).
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp
public import proofs.«01_k».proof.Proof.MainShared
@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
/-- The main kernel's body at a grid point: what it stores, first reduction step (the embedding blocks are summed first). The stores are found by running the body; the pieces they leave, last first, are the witness. -/
noncomputable def mainRunA (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec F S512x1024 .bf16) (x1 : Vec F S2x512 .f32) (x2 : Vec F S1x512 .i32) (x3 : Vec F S1x512 .f32) (x4 : Vec F S512x4096 .fp8e4m3) (x5 : Vec F S64x1x256 .i32) (x6 : Vec F S64x1x256 .f32) (fh0 : HbBuf (F := F) c hbM) (ft : HbBuf (F := F) c tbM) (hchk : k1_chk1 i (tblLo c i hc0 ft) (tblHi c i hc0 ft)) :
    Σ' (L7 : List (View.Piece (Elt F) S1024x4096 .f32)), { LT0 : List (View.Piece (Elt F) S1024x512 .bf16) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 18) 0 ∗ hbPt c hbM fh0 ∗ hbPt c tbM ft ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f LT0) ∗ (∃ d, owns (c : Thread nD τ) arg13 fullShare d) ∗ semVal ((c : Thread nD τ), SemLoc.dma 18) 0 ∗ hbPt c hbM fh0 ∗ hbPt c tbM ft ∗ (∃ W', owes (c : Thread nD τ) 0 W')) -∗ K ⟨⟩))
          ⊢ wp frame (wpE (defs₀ (F := F)) Variants.none c none) Set.univ (cc1_main i (Memref.whole main_v11) (Memref.isWhole_whole _) arg3 harg3 arg4 harg4 arg5 harg5 arg6 harg6 arg7 harg7 arg8 harg8 arg9 harg9 (Memref.whole main_arg4) (Memref.isWhole_whole _) arg11 harg11 arg12 harg12 arg13 harg13 cc1_scratch2) K } := by
  refine ⟨?_, ?_, fun W K => ?run⟩
  case run =>
    simp only [cc1_main_eq_skeleton]; unfold cc1_main_skel
    simp only [k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hq0, Hh0, HT, HW, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hchk)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]
    · iexists _, _; isplitr; swap; · iexact HS1
      ipureintro; rfl
    isplitl [Hq0]; · iexact Hq0
    isplitl [Hh0]; · iexact Hh0
    isplitl [HT]; · iexact HT
    iexists _; iexact HW

end Cert.KernelIdeal.Hand

end
-- ==== Proof.MainRunB.lean ====
/-
  The main kernel's body at a grid point: what it stores, later reduction steps.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp
public import proofs.«01_k».proof.Proof.MainShared
@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
/-- The main kernel's body at a grid point: what it stores, later reduction steps. The stores are found by running the body; the pieces they leave, last first, are the witness. -/
noncomputable def mainRunB (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : ¬condM i)
    (x0 : Vec F S512x1024 .bf16) (x1 : Vec F S2x512 .f32) (x2 : Vec F S1x512 .i32) (x3 : Vec F S1x512 .f32) (x4 : Vec F S512x4096 .fp8e4m3) (x5 : Vec F S64x1x256 .i32) (x6 : Vec F S64x1x256 .f32) (xo7 : Vec F S1024x4096 .f32) (fh0 : HbBuf (F := F) c hbM) (ft : HbBuf (F := F) c tbM) :
    Σ' (L7 : List (View.Piece (Elt F) S1024x4096 .f32)), { LT0 : List (View.Piece (Elt F) S1024x512 .bf16) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg11 fullShare xo7 ∗ (∃ d, owns (c : Thread nD τ) arg12 fullShare d) ∗ (∃ d, owns (c : Thread nD τ) arg13 fullShare d) ∗ semVal ((c : Thread nD τ), SemLoc.dma 18) 0 ∗ hbPt c hbM fh0 ∗ hbPt c tbM ft ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f LT0) ∗ (∃ d, owns (c : Thread nD τ) arg13 fullShare d) ∗ semVal ((c : Thread nD τ), SemLoc.dma 18) 0 ∗ hbPt c hbM fh0 ∗ hbPt c tbM ft ∗ (∃ W', owes (c : Thread nD τ) 0 W')) -∗ K ⟨⟩))
          ⊢ wp frame (wpE (defs₀ (F := F)) Variants.none c none) Set.univ (cc1_main i (Memref.whole main_v11) (Memref.isWhole_whole _) arg3 harg3 arg4 harg4 arg5 harg5 arg6 harg6 arg7 harg7 arg8 harg8 arg9 harg9 (Memref.whole main_arg4) (Memref.isWhole_whole _) arg11 harg11 arg12 harg12 arg13 harg13 cc1_scratch2) K } := by
  refine ⟨?_, ?_, fun W K => ?run⟩
  case run =>
    simp only [cc1_main_eq_skeleton]; unfold cc1_main_skel
    simp only [k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hq0, Hh0, HT, HW, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf7
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]
    · iexists _, _; isplitr; swap; · iexact HS1
      ipureintro; rfl
    isplitl [Hq0]; · iexact Hq0
    isplitl [Hh0]; · iexact Hh0
    isplitl [HT]; · iexact HT
    iexists _; iexact HW

end Cert.KernelIdeal.Hand

end
-- ==== Proof.MainRegion.lean ====
/-
  The main kernel's pipeline: what it leaves in its result, and that its body meets the pipeline's demands.
-/
module

public import proofs.«01_k».proof.Proof.MainRunA
public import proofs.«01_k».proof.Proof.MainRunB
public import Idealize.ShloMosaic.Lib.Pipeline.FrameBody
public import Idealize.ShloMosaic.Lib.Ring
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The main kernel's pipeline: what its buffers hold

The pipeline of the main kernel, with the arrays as the region finds them (`V`), at the table contents `a`; the
table's words meet the body's side condition (`hchk`). -/

variable (V : (c : Dev nD) → (b : Ref sig .tc) → Buf (Elt F) ((c : Thread nD τ).loc b)) (a : (pcfg1 (F := F)).Adm)

/-- One staging buffer of the output window. -/
abbrev VO1_7 : View sig .tc .vmem S1024x4096 .f32 := (Memref.whole cc1_stg7_0 : Memref sig .tc .vmem S1024x4096 .f32).view
/-- Each window's current staging memref at point `t`, and its wholeness. -/
abbrev ms1_0 (t : Fin grid1.N) : Memref sig .tc .vmem S512x1024 .bf16 := spec1_0.stage ((cfg1 a).slots t 0)
abbrev hs1_0 (t : Fin grid1.N) : (ms1_0 a t).IsWhole := hstage1_0 (((cfg1 a).slots t 0).cast nbuf1_0)
abbrev ms1_1 (t : Fin grid1.N) : Memref sig .tc .vmem S2x512 .f32 := spec1_1.stage ((cfg1 a).slots t 1)
abbrev hs1_1 (t : Fin grid1.N) : (ms1_1 a t).IsWhole := hstage1_1 (((cfg1 a).slots t 1).cast nbuf1_1)
abbrev ms1_2 (t : Fin grid1.N) : Memref sig .tc .vmem S1x512 .i32 := spec1_2.stage ((cfg1 a).slots t 2)
abbrev hs1_2 (t : Fin grid1.N) : (ms1_2 a t).IsWhole := hstage1_2 (((cfg1 a).slots t 2).cast nbuf1_2)
abbrev ms1_3 (t : Fin grid1.N) : Memref sig .tc .vmem S1x512 .f32 := spec1_3.stage ((cfg1 a).slots t 3)
abbrev hs1_3 (t : Fin grid1.N) : (ms1_3 a t).IsWhole := hstage1_3 (((cfg1 a).slots t 3).cast nbuf1_3)
abbrev ms1_4 (t : Fin grid1.N) : Memref sig .tc .vmem S512x4096 .fp8e4m3 := spec1_4.stage ((cfg1 a).slots t 4)
abbrev hs1_4 (t : Fin grid1.N) : (ms1_4 a t).IsWhole := hstage1_4 (((cfg1 a).slots t 4).cast nbuf1_4)
abbrev ms1_5 (t : Fin grid1.N) : Memref sig .tc .vmem S64x1x256 .i32 := spec1_5.stage ((cfg1 a).slots t 5)
abbrev hs1_5 (t : Fin grid1.N) : (ms1_5 a t).IsWhole := hstage1_5 (((cfg1 a).slots t 5).cast nbuf1_5)
abbrev ms1_6 (t : Fin grid1.N) : Memref sig .tc .vmem S64x1x256 .f32 := spec1_6.stage ((cfg1 a).slots t 6)
abbrev hs1_6 (t : Fin grid1.N) : (ms1_6 a t).IsWhole := hstage1_6 (((cfg1 a).slots t 6).cast nbuf1_6)
abbrev ms1_7 (t : Fin grid1.N) : Memref sig .tc .vmem S1024x4096 .f32 := spec1_7.stage ((cfg1 a).slots t 7)
abbrev hs1_7 (t : Fin grid1.N) : (ms1_7 a t).IsWhole := hstage1_7 (((cfg1 a).slots t 7).cast nbuf1_7)
/-- The scratch operands. -/
abbrev scMg : Memref sig .tc .vmem S1024x512 .bf16 := Memref.whole cc1_scratch0
abbrev scMe : Memref sig .tc .vmem S256x4096 .fp8e5m2 := Memref.whole cc1_scratch1
/-- The kernel body at point `t`, on what the pipeline calls it with. -/
abbrev bodyAt1 (t : Fin grid1.N) : Prog (TpuEff nD τ sig (Elt F) Λ₀ .tc) PUnit :=
  cc1_main (grid1.coords t) (Memref.whole main_v11) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (Memref.whole main_arg4) (Memref.isWhole_whole _) (ms1_7 a t) (hs1_7 a t) scMg (Memref.isWhole_whole _) scMe (Memref.isWhole_whole _) cc1_scratch2

/-- The output is written back at the last reduction step of every output block. -/
theorem flush1_7 : ∀ t : Fin grid1.N, ((cfg1 a).win 7).flush t = true ↔ t.val % 32 = 31 :=
  (fun t => Pipeline.Window.flush_reads ((cfg1 a).win 7) rfl 0 (show 1 < grid1.bound 0 by decide) (show grid1.fixedAfter spec1_7.reads 0 = true by decide) (Pipeline.Window.sep_of_coord cc1_transform_8 0 0 (fun _ => rfl) (by decide)) (P := 32) (m := 31) (show grid1.stride 0 = 32 by decide) rfl t)

/-- Window `w`'s block at point `t`, read off its array as the region finds it. -/
def iblk1 (c : Dev nD) (w : Fin 8) (t : Fin grid1.N) : (((cfg1 a).win w).xblock ((cfg1 a).grid.coords t)).Idx → Elt F ((cfg1 a).win w).elt :=
  (((cfg1 a).win w).blk t).view.read (Elt F) (V c (Pipeline.arrRef spec1 w))

/-- Window 0's current staging buffer holds its block at every point. -/
theorem before1_0_of {c : Dev nD} (dat : Dat τ (Elt F) Unit ℕ (Pipeline.UD sig nD τ) ℕ (cfg1 a) c) (hA : dat.A 0 = V c (Pipeline.arrRef spec1 0))
    (hafter : ∀ t, dat.after 0 t = iblk1 V a c 0 t) (t : Fin grid1.N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Window 1's current staging buffer holds its block at every point. -/
theorem before1_1_of {c : Dev nD} (dat : Dat τ (Elt F) Unit ℕ (Pipeline.UD sig nD τ) ℕ (cfg1 a) c) (hA : dat.A 1 = V c (Pipeline.arrRef spec1 1))
    (hafter : ∀ t, dat.after 1 t = iblk1 V a c 1 t) (t : Fin grid1.N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2's current staging buffer holds its block at every point. -/
theorem before1_2_of {c : Dev nD} (dat : Dat τ (Elt F) Unit ℕ (Pipeline.UD sig nD τ) ℕ (cfg1 a) c) (hA : dat.A 2 = V c (Pipeline.arrRef spec1 2))
    (hafter : ∀ t, dat.after 2 t = iblk1 V a c 2 t) (t : Fin grid1.N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Window 3's current staging buffer holds its block at every point. -/
theorem before1_3_of {c : Dev nD} (dat : Dat τ (Elt F) Unit ℕ (Pipeline.UD sig nD τ) ℕ (cfg1 a) c) (hA : dat.A 3 = V c (Pipeline.arrRef spec1 3))
    (hafter : ∀ t, dat.after 3 t = iblk1 V a c 3 t) (t : Fin grid1.N) (d) : dat.before 3 t d = iblk1 V a c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Window 4's current staging buffer holds its block at every point. -/
theorem before1_4_of {c : Dev nD} (dat : Dat τ (Elt F) Unit ℕ (Pipeline.UD sig nD τ) ℕ (cfg1 a) c) (hA : dat.A 4 = V c (Pipeline.arrRef spec1 4))
    (hafter : ∀ t, dat.after 4 t = iblk1 V a c 4 t) (t : Fin grid1.N) (d) : dat.before 4 t d = iblk1 V a c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Window 5's current staging buffer holds its block at every point. -/
theorem before1_5_of {c : Dev nD} (dat : Dat τ (Elt F) Unit ℕ (Pipeline.UD sig nD τ) ℕ (cfg1 a) c) (hA : dat.A 5 = V c (Pipeline.arrRef spec1 5))
    (hafter : ∀ t, dat.after 5 t = iblk1 V a c 5 t) (t : Fin grid1.N) (d) : dat.before 5 t d = iblk1 V a c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Window 6's current staging buffer holds its block at every point. -/
theorem before1_6_of {c : Dev nD} (dat : Dat τ (Elt F) Unit ℕ (Pipeline.UD sig nD τ) ℕ (cfg1 a) c) (hA : dat.A 6 = V c (Pipeline.arrRef spec1 6))
    (hafter : ∀ t, dat.after 6 t = iblk1 V a c 6 t) (t : Fin grid1.N) (d) : dat.before 6 t d = iblk1 V a c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The body's own DMA semaphore: none is a window's. -/
abbrev osem1 : Fin 1 → SemLoc sig := fun j => (![SemLoc.dma 18] : Fin 1 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 18) 0) := by
  rw [Pipeline.ownSems0_eq_of_list c osem1 [0] (by decide) (by decide)]; rfl
/-- The HBM operand the body moves itself. -/
def H1 : Finset (Ref sig .tc) := {main_arg4}
theorem hbmPts1_eq (c : Dev nD) :
    (bigSep H1 (fun b => ((c : Thread nD τ).loc b) ↦{fullShare} V c b) : sProp 𝕄) = iprop(hbPt c hbM (V c main_arg4)) := by
  rw [BI.bigSep_eq_bigSepL_of_eq [main_arg4] (by decide) (by decide)]; rfl

/-- What the body keeps from point to point: the scoped buffers, the generator register, its own semaphore at zero, the
    HBM operand and the table as the region found them. -/
def PhiM (c : Dev nD) : sProp 𝕄 :=
  iprop(Pipeline.scopedRest spec1 c ∗ (∃ r, prngReg c r) ∗ Pipeline.ownSems0 (τ := τ) osem1 c ∗ (bigSep H1 fun b => ((c : Thread nD τ).loc b) ↦{fullShare} V c b) ∗ hbPt c tbM (V c main_v11))

theorem PhiM_eq (c : Dev nD) :
    (PhiM V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scMg fullShare d) ∗ (∃ d, owns (c : Thread nD τ) scMe fullShare d)) ∗ (∃ r, prngReg c r) ∗ iprop(semVal ((c : Thread nD τ), SemLoc.dma 18) 0) ∗ iprop(hbPt c hbM (V c main_arg4)) ∗ hbPt c tbM (V c main_v11)) := by
  unfold PhiM
  rw [scopedRest1_eq, ownSems01_eq, hbmPts1_eq]; simp only [scMg, scMe, owns_whole]
  try rfl

variable (hchk : ∀ (c : Dev nD) (i : grid1.Coords) (h : condM i), k1_chk1 i (tblLo c i h (V c main_v11)) (tblHi c i h (V c main_v11)))

/-- Case A's pieces for output 7 are of SEVERAL sizes (521 stores of `S1024x4096`, `S1024x512`): cut into blocks of `![1024, 512]` they tile its block (checked by the kernel's evaluation: Lib/Ring.lean `Piece.tiledBy`), so they cover it. -/
theorem cover1_A_7 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec F S512x1024 .bf16) (x1 : Vec F S2x512 .f32) (x2 : Vec F S1x512 .i32) (x3 : Vec F S1x512 .f32) (x4 : Vec F S512x4096 .fp8e4m3) (x5 : Vec F S64x1x256 .i32) (x6 : Vec F S64x1x256 .f32) (fh0 : HbBuf (F := F) c hbM) (ft : HbBuf (F := F) c tbM) (hchk : k1_chk1 i (tblLo c i hc0 ft) (tblHi c i hc0 ft)) (y : S1024x4096.Idx) :
    ∃ pc ∈ (mainRunA c i arg3 harg3 arg4 harg4 arg5 harg5 arg6 harg6 arg7 harg7 arg8 harg8 arg9 harg9 arg11 harg11 arg12 harg12 arg13 harg13 hc0 x0 x1 x2 x3 x4 x5 x6 fh0 ft hchk).1, y ∈ pc.1.set :=
  have ⟨pc, hpc, hy⟩ := View.cover_of_tiledL ((mainRunA c i arg3 harg3 arg4 harg4 arg5 harg5 arg6 harg6 arg7 harg7 arg8 harg8 arg9 harg9 arg11 harg11 arg12 harg12 arg13 harg13 hc0 x0 x1 x2 x3 x4 x5 x6 fh0 ft hchk).1.take 8) S1024x512.size (by sl_kernel_rfl) y
  ⟨pc, List.mem_of_mem_take hpc, hy⟩

/-- What case A leaves in output 7's staging buffer: its pieces read back over junk. -/
def out1_A_7 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec F S512x1024 .bf16) (x1 : Vec F S2x512 .f32) (x2 : Vec F S1x512 .i32) (x3 : Vec F S1x512 .f32) (x4 : Vec F S512x4096 .fp8e4m3) (x5 : Vec F S64x1x256 .i32) (x6 : Vec F S64x1x256 .f32) (fh0 : HbBuf (F := F) c hbM) (ft : HbBuf (F := F) c tbM) (hchk : k1_chk1 i (tblLo c i hc0 ft) (tblHi c i hc0 ft)) : Vec F S1024x4096 .f32 :=
  VO1_7.read (Elt F) (VO1_7.writes (Elt F) VO1_7.junk (mainRunA c i arg3 harg3 arg4 harg4 arg5 harg5 arg6 harg6 arg7 harg7 arg8 harg8 arg9 harg9 arg11 harg11 arg12 harg12 arg13 harg13 hc0 x0 x1 x2 x3 x4 x5 x6 fh0 ft hchk).1)

/-- Case B's pieces for output 7 tile its block (8 stores of `S1024x512`, checked by the kernel's evaluation: Lib/Ring.lean `Piece.tiledL`, linear in the pieces, through a loop's `@[irreducible]` trip theorem too), so they cover it. -/
theorem cover1_B_7 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : ¬condM i)
    (x0 : Vec F S512x1024 .bf16) (x1 : Vec F S2x512 .f32) (x2 : Vec F S1x512 .i32) (x3 : Vec F S1x512 .f32) (x4 : Vec F S512x4096 .fp8e4m3) (x5 : Vec F S64x1x256 .i32) (x6 : Vec F S64x1x256 .f32) (xo7 : Vec F S1024x4096 .f32) (fh0 : HbBuf (F := F) c hbM) (ft : HbBuf (F := F) c tbM) (y : S1024x4096.Idx) :
    ∃ pc ∈ (mainRunB c i arg3 harg3 arg4 harg4 arg5 harg5 arg6 harg6 arg7 harg7 arg8 harg8 arg9 harg9 arg11 harg11 arg12 harg12 arg13 harg13 hc0 x0 x1 x2 x3 x4 x5 x6 xo7 fh0 ft).1, y ∈ pc.1.set :=
  View.cover_of_tiledL (mainRunB c i arg3 harg3 arg4 harg4 arg5 harg5 arg6 harg6 arg7 harg7 arg8 harg8 arg9 harg9 arg11 harg11 arg12 harg12 arg13 harg13 hc0 x0 x1 x2 x3 x4 x5 x6 xo7 fh0 ft).1 S1024x512.size (by sl_kernel_rfl) y

/-- What case B leaves in output 7's staging buffer: its pieces read back over junk. -/
def out1_B_7 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : ¬condM i)
    (x0 : Vec F S512x1024 .bf16) (x1 : Vec F S2x512 .f32) (x2 : Vec F S1x512 .i32) (x3 : Vec F S1x512 .f32) (x4 : Vec F S512x4096 .fp8e4m3) (x5 : Vec F S64x1x256 .i32) (x6 : Vec F S64x1x256 .f32) (xo7 : Vec F S1024x4096 .f32) (fh0 : HbBuf (F := F) c hbM) (ft : HbBuf (F := F) c tbM) : Vec F S1024x4096 .f32 :=
  VO1_7.read (Elt F) (VO1_7.writes (Elt F) VO1_7.junk (mainRunB c i arg3 harg3 arg4 harg4 arg5 harg5 arg6 harg6 arg7 harg7 arg8 harg8 arg9 harg9 arg11 harg11 arg12 harg12 arg13 harg13 hc0 x0 x1 x2 x3 x4 x5 x6 xo7 fh0 ft).1)

/-! ## What the outputs hold after each point -/

/-- THE ACCUMULATION. What the outputs' staging buffers hold after the body at position `n`:
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < grid1.N → Vec F S1024x4096 .f32
  | 0, hn => out1_A_7 c (grid1.coords ⟨0, hn⟩) (ms1_0 a ⟨0, hn⟩) (hs1_0 a ⟨0, hn⟩) (ms1_1 a ⟨0, hn⟩) (hs1_1 a ⟨0, hn⟩) (ms1_2 a ⟨0, hn⟩) (hs1_2 a ⟨0, hn⟩) (ms1_3 a ⟨0, hn⟩) (hs1_3 a ⟨0, hn⟩) (ms1_4 a ⟨0, hn⟩) (hs1_4 a ⟨0, hn⟩) (ms1_5 a ⟨0, hn⟩) (hs1_5 a ⟨0, hn⟩) (ms1_6 a ⟨0, hn⟩) (hs1_6 a ⟨0, hn⟩) (ms1_7 a ⟨0, hn⟩) (hs1_7 a ⟨0, hn⟩) scMg (Memref.isWhole_whole _) scMe (Memref.isWhole_whole _) ((hcondM ⟨0, hn⟩).mpr (Nat.zero_mod _)) (iblk1 V a c 0 ⟨0, hn⟩) (iblk1 V a c 1 ⟨0, hn⟩) (iblk1 V a c 2 ⟨0, hn⟩) (iblk1 V a c 3 ⟨0, hn⟩) (iblk1 V a c 4 ⟨0, hn⟩) (iblk1 V a c 5 ⟨0, hn⟩) (iblk1 V a c 6 ⟨0, hn⟩) (V c main_arg4) (V c main_v11) (hchk c _ ((hcondM ⟨0, hn⟩).mpr (Nat.zero_mod _)))
  | n + 1, hn =>
    if h0 : (n + 1) % 32 = 0 then
      out1_A_7 c (grid1.coords ⟨n + 1, hn⟩) (ms1_0 a ⟨n + 1, hn⟩) (hs1_0 a ⟨n + 1, hn⟩) (ms1_1 a ⟨n + 1, hn⟩) (hs1_1 a ⟨n + 1, hn⟩) (ms1_2 a ⟨n + 1, hn⟩) (hs1_2 a ⟨n + 1, hn⟩) (ms1_3 a ⟨n + 1, hn⟩) (hs1_3 a ⟨n + 1, hn⟩) (ms1_4 a ⟨n + 1, hn⟩) (hs1_4 a ⟨n + 1, hn⟩) (ms1_5 a ⟨n + 1, hn⟩) (hs1_5 a ⟨n + 1, hn⟩) (ms1_6 a ⟨n + 1, hn⟩) (hs1_6 a ⟨n + 1, hn⟩) (ms1_7 a ⟨n + 1, hn⟩) (hs1_7 a ⟨n + 1, hn⟩) scMg (Memref.isWhole_whole _) scMe (Memref.isWhole_whole _) ((hcondM ⟨n + 1, hn⟩).mpr h0) (iblk1 V a c 0 ⟨n + 1, hn⟩) (iblk1 V a c 1 ⟨n + 1, hn⟩) (iblk1 V a c 2 ⟨n + 1, hn⟩) (iblk1 V a c 3 ⟨n + 1, hn⟩) (iblk1 V a c 4 ⟨n + 1, hn⟩) (iblk1 V a c 5 ⟨n + 1, hn⟩) (iblk1 V a c 6 ⟨n + 1, hn⟩) (V c main_arg4) (V c main_v11) (hchk c _ ((hcondM ⟨n + 1, hn⟩).mpr h0))
    else
      out1_B_7 c (grid1.coords ⟨n + 1, hn⟩) (ms1_0 a ⟨n + 1, hn⟩) (hs1_0 a ⟨n + 1, hn⟩) (ms1_1 a ⟨n + 1, hn⟩) (hs1_1 a ⟨n + 1, hn⟩) (ms1_2 a ⟨n + 1, hn⟩) (hs1_2 a ⟨n + 1, hn⟩) (ms1_3 a ⟨n + 1, hn⟩) (hs1_3 a ⟨n + 1, hn⟩) (ms1_4 a ⟨n + 1, hn⟩) (hs1_4 a ⟨n + 1, hn⟩) (ms1_5 a ⟨n + 1, hn⟩) (hs1_5 a ⟨n + 1, hn⟩) (ms1_6 a ⟨n + 1, hn⟩) (hs1_6 a ⟨n + 1, hn⟩) (ms1_7 a ⟨n + 1, hn⟩) (hs1_7 a ⟨n + 1, hn⟩) scMg (Memref.isWhole_whole _) scMe (Memref.isWhole_whole _) (fun h => h0 ((hcondM ⟨n + 1, hn⟩).mp h)) (iblk1 V a c 0 ⟨n + 1, hn⟩) (iblk1 V a c 1 ⟨n + 1, hn⟩) (iblk1 V a c 2 ⟨n + 1, hn⟩) (iblk1 V a c 3 ⟨n + 1, hn⟩) (iblk1 V a c 4 ⟨n + 1, hn⟩) (iblk1 V a c 5 ⟨n + 1, hn⟩) (iblk1 V a c 6 ⟨n + 1, hn⟩) (outsAt1 c n (Nat.lt_of_succ_lt hn)) (V c main_arg4) (V c main_v11)

/-- `outsAt0` at a point of case A: that case's contents. -/
theorem outsAt1_A (c : Dev nD) (t : Fin grid1.N) (h0 : t.val % 32 = 0) :
    outsAt1 V a hchk c t.val t.isLt = out1_A_7 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) scMg (Memref.isWhole_whole _) scMe (Memref.isWhole_whole _) ((hcondM t).mpr h0) (iblk1 V a c 0 t) (iblk1 V a c 1 t) (iblk1 V a c 2 t) (iblk1 V a c 3 t) (iblk1 V a c 4 t) (iblk1 V a c 5 t) (iblk1 V a c 6 t) (V c main_arg4) (V c main_v11) (hchk c _ ((hcondM t).mpr h0)) := by
  obtain ⟨n, hn⟩ := t
  cases n with
  | zero => exact rfl
  | succ n => exact (dif_pos h0).trans rfl

/-- `outsAt0` at a point of case B: that case's contents, over what the point before left. -/
theorem outsAt1_B (c : Dev nD) (t : Fin grid1.N) (h0 : ¬t.val % 32 = 0) :
    outsAt1 V a hchk c t.val t.isLt = out1_B_7 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) scMg (Memref.isWhole_whole _) scMe (Memref.isWhole_whole _) (fun h => h0 ((hcondM t).mp h)) (iblk1 V a c 0 t) (iblk1 V a c 1 t) (iblk1 V a c 2 t) (iblk1 V a c 3 t) (iblk1 V a c 4 t) (iblk1 V a c 5 t) (iblk1 V a c 6 t) (outsAt1 V a hchk c (t.val - 1) (Nat.lt_of_le_of_lt (Nat.sub_le _ _) t.isLt)) (V c main_arg4) (V c main_v11) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dat1 (c : Dev nD) : Dat τ (Elt F) Unit ℕ (Pipeline.UD sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => iblk1 V a c 4 t
    | ⟨5, _⟩ => iblk1 V a c 5 t
    | ⟨6, _⟩ => iblk1 V a c 6 t
    | ⟨7, _⟩ => (outsAt1 V a hchk c t.val t.isLt)
  Φ _ := PhiM V c
  q _ := fullShare
  owed _ := 0

/-- The proof data's arrays are the region-entry contents: the proof data's definition projected (`dsimp`), so that
    `V` — a fold over @main's host prefix, long for some programs — is never unfolded to check it. -/
theorem A_eq1 (c : Dev nD) (w : Fin 8) : (dat1 V a hchk c).A w = V c (Pipeline.arrRef spec1 w) := by
  dsimp only [dat1]

/-- What the body leaves, window by window (the proof data's `match` reduced by `dsimp`). -/
theorem after1_0 (c : Dev nD) (t : Fin grid1.N) : (dat1 V a hchk c).after 0 t = iblk1 V a c 0 t := rfl
theorem after1_1 (c : Dev nD) (t : Fin grid1.N) : (dat1 V a hchk c).after 1 t = iblk1 V a c 1 t := rfl
theorem after1_2 (c : Dev nD) (t : Fin grid1.N) : (dat1 V a hchk c).after 2 t = iblk1 V a c 2 t := rfl
theorem after1_3 (c : Dev nD) (t : Fin grid1.N) : (dat1 V a hchk c).after 3 t = iblk1 V a c 3 t := rfl
theorem after1_4 (c : Dev nD) (t : Fin grid1.N) : (dat1 V a hchk c).after 4 t = iblk1 V a c 4 t := rfl
theorem after1_5 (c : Dev nD) (t : Fin grid1.N) : (dat1 V a hchk c).after 5 t = iblk1 V a c 5 t := rfl
theorem after1_6 (c : Dev nD) (t : Fin grid1.N) : (dat1 V a hchk c).after 6 t = iblk1 V a c 6 t := rfl
theorem after1_7 (c : Dev nD) (t : Fin grid1.N) : (dat1 V a hchk c).after 7 t = (outsAt1 V a hchk c t.val t.isLt) := rfl

/-- Each input's current staging buffer holds its block at every point, fetched there or not (`beforeK_W_of`). -/
theorem before1_0 (c : Dev nD) (t : Fin grid1.N) (d) : (dat1 V a hchk c).before 0 t d = iblk1 V a c 0 t :=
  before1_0_of V a (dat1 V a hchk c) (A_eq1 V a hchk c 0) (after1_0 V a hchk c) t d
theorem before1_1 (c : Dev nD) (t : Fin grid1.N) (d) : (dat1 V a hchk c).before 1 t d = iblk1 V a c 1 t :=
  before1_1_of V a (dat1 V a hchk c) (A_eq1 V a hchk c 1) (after1_1 V a hchk c) t d
theorem before1_2 (c : Dev nD) (t : Fin grid1.N) (d) : (dat1 V a hchk c).before 2 t d = iblk1 V a c 2 t :=
  before1_2_of V a (dat1 V a hchk c) (A_eq1 V a hchk c 2) (after1_2 V a hchk c) t d
theorem before1_3 (c : Dev nD) (t : Fin grid1.N) (d) : (dat1 V a hchk c).before 3 t d = iblk1 V a c 3 t :=
  before1_3_of V a (dat1 V a hchk c) (A_eq1 V a hchk c 3) (after1_3 V a hchk c) t d
theorem before1_4 (c : Dev nD) (t : Fin grid1.N) (d) : (dat1 V a hchk c).before 4 t d = iblk1 V a c 4 t :=
  before1_4_of V a (dat1 V a hchk c) (A_eq1 V a hchk c 4) (after1_4 V a hchk c) t d
theorem before1_5 (c : Dev nD) (t : Fin grid1.N) (d) : (dat1 V a hchk c).before 5 t d = iblk1 V a c 5 t :=
  before1_5_of V a (dat1 V a hchk c) (A_eq1 V a hchk c 5) (after1_5 V a hchk c) t d
theorem before1_6 (c : Dev nD) (t : Fin grid1.N) (d) : (dat1 V a hchk c).before 6 t d = iblk1 V a c 6 t :=
  before1_6_of V a (dat1 V a hchk c) (A_eq1 V a hchk c 6) (after1_6 V a hchk c) t d
/-- At a point of case B output 7's current staging buffer holds what the body left at the point before: the point is
    not the first, the buffer was not written back between (`flush1_7 a`), the window is live and uncut (Lib/Pipeline/Frame.lean
    `Dat.before_out_kept`). -/
theorem before1_7_B (c : Dev nD) (t : Fin grid1.N) (h0 : ¬t.val % 32 = 0) (d) :
    (dat1 V a hchk c).before 7 t d = (outsAt1 V a hchk c (t.val - 1) (Nat.lt_of_le_of_lt (Nat.sub_le _ _) t.isLt)) := by
  have hN : t.val < 640 := lt_of_lt_of_eq t.isLt (show grid1.N = 640 from N_1)
  refine (Dat.before_out_kept (dat1 V a hchk c) 7 rfl t (by omega) (Bool.eq_false_iff.mpr fun h => by have := (flush1_7 a _).mp h; dsimp only at this; omega)
    (fun _ => rfl) (fun _ _ => rfl) d).trans ?_
  rfl

/-! ## The body obligation, at a generic point -/

/-- What the body is called with at point `t` (Lib/Pipeline.lean `BodyObligation`'s precondition, the windows one by one), -/
def bodyPre1 (c : Dev nD) (t : Fin grid1.N) : sProp 𝕄 :=
  iprop((dat1 V a hchk c).Φ t.castSucc ∗ (dat1 V a hchk c).owesAt () t.castSucc
    ∗ (∃ d, owns (c : Thread nD τ) (ms1_0 a t) fullShare ((dat1 V a hchk c).before 0 t d))
    ∗ (∃ d, owns (c : Thread nD τ) (ms1_1 a t) fullShare ((dat1 V a hchk c).before 1 t d))
    ∗ (∃ d, owns (c : Thread nD τ) (ms1_2 a t) fullShare ((dat1 V a hchk c).before 2 t d))
    ∗ (∃ d, owns (c : Thread nD τ) (ms1_3 a t) fullShare ((dat1 V a hchk c).before 3 t d))
    ∗ (∃ d, owns (c : Thread nD τ) (ms1_4 a t) fullShare ((dat1 V a hchk c).before 4 t d))
    ∗ (∃ d, owns (c : Thread nD τ) (ms1_5 a t) fullShare ((dat1 V a hchk c).before 5 t d))
    ∗ (∃ d, owns (c : Thread nD τ) (ms1_6 a t) fullShare ((dat1 V a hchk c).before 6 t d))
    ∗ (∃ d, owns (c : Thread nD τ) (ms1_7 a t) fullShare ((dat1 V a hchk c).before 7 t d)))

/-- and what it returns. -/
def bodyPost1 (c : Dev nD) (t : Fin grid1.N) : sProp 𝕄 :=
  iprop((dat1 V a hchk c).Φ t.succ ∗ (dat1 V a hchk c).owesAt () t.succ
    ∗ owns (c : Thread nD τ) (ms1_0 a t) fullShare ((dat1 V a hchk c).after 0 t)
    ∗ owns (c : Thread nD τ) (ms1_1 a t) fullShare ((dat1 V a hchk c).after 1 t)
    ∗ owns (c : Thread nD τ) (ms1_2 a t) fullShare ((dat1 V a hchk c).after 2 t)
    ∗ owns (c : Thread nD τ) (ms1_3 a t) fullShare ((dat1 V a hchk c).after 3 t)
    ∗ owns (c : Thread nD τ) (ms1_4 a t) fullShare ((dat1 V a hchk c).after 4 t)
    ∗ owns (c : Thread nD τ) (ms1_5 a t) fullShare ((dat1 V a hchk c).after 5 t)
    ∗ owns (c : Thread nD τ) (ms1_6 a t) fullShare ((dat1 V a hchk c).after 6 t)
    ∗ owns (c : Thread nD τ) (ms1_7 a t) fullShare ((dat1 V a hchk c).after 7 t))

set_option maxHeartbeats 1600000 in
/-- The body at any point: the inputs' memrefs hold their blocks (`before1_W`); the closed forms say which case the point is in (`by_cases`), an output the case reads before covering holds what the point before left (`before1_W_κ`); so the
    run applies; the invariant (`PhiM_eq`) hands the body its scratch, the register, its DMA cells at zero and the HBM operands, and takes them back as they were; the core's `owes` goes in at whatever the points before recorded and comes back with this point's waits, within the next point's bound (everything). -/
theorem sound_body1 (c : Dev nD) (t : Fin grid1.N) :
    bodyPre1 V a hchk c t ⊢ wp frame (wpE (defs₀ (F := F)) Variants.none c none) Set.univ (bodyAt1 a t) (fun _ => bodyPost1 V a hchk c t) := by
  unfold bodyPre1 bodyPost1 bodyAt1
  simp only [before1_0, before1_1, before1_2, before1_3, before1_4, before1_5, before1_6]
  rw [show (dat1 V a hchk c).Φ t.succ = (dat1 V a hchk c).Φ t.castSucc from rfl,
    after1_0, after1_1, after1_2, after1_3, after1_4, after1_5, after1_6, after1_7]
  rw [show (dat1 V a hchk c).Φ t.castSucc = PhiM V c from rfl, PhiM_eq]
  unfold Dat.owesAt Pipeline.owesWithin
  rw [show (dat1 V a hchk c).owed t.castSucc = 0 from rfl, show (dat1 V a hchk c).owed t.succ = 0 from rfl]
  have hN : t.val < 640 := lt_of_lt_of_eq t.isLt (show grid1.N = 640 from N_1)
  by_cases h0 : t.val % 32 = 0
  · rw [outsAt1_A V a hchk c t h0]
    unfold out1_A_7
    iintro ⟨⟨⟨HSa, HSb, HSc, HSd, HS0, HS1⟩, Hg, Hq0, Hh0, HT⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((mainRunA c (grid1.coords t) _ _ _ _ _ _ _ _ _ _ _ _ _ _ _ _ _ _ _ _ ((hcondM t).mpr h0) (iblk1 V a c 0 t) (iblk1 V a c 1 t) (iblk1 V a c 2 t) (iblk1 V a c 3 t) (iblk1 V a c 4 t) (iblk1 V a c 5 t) (iblk1 V a c 6 t) (V c main_arg4) (V c main_v11) (hchk c _ ((hcondM t).mpr h0))).2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [Hq0]; · iexact Hq0
    isplitl [Hh0]; · iexact Hh0
    isplitl [HT]; · iexact HT
    isplitl [HW]; · iexact HW
    iintro ⟨H0, H1, H2, H3, H4, H5, H6, ⟨%e7, H7⟩, ⟨%fT0, HS0⟩, HS1, Hq0, Hh0, HT, ⟨%W', HW'⟩⟩
    isplitl [HSa HSb HSc HSd HS0 HS1 Hg Hq0 Hh0 HT]
    · isplitl [HSa HSb HSc HSd HS0 HS1]
      · isplitl [HSa]
        · iexact HSa
        isplitl [HSb]
        · iexact HSb
        isplitl [HSc]
        · iexact HSc
        isplitl [HSd]
        · iexact HSd
        isplitl [HS0]
        · iexists _; unfold owns; iexists _; isplitr
          swap; · iexact HS0
          ipureintro; rfl
        iexact HS1
      isplitl [Hg]
      · iexact Hg
      isplitl [Hq0]
      · iexact Hq0
      isplitl [Hh0]
      · iexact Hh0
      iexact HT
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover1_A_7 c _ _ _ _ _ _ _ _ _ _ _ _ _ _ _ _ _ _ _ _ _ _ _ _ _ _ _ _ _ _ _ _)
  · rw [outsAt1_B V a hchk c t h0]
    simp only [before1_7_B V a hchk c t h0]
    unfold out1_B_7
    iintro ⟨⟨⟨HSa, HSb, HSc, HSd, HS0, HS1⟩, Hg, Hq0, Hh0, HT⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((mainRunB c (grid1.coords t) _ _ _ _ _ _ _ _ _ _ _ _ _ _ _ _ _ _ _ _ (fun h => h0 ((hcondM t).mp h)) (iblk1 V a c 0 t) (iblk1 V a c 1 t) (iblk1 V a c 2 t) (iblk1 V a c 3 t) (iblk1 V a c 4 t) (iblk1 V a c 5 t) (iblk1 V a c 6 t) _ (V c main_arg4) (V c main_v11)).2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [Hq0]; · iexact Hq0
    isplitl [Hh0]; · iexact Hh0
    isplitl [HT]; · iexact HT
    isplitl [HW]; · iexact HW
    iintro ⟨H0, H1, H2, H3, H4, H5, H6, ⟨%e7, H7⟩, ⟨%fT0, HS0⟩, HS1, Hq0, Hh0, HT, ⟨%W', HW'⟩⟩
    isplitl [HSa HSb HSc HSd HS0 HS1 Hg Hq0 Hh0 HT]
    · isplitl [HSa HSb HSc HSd HS0 HS1]
      · isplitl [HSa]
        · iexact HSa
        isplitl [HSb]
        · iexact HSb
        isplitl [HSc]
        · iexact HSc
        isplitl [HSd]
        · iexact HSd
        isplitl [HS0]
        · iexists _; unfold owns; iexists _; isplitr
          swap; · iexact HS0
          ipureintro; rfl
        iexact HS1
      isplitl [Hg]
      · iexact Hg
      isplitl [Hq0]
      · iexact Hq0
      isplitl [Hh0]
      · iexact Hh0
      iexact HT
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover1_B_7 c _ _ _ _ _ _ _ _ _ _ _ _ _ _ _ _ _ _ _ _ _ _ _ _ _ _ _ _ _ _ _ _)

/-- The body table's row at point `t`'s slots is the body as `bodyAt1` spells it. -/
theorem defs₀_row1 (t : Fin grid1.N) :
    defs₀ (F := F) .tc (cfg1 a).body ((cfg1 a).bodyArgs t ((cfg1 a).slots t)) = bodyAt1 a t := by
  unfold defs₀; rw [Defs.onTc_tc]

/-- The library's body obligation, at every point: the body's triple restated (Lib/Pipeline/FrameBody.lean `triple_restated`). -/
theorem body_obligation1 (c : Dev nD) : BodyObligation (dat1 (F := F) V a hchk c) (defs₀ (F := F)) Variants.none () Set.univ := fun t => by
  rw [bigSep_W1, bigSep_W1, defs₀_row1]
  exact triple_restated (sound_body1 V a hchk c t) rfl .rfl fun _ => .rfl

end Cert.KernelIdeal.Hand

end
-- ==== Proof.Whole.lean ====
/-
  The whole run: the two kernels' regions between the host operations.
-/
module

public import proofs.«01_k».proof.Proof.RunCond
public import proofs.«01_k».proof.Proof.StatsRegion
public import proofs.«01_k».proof.Proof.MainRegion
public import Idealize.ShloMosaic.Lib.Pipeline.Regions
public import Idealize.ShloMosaic.Lib.Pipeline.RegionArrays
public import Idealize.ShloMosaic.Lib.Pipeline.RegionArraysDT
public import Idealize.ShloMosaic.Lib.Pipeline.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the two kernels leave -/

/-- The unscoped buffers when the statistics kernel is entered. -/
abbrev E1 (c : Dev nD) (b : Ref sig .tc) : Buf (Elt F) ((c : Thread nD τ).loc b) := V1 m c b
/-- What the statistics kernel leaves in its result. -/
def out1 (c : Dev nD) : Buf (Elt F) ((c : Thread nD τ).loc main_v1) := (dat0 (E1 m) c).arrAt 1 cfg0.N
/-- The unscoped buffers after it, -/
def W2 (c : Dev nD) : Valuation τ sig (Elt F) := Function.update (V1 m c) main_v1 (out1 m c)
/-- and when the main kernel is entered. -/
def W3 (c : Dev nD) : Valuation τ sig (Elt F) := StableHlo.after hostOps1 (W2 m c)
abbrev E3 (c : Dev nD) (b : Ref sig .tc) : Buf (Elt F) ((c : Thread nD τ).loc b) := W3 m c b

/-- The table the main kernel is given, on the one core. -/
def adm (p : Fin 2) : (pcfgs (F := F) p).Adm := match p with
  | ⟨0, _⟩ => cfg0.toPCfg_adm
  | ⟨1, _⟩ => ⟨fun | 0 => W3 m 0 main_v11, trivial⟩

/-- The table words meet the main kernel's side condition. -/
abbrev TableOk : Prop := ∀ (c : Dev nD) (i : grid1.Coords) (h : condM i), k1_chk1 i (tblLo c i h (E3 m c main_v11)) (tblHi c i h (E3 m c main_v11))

variable (hchk : TableOk m)

/-- What the main kernel leaves in its result. -/
def out2 (c : Dev nD) : Buf (Elt F) ((c : Thread nD τ).loc main_v17) := (dat1 (E3 m) (adm m 1) hchk c).arrAt 7 grid1.N

def outsW : Outs (F := F) := fun j r c =>
  if j = 2 then Function.update (fun r : Ref sig .tc => m ((c : Thread nD τ).loc r)) main_v1 (out1 m c) r
  else Function.update (fun r : Ref sig .tc => m ((c : Thread nD τ).loc r)) main_v17 (out2 m hchk c) r

theorem outsW_2 (c : Dev nD) : outsW m hchk 2 main_v1 c = out1 m c := by
  unfold outsW; rw [if_pos rfl, Function.update_self]
theorem outsW_4 (c : Dev nD) : outsW m hchk 4 main_v17 c = out2 m hchk c := by
  unfold outsW; rw [if_neg (by decide), Function.update_self]
theorem V2_eq (c : Dev nD) : V2 m (outsW m hchk) c = W2 m c := by
  unfold V2 W2; rw [outsW_2]
theorem V3_eq (c : Dev nD) : V3 m (outsW m hchk) c = W3 m c := by
  unfold V3 W3; rw [V2_eq]

/-! ## The proof data and levels -/

def pdats (p : Fin 2) (c : Dev nD) : Dat τ (Elt F) Unit ℕ (Pipeline.UD sig nD τ) ℕ (Pipeline.pin (pcfgs (F := F)) (adm m) p) c := match p with
  | ⟨0, _⟩ => dat0 (E1 m) c
  | ⟨1, _⟩ => dat1 (E3 m) (adm m 1) hchk c

def Lv (g : GSem nD τ sig) : Finset Unit := if g.1.2 = .tc then {()} else ∅
def lv (_ : GSem nD τ sig) (_ : Unit) : ℕ := 0
theorem Lv_ne (g : GSem nD τ sig) (h : g.1.2 ≠ .tc) : Lv g = ∅ := if_neg h
theorem Lv_tc (c : Dev nD) (s : SemLoc sig) : () ∈ Lv ((c : Thread nD τ), s) := by
  unfold Lv; rw [if_pos rfl]; exact Finset.mem_singleton_self _

theorem cut (p : Fin 2) : Pipeline.LevelCut (pcfgs (F := F)) (adm m) () Lv lv p (fun _ => 0) fun _ => 0 where
  hι c w s := Lv_tc c _
  hιb c w s := le_refl _
  hD c g i h := absurd h (by simp)

/-- What rides along the buffers between the items. -/
abbrev Er (c : Dev nD) : sProp 𝕄 := iprop((∃ r, prngReg c r) ∗ ∃ W, owes (c : Thread nD τ) (0 : CellTallies nD τ sig Unit) W)

/-! ## The statistics kernel's region -/

theorem arr0_S : Pipeline.arrRefs (τ := τ) spec0 ⊆ Pipeline.ucRefs τ sig := Pipeline.arrRefs_sub_ucRefs spec0 (by decide)

theorem W2_of (c : Dev nD) (r : DevRef τ sig) (h : r ≠ Proc.devRef .tc main_v1) : W2 m c r = V1 m c r := by
  unfold W2; exact Function.update_of_ne h _ _
theorem W2_at (c : Dev nD) : W2 m c (Proc.devRef .tc main_v1) = out1 m c := by
  unfold W2; exact Function.update_self _ _ _

set_option backward.isDefEq.respectTransparency.types false in
def R0 : Pipeline.RegionSeg (pcfgs (F := F)) (adm m) (pdats m hchk) () defs₀ Variants.none Lv lv 0 :=
  Pipeline.RegionSeg.ofHeld (pcfgs (F := F)) (adm m) (pdats m hchk) () defs₀ Variants.none Lv lv 0 (fun _ => 0)
    (fun c => iprop(∃ r, prngReg c r)) (fun c => iprop(∃ r, prngReg c r)) launch0 rfl
    (fun c => (body_obligation0 (E1 m) c).loose) (fun _ _ => rfl) (fun _ => rfl)
    (fun c => (pdats m hchk 0 c).share_full fun _ => rfl) (fun _ => .rfl) (fun _ => .rfl) (fun _ => 0) (cut m 0)
    (fun c => StableHlo.held (c : Thread nD τ) (Pipeline.ucRefs τ sig \ Pipeline.arrRefs spec0) (V1 m c))
    (V1 m) (W2 m) (fun _ _ => rfl)
    (fun c => fun
      | 0 => ((pdats m hchk 0 c).arrAt_in 0 rfl _).trans (W2_of m c _ (StableHlo.devRef_ne_of_ne (by decide))).symm
      | 1 => (W2_at m c).symm
      | ⟨_ + 2, h⟩ => absurd h (Nat.not_lt.2 (Nat.le_add_left _ _)))

theorem hpre0 (c : Dev nD) : iprop(StableHlo.held (c : Thread nD τ) (Pipeline.ucRefs τ sig) (V1 m c) ∗ Er c) ⊢ (R0 m hchk).pre c := by
  show _ ⊢ (iprop(StableHlo.held (c : Thread nD τ) (Pipeline.arrRefs spec0) (V1 m c) ∗ (∃ r, prngReg c r)
    ∗ StableHlo.held (c : Thread nD τ) (Pipeline.ucRefs τ sig \ Pipeline.arrRefs spec0) (V1 m c)
    ∗ ∃ W, owes (c : Thread nD τ) (0 : CellTallies nD τ sig Unit) W) : sProp 𝕄)
  rw [StableHlo.held_sub_split (c : Thread nD τ) arr0_S (V1 m c)]
  iintro ⟨⟨Ha, Hr⟩, Hp, HO⟩
  isplitl [Ha]; · iexact Ha
  isplitl [Hp]; · iexact Hp
  isplitl [Hr]; · iexact Hr
  iexact HO

theorem rest0_eq (c : Dev nD) (b : DevRef τ sig) (h : b ∈ Pipeline.ucRefs τ sig \ Pipeline.arrRefs spec0) : W2 m c b = V1 m c b :=
  W2_of m c b fun e => (Finset.mem_sdiff.mp h).2 (by
    rw [e]; exact Finset.mem_map_of_mem _ (Finset.mem_image_of_mem _ (Finset.mem_univ (1 : Fin 2))))

theorem hpost0 (c : Dev nD) : (R0 m hchk).post c ⊢ iprop(StableHlo.held (c : Thread nD τ) (Pipeline.ucRefs τ sig) (W2 m c) ∗ Er c) := by
  show (iprop(StableHlo.held (c : Thread nD τ) (Pipeline.arrRefs spec0) (W2 m c) ∗ (∃ r, prngReg c r)
    ∗ StableHlo.held (c : Thread nD τ) (Pipeline.ucRefs τ sig \ Pipeline.arrRefs spec0) (V1 m c)
    ∗ ∃ W, owes (c : Thread nD τ) (0 : CellTallies nD τ sig Unit) W) : sProp 𝕄) ⊢ _
  rw [StableHlo.held_sub_split (c : Thread nD τ) arr0_S (W2 m c), StableHlo.held_congr (c : Thread nD τ) (rest0_eq m c)]
  iintro ⟨Ha, Hp, Hr, HO⟩
  isplitl [Ha Hr]
  · isplitl [Ha]; · iexact Ha
    iexact Hr
  isplitl [Hp]; · iexact Hp
  iexact HO

/-! ## The main kernel's region -/

/-- The unscoped buffers when the main kernel is left. -/
def W4 (c : Dev nD) : Valuation τ sig (Elt F) := Function.update (W3 m c) main_v17 (out2 m hchk c)
theorem V4_eq (c : Dev nD) : V4 m (outsW m hchk) c = W4 m hchk c := by
  unfold V4 W4; rw [outsW_4, V3_eq]
theorem W4_of (c : Dev nD) (r : DevRef τ sig) (h : r ≠ Proc.devRef .tc main_v17) : W4 m hchk c r = W3 m c r := by
  unfold W4; exact Function.update_of_ne h _ _
theorem W4_at (c : Dev nD) : W4 m hchk c (Proc.devRef .tc main_v17) = out2 m hchk c := by
  unfold W4; exact Function.update_self _ _ _

/-- The buffers that are neither the main kernel's arrays nor its table. -/
abbrev Sr1 : Finset (DevRef τ sig) := (Pipeline.ucRefs τ sig \ Pipeline.arrRefs spec1) \ Pipeline.tblRefs pre1

theorem arr1_S : Pipeline.arrRefs (τ := τ) spec1 ⊆ Pipeline.ucRefs τ sig := Pipeline.arrRefs_sub_ucRefs spec1 (by decide)

theorem adm_1 : (adm m 1).1 (0 : Fin 1) = W3 m 0 (Proc.devRef .tc main_v11) := by dsimp only [adm]

theorem tbl_v11 (c : Dev nD) (k : Fin 1) : (adm m 1).1 k = W3 m c (Proc.devRef .tc (pre1.ref k)) := by
  have hk : k = 0 := Subsingleton.elim _ _
  have hc : c = 0 := Subsingleton.elim _ _
  rw [hk, hc]
  exact adm_1 m

theorem tbl_held (c : Dev nD) : (Pipeline.tablesAt (pcfgs (F := F)) (adm m) 1 c : sProp 𝕄) = hbPt c tbM (W3 m c main_v11) := by
  show Pipeline.prefHeld pre1 c (fun _ => fullShare) (adm m 1).1 = _
  rw [Pipeline.prefHeld_held pre1 (by decide) c _ (W3 m c) (tbl_v11 m c)]
  unfold StableHlo.held
  rw [show Pipeline.tblRefs (τ := τ) pre1 = {Proc.devRef .tc main_v11} from by decide, BI.bigSep_singleton]

theorem W4_tbl (c : Dev nD) (k : Fin 1) : (adm m 1).1 k = W4 m hchk c (Proc.devRef .tc (pre1.ref k)) :=
  (tbl_v11 m c k).trans (W4_of m hchk c _ (StableHlo.devRef_ne_of_ne (by
    have hk : k = 0 := Subsingleton.elim _ _
    rw [hk]; decide))).symm

theorem exit1 (c : Dev nD) (w : Fin 8) : (pdats m hchk 1 c).arrAt w grid1.N = W4 m hchk c (Proc.devRef .tc (Pipeline.arrRef spec1 w)) := by
  match w with
  | 0 => exact ((pdats m hchk 1 c).arrAt_in 0 rfl _).trans <| (A_eq1 (E3 m) (adm m 1) hchk c 0).trans (W4_of m hchk c (Proc.devRef .tc (Pipeline.arrRef spec1 0)) (StableHlo.devRef_ne_of_ne (by decide))).symm
  | 1 => exact ((pdats m hchk 1 c).arrAt_in 1 rfl _).trans <| (A_eq1 (E3 m) (adm m 1) hchk c 1).trans (W4_of m hchk c (Proc.devRef .tc (Pipeline.arrRef spec1 1)) (StableHlo.devRef_ne_of_ne (by decide))).symm
  | 2 => exact ((pdats m hchk 1 c).arrAt_in 2 rfl _).trans <| (A_eq1 (E3 m) (adm m 1) hchk c 2).trans (W4_of m hchk c (Proc.devRef .tc (Pipeline.arrRef spec1 2)) (StableHlo.devRef_ne_of_ne (by decide))).symm
  | 3 => exact ((pdats m hchk 1 c).arrAt_in 3 rfl _).trans <| (A_eq1 (E3 m) (adm m 1) hchk c 3).trans (W4_of m hchk c (Proc.devRef .tc (Pipeline.arrRef spec1 3)) (StableHlo.devRef_ne_of_ne (by decide))).symm
  | 4 => exact ((pdats m hchk 1 c).arrAt_in 4 rfl _).trans <| (A_eq1 (E3 m) (adm m 1) hchk c 4).trans (W4_of m hchk c (Proc.devRef .tc (Pipeline.arrRef spec1 4)) (StableHlo.devRef_ne_of_ne (by decide))).symm
  | 5 => exact ((pdats m hchk 1 c).arrAt_in 5 rfl _).trans <| (A_eq1 (E3 m) (adm m 1) hchk c 5).trans (W4_of m hchk c (Proc.devRef .tc (Pipeline.arrRef spec1 5)) (StableHlo.devRef_ne_of_ne (by decide))).symm
  | 6 => exact ((pdats m hchk 1 c).arrAt_in 6 rfl _).trans <| (A_eq1 (E3 m) (adm m 1) hchk c 6).trans (W4_of m hchk c (Proc.devRef .tc (Pipeline.arrRef spec1 6)) (StableHlo.devRef_ne_of_ne (by decide))).symm
  | 7 => exact (W4_at m hchk c).symm

theorem Phi_in (c : Dev nD) : (iprop(iprop(Pipeline.scopedRest spec1 c ∗ (∃ r, prngReg c r) ∗ Pipeline.ownSems0 osem1 c
        ∗ (bigSep H1 fun b => ((c.tc : Thread nD τ).loc b) ↦{fullShare} W3 m c (Proc.devRef .tc b)) ∗ Transfers.MayWaits (c : Thread nD τ) () (0 : CellTallies nD τ sig Unit))
        ∗ Pipeline.tablesAt (pcfgs (F := F)) (adm m) 1 c) : sProp 𝕄) ⊢ PhiM (E3 m) c := by
  rw [tbl_held]; unfold PhiM
  iintro ⟨⟨Hs, Hp, Ho, Hh, -⟩, Ht⟩
  isplitl [Hs]; · iexact Hs
  isplitl [Hp]; · iexact Hp
  isplitl [Ho]; · iexact Ho
  isplitl [Hh]; · iexact Hh
  iexact Ht

theorem Phi_out (c : Dev nD) : PhiM (E3 m) c ⊢ (iprop(iprop(Pipeline.scopedRest spec1 c ∗ (∃ r, prngReg c r) ∗ Pipeline.ownSems0 osem1 c
        ∗ (bigSep H1 fun b => ((c.tc : Thread nD τ).loc b) ↦{fullShare} W3 m c (Proc.devRef .tc b)))
        ∗ Pipeline.tablesAt (pcfgs (F := F)) (adm m) 1 c) : sProp 𝕄) := by
  rw [tbl_held]; unfold PhiM
  iintro ⟨Hs, Hp, Ho, Hh, Ht⟩
  isplitr [Ht]
  · isplitl [Hs]; · iexact Hs
    isplitl [Hp]; · iexact Hp
    isplitl [Ho]; · iexact Ho
    iexact Hh
  iexact Ht

theorem H1_sub : Pipeline.hbmRefs (τ := τ) H1 ⊆ Sr1 := by
  intro b hb
  obtain ⟨r, hr, rfl⟩ := Finset.mem_map.mp hb
  obtain rfl := Finset.mem_singleton.mp hr
  refine Finset.mem_sdiff.mpr ⟨Finset.mem_sdiff.mpr ⟨?_, ?_⟩, ?_⟩
  · exact Finset.mem_filter.mpr ⟨StableHlo.devRef_mem_tcRefs _, by decide⟩
  · intro h
    obtain ⟨r', hr', e⟩ := Finset.mem_map.mp h
    obtain ⟨w, -, rfl⟩ := Finset.mem_image.mp hr'
    exact absurd (Proc.devRef_injective _ e) (by revert w; decide)
  · intro h
    obtain ⟨r', hr', e⟩ := Finset.mem_map.mp h
    obtain ⟨w, -, rfl⟩ := Finset.mem_image.mp hr'
    exact absurd (Proc.devRef_injective _ e) (by revert w; decide)

set_option backward.isDefEq.respectTransparency.types false in
def R1 : Pipeline.RegionSeg (pcfgs (F := F)) (adm m) (pdats m hchk) () defs₀ Variants.none Lv lv 1 :=
  Pipeline.RegionSeg.ofHeldDHT (pcfgs (F := F)) (adm m) (pdats m hchk) () defs₀ Variants.none Lv lv 1 (fun _ => 0)
    () osem1 ownSemFacts1 H1 Sr1 H1_sub launch1
    (fun c => (body_obligation1 (E3 m) (adm m 1) hchk c).loose) (fun _ _ => rfl) (fun _ => rfl)
    (fun c => (pdats m hchk 1 c).share_full fun _ => rfl)
    (fun c => (show _ ⊢ (BI.emp : sProp 𝕄) from by iintro -; iempintro).trans (Transfers.MayWaits.zero _ _))
    (W3 m) (W4 m hchk) (Phi_in m) (Phi_out m) (fun _ => 0) (cut m 1) (fun _ => BI.emp)
    (fun _ _ => rfl) (tbl_v11 m) (exit1 m hchk) (W4_tbl m hchk)

theorem tbl1_S : Pipeline.tblRefs (τ := τ) pre1 ⊆ Pipeline.ucRefs τ sig \ Pipeline.arrRefs spec1 :=
  Pipeline.tblRefs_sub_ucRefs_sdiff spec1 pre1 (by decide) (by decide)

theorem hpre1 (c : Dev nD) : iprop(StableHlo.held (c : Thread nD τ) (Pipeline.ucRefs τ sig) (W3 m c) ∗ Er c) ⊢ (R1 m hchk).pre c := by
  show _ ⊢ (iprop(StableHlo.held (c : Thread nD τ) (Pipeline.arrRefs spec1) (W3 m c) ∗ StableHlo.held (c : Thread nD τ) (Pipeline.tblRefs pre1) (W3 m c) ∗ (∃ r, prngReg c r)
    ∗ (StableHlo.held (c : Thread nD τ) Sr1 (W3 m c) ∗ BI.emp)
    ∗ ∃ W, owes (c : Thread nD τ) (0 : CellTallies nD τ sig Unit) W) : sProp 𝕄)
  rw [StableHlo.held_sub_split (c : Thread nD τ) arr1_S (W3 m c), StableHlo.held_sub_split (c : Thread nD τ) tbl1_S (W3 m c)]
  iintro ⟨⟨Ha, Ht, Hr⟩, Hp, HO⟩
  isplitl [Ha]; · iexact Ha
  isplitl [Ht]; · iexact Ht
  isplitl [Hp]; · iexact Hp
  isplitl [Hr]
  · isplitl [Hr]; · iexact Hr
    iempintro
  iexact HO

theorem rest1_eq (c : Dev nD) (b : DevRef τ sig) (h : b ∈ Sr1) : W4 m hchk c b = W3 m c b :=
  W4_of m hchk c b fun e => (Finset.mem_sdiff.mp (Finset.mem_sdiff.mp h).1).2 (by
    rw [e]; exact Finset.mem_map_of_mem _ (Finset.mem_image_of_mem _ (Finset.mem_univ (7 : Fin 8))))

theorem hpost1 (c : Dev nD) : (R1 m hchk).post c ⊢ iprop(StableHlo.held (c : Thread nD τ) (Pipeline.ucRefs τ sig) (W4 m hchk c) ∗ Er c) := by
  show (iprop(StableHlo.held (c : Thread nD τ) (Pipeline.arrRefs spec1) (W4 m hchk c) ∗ StableHlo.held (c : Thread nD τ) (Pipeline.tblRefs pre1) (W4 m hchk c) ∗ (∃ r, prngReg c r)
    ∗ (StableHlo.held (c : Thread nD τ) Sr1 (W3 m c) ∗ BI.emp)
    ∗ ∃ W, owes (c : Thread nD τ) (0 : CellTallies nD τ sig Unit) W) : sProp 𝕄) ⊢ _
  rw [StableHlo.held_sub_split (c : Thread nD τ) arr1_S (W4 m hchk c), StableHlo.held_sub_split (c : Thread nD τ) tbl1_S (W4 m hchk c),
    StableHlo.held_congr (c : Thread nD τ) (rest1_eq m hchk c)]
  iintro ⟨Ha, Ht, Hp, ⟨Hr, -⟩, HO⟩
  isplitl [Ha Ht Hr]
  · isplitl [Ha]; · iexact Ha
    isplitl [Ht]; · iexact Ht
    iexact Hr
  isplitl [Hp]; · iexact Hp
  iexact HO

/-! ## The run -/

/-- From any memory whose table words meet the main kernel's side condition: every run ends, with the arguments as
    launched, the result at what the main kernel leaves, and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v17) = out2 m hchk c)
      ∧ r.2.sem = fun _ => 0) := by
  simp only [← outsW_4 m hchk]
  refine run_cond m (Ix := Unit) (U := Pipeline.UD sig nD τ) (Lvl := ℕ) embL () Variants.none Lv lv Lv_ne ρ (outsW m hchk) (adm m) (pdats m hchk)
    (fun _ => 0) (fun _ => iprop(emp)) (initOf (Pipeline.cells (Pipeline.pin (pcfgs (F := F)) (adm m)) (cellOf_inj (adm m))) (Pipeline.launchToks (Pipeline.pin (pcfgs (F := F)) (adm m)) (cellOf_inj (adm m))), 1)
    ?hu (fun _ => Er) ?hE0 ?hE2
    (R0 m hchk) (hpre0 m hchk) (fun c => by rw [V2_eq]; exact hpost0 m hchk c)
    (R1 m hchk) (fun c => by rw [V3_eq]; exact hpre1 m hchk c) (fun c => by rw [V4_eq]; exact hpost1 m hchk c)
  case hu =>
    iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case hE0 =>
    iintro ⟨H, -⟩
    imodintro
    iapply (show (bigSep Finset.univ fun c : Dev nD => iprop(unscopedSems0 c ∗ owes (c : Thread nD τ) (0 : CellTallies nD τ sig Unit) ∅ ∗ Pipeline.launchCred (fun _ => 0) c ∗ prngReg c (ρ c) ∗ emp) : sProp 𝕄)
        ⊢ bigSep Finset.univ Er from bigSep_mono fun c _ => (show (iprop(unscopedSems0 c ∗ owes (c : Thread nD τ) (0 : CellTallies nD τ sig Unit) ∅ ∗ Pipeline.launchCred (fun _ => 0) c ∗ prngReg c (ρ c) ∗ emp) : sProp 𝕄) ⊢ Er c from by
      iintro ⟨-, HO, -, Hp, -⟩
      isplitl [Hp]; · iexists _; iexact Hp
      iexists _; iexact HO))
    iexact H
  case hE2 =>
    intro c
    iintro ⟨-, HO⟩
    iexact HO

end Cert.KernelIdeal.Hand

end
-- ==== Proof.Table.lean ====
/-
  The table words and the loop over the embedding blocks: every word is at most 16384, so the loop makes sense and each
  of its blocks lies inside the embedding arrays.
-/
module

public import proofs.«01_k».proof.Proof.Whole
public import Idealize.ShloMosaic.Lib.Routing.Words
public import Idealize.ShloMosaic.Lib.LoopRemainder
public import Idealize.ShloMosaic.Lib.StableHlo.Predicate
public import Idealize.ShloMosaic.Lib.Tactic.CleanTypes
public import Idealize.ShloMosaic.Lib.StableHlo.ReadAt

@[expose] public section

set_option maxRecDepth 16384

noncomputable section

namespace Cert.KernelIdeal.Hand

open Cert.KernelIdeal.Gen
open Idealize.ShloMosaic Idealize.ShloMosaic.TcCoe Idealize.ShloMosaic.Tactic

/-- One past the last embedding block that the words `a` and `b` select. -/
def blkEnd (a b : ℕ) : ℕ := if a < b then (b + 255) / 256 else a / 256

theorem blkEnd_bounds {a b : ℕ} (ha : a ≤ 16384) (hb : b ≤ 16384) : a / 256 ≤ blkEnd a b ∧ blkEnd a b ≤ 64 := by
  unfold blkEnd; split <;> omega

theorem sdiv256 {a : ℕ} (ha : a < 2 ^ 31) : Scalar.divsi (BitVec.ofNat 32 a) 256#32 = BitVec.ofNat 32 (a / 256) :=
  Routing.divsi_word .scalar ha (by decide) (by decide)

/-- The printed floor division by 256 is the division. -/
theorem floor256 {a : ℕ} (ha : a ≤ 16384) :
    Scalar.select (Scalar.andi (Scalar.cmpi .ne (Scalar.subi (Scalar.extui (Scalar.cmpi .sgt (BitVec.ofNat 32 a) 0#32) : BitVec 32) (Scalar.extui (Scalar.cmpi .slt (BitVec.ofNat 32 a) 0#32)))
      (Scalar.subi (Scalar.extui (Scalar.cmpi .sgt 256#32 0#32)) (Scalar.extui (Scalar.cmpi .slt 256#32 0#32))))
      (Scalar.cmpi .ne (Scalar.remsi (BitVec.ofNat 32 a) 256#32) 0#32))
      (Scalar.subi (Scalar.divsi (BitVec.ofNat 32 a) 256#32) 1#32) (Scalar.divsi (BitVec.ofNat 32 a) 256#32) = BitVec.ofNat 32 (a / 256) := by
  rw [sdiv256 (by omega)]
  rcases Nat.eq_zero_or_pos a with rfl | h
  · decide
  · have h1 : Scalar.cmpi .sgt (BitVec.ofNat 32 a) 0#32 = 1#1 := by
      refine (StableHlo.Predicate.sgt_iff_toNat ?_ ?_).2 ?_ <;> simp <;> omega
    have h2 : Scalar.cmpi .slt (BitVec.ofNat 32 a) 0#32 = 0#1 := by
      refine (Or.resolve_right (show Scalar.cmpi .slt (BitVec.ofNat 32 a) 0#32 = 0#1 ∨ Scalar.cmpi .slt (BitVec.ofNat 32 a) 0#32 = 1#1 from ?_) ?_)
      · generalize Scalar.cmpi .slt (BitVec.ofNat 32 a) 0#32 = x
        revert x; decide
      · intro e
        have := (StableHlo.Predicate.slt_iff_toNat (a := BitVec.ofNat 32 a) (b := 0#32) (by simp; omega) (by simp)).1 e
        simp at this
    rw [h1, h2]
    generalize Scalar.cmpi .ne (Scalar.remsi (BitVec.ofNat 32 a) 256#32) 0#32 = y
    have e : Scalar.cmpi .ne (Scalar.subi (Scalar.extui (1#1 : BitVec 1) : BitVec 32) (Scalar.extui (0#1 : BitVec 1)))
        (Scalar.subi (Scalar.extui (Scalar.cmpi .sgt 256#32 0#32)) (Scalar.extui (Scalar.cmpi .slt 256#32 0#32))) = 0#1 := by decide
    rw [e]
    have e2 : Scalar.andi 0#1 y = 0#1 := by revert y; decide
    rw [e2]
    rfl

theorem sub_nat {x y : ℕ} (h : y ≤ x) : BitVec.ofNat 32 x - BitVec.ofNat 32 y = BitVec.ofNat 32 (x - y) := by
  obtain ⟨d, rfl⟩ := Nat.exists_eq_add_of_le h
  rw [Nat.add_sub_cancel_left, BitVec.ofNat_add, BitVec.add_comm, BitVec.add_sub_cancel]

theorem t1_loop_eq {a b : ℕ} (ha : a ≤ 16384) (hb : b ≤ 16384) :
    k1_t1_loop (BitVec.ofNat 32 a) (BitVec.ofNat 32 b) = ⟨BitVec.ofNat 32 (a / 256), BitVec.ofNat 32 (blkEnd a b), 1#32⟩ := by
  have hs : Scalar.select (Scalar.cmpi .sgt (BitVec.ofNat 32 b) (BitVec.ofNat 32 a))
      (Scalar.divsi (Scalar.addi (BitVec.ofNat 32 b) 255#32) 256#32) (BitVec.ofNat 32 (a / 256)) = BitVec.ofNat 32 (blkEnd a b) := by
    have e0 : Scalar.addi (BitVec.ofNat 32 b) 255#32 = BitVec.ofNat 32 (b + 255) := (BitVec.ofNat_add b 255).symm
    rw [e0, sdiv256 (by omega)]
    unfold blkEnd
    have hc := StableHlo.Predicate.sgt_iff_toNat (a := BitVec.ofNat 32 b) (b := BitVec.ofNat 32 a) (by simp; omega) (by simp; omega)
    have ea : (BitVec.ofNat 32 a).toNat = a := by simp; omega
    have eb : (BitVec.ofNat 32 b).toNat = b := by simp; omega
    rw [ea, eb] at hc
    by_cases h : a < b
    · rw [if_pos h]
      have := hc.2 h
      rw [show Scalar.cmpi .sgt (BitVec.ofNat 32 b) (BitVec.ofNat 32 a) = 1#1 from this]
      rfl
    · rw [if_neg h]
      have : Scalar.cmpi .sgt (BitVec.ofNat 32 b) (BitVec.ofNat 32 a) = 0#1 := by
        have hn : Scalar.cmpi .sgt (BitVec.ofNat 32 b) (BitVec.ofNat 32 a) ≠ 1#1 := fun e => h (hc.1 e)
        generalize Scalar.cmpi .sgt (BitVec.ofNat 32 b) (BitVec.ofNat 32 a) = x at hn
        revert x; decide
      rw [this]
      rfl
  unfold k1_t1_loop
  simp only [floor256 ha, hs, Scalar.muli_divsi_one]
  have : Scalar.addi (BitVec.ofNat 32 (a / 256)) (Scalar.subi (BitVec.ofNat 32 (blkEnd a b)) (BitVec.ofNat 32 (a / 256))) = BitVec.ofNat 32 (blkEnd a b) := by
    show BitVec.ofNat 32 (a / 256) + (BitVec.ofNat 32 (blkEnd a b) - BitVec.ofNat 32 (a / 256)) = _
    rw [sub_nat (blkEnd_bounds ha hb).1, ← BitVec.ofNat_add, Nat.add_sub_cancel' (blkEnd_bounds ha hb).1]
  rw [this]

theorem t1_trips {a b : ℕ} (ha : a ≤ 16384) (hb : b ≤ 16384) :
    (k1_t1_loop (BitVec.ofNat 32 a) (BitVec.ofNat 32 b)).trips = blkEnd a b - a / 256 := by
  rw [t1_loop_eq ha hb]
  have h := blkEnd_bounds ha hb
  show Scf.trips _ _ _ = _
  unfold Scf.trips
  rw [WordArith.toInt_ofNat_small _ (by omega), WordArith.toInt_ofNat_small _ (by omega), show (1#32 : BitVec 32).toInt = 1 from by decide]
  omega

theorem t1_iv {a b : ℕ} (ha : a ≤ 16384) (hb : b ≤ 16384) (k : Fin (k1_t1_loop (BitVec.ofNat 32 a) (BitVec.ofNat 32 b)).trips) :
    Scf.iv (BitVec.ofNat 32 (a / 256)) 1#32 k.val = BitVec.ofNat 32 (a / 256 + k.val) ∧ a / 256 + k.val < 64 := by
  have hk : k.val < blkEnd a b - a / 256 := lt_of_lt_of_eq k.isLt (t1_trips ha hb)
  have h := blkEnd_bounds ha hb
  refine ⟨?_, by omega⟩
  unfold Scf.iv
  rw [BitVec.mul_one, BitVec.ofNat_add]

theorem rowsOff_eq {a b : ℕ} (ha : a ≤ 16384) (hb : b ≤ 16384) (k : Fin (k1_t1_loop (BitVec.ofNat 32 a) (BitVec.ofNat 32 b)).trips) :
    k1_off3 (BitVec.ofNat 32 a) (BitVec.ofNat 32 b) k = ![(a / 256 + k.val) * 256, 0] := by
  obtain ⟨h1, h2⟩ := t1_iv ha hb k
  unfold k1_off3
  simp only [floor256 ha, h1]
  have : (Scalar.muli (BitVec.ofNat 32 (a / 256 + k.val)) 256#32).toNat = (a / 256 + k.val) * 256 := by
    show (BitVec.ofNat 32 (a / 256 + k.val) * BitVec.ofNat 32 256).toNat = _
    rw [← BitVec.ofNat_mul, BitVec.toNat_ofNat]; omega
  rw [this]

theorem blkOff_eq {a b : ℕ} (ha : a ≤ 16384) (hb : b ≤ 16384) (k : Fin (k1_t1_loop (BitVec.ofNat 32 a) (BitVec.ofNat 32 b)).trips) :
    k1_off4 (BitVec.ofNat 32 a) (BitVec.ofNat 32 b) k = ![a / 256 + k.val, 0, 0] := by
  obtain ⟨h1, h2⟩ := t1_iv ha hb k
  unfold k1_off4
  simp only [floor256 ha, h1]
  have : (Scalar.indexCast (BitVec.ofNat 32 (a / 256 + k.val)) : Index).toNat = a / 256 + k.val := by
    show (BitVec.ofNat 32 (a / 256 + k.val)).toNat = _
    rw [BitVec.toNat_ofNat]; omega
  rw [this]

/-- The side condition of the main kernel holds of words up to 16384. -/
theorem chk_of_le (i : grid1.Coords) {a b : ℕ} (ha : a ≤ 16384) (hb : b ≤ 16384) : k1_chk1 i (BitVec.ofNat 32 a) (BitVec.ofNat 32 b) := by
  have hne : ∀ k : Fin (k1_t2_loop (BitVec.ofNat 32 a) (BitVec.ofNat 32 b)).trips, False := fun k => Scf.rem_no_trip _ _ k
  refine ⟨fun _ => ?_, fun k _ => ?_, fun k _ hin => ?_, fun k _ => ?_, fun _ => Scf.rem_ok _ _, fun k => (hne k).elim, fun k => (hne k).elim, fun k => (hne k).elim⟩
  · rw [t1_loop_eq ha hb]
    have h := blkEnd_bounds ha hb
    show Scf.OK _ _ _
    refine ⟨show (0 : ℤ) < (1#32 : BitVec 32).toInt by decide, ?_⟩
    unfold Scf.trips
    rw [WordArith.toInt_ofNat_small _ (by omega), WordArith.toInt_ofNat_small _ (by omega), show (1#32 : BitVec 32).toInt = 1 from by decide]
    omega
  · rw [rowsOff_eq ha hb]
    have := (t1_iv ha hb k).2
    intro x; fin_cases x
    · show (a / 256 + k.val) * 256 + 256 ≤ 16384; omega
    · show 0 + 4096 ≤ 4096; omega
  · refine (Rect.wholeWords_iff_at ..).2 ?_
    show Shape.WholeWordsAt S16384x4096 (EltTy.packing .fp8e5m2) (k1_off3 _ _ k) S256x4096.size (fun _ => 1)
    rw [rowsOff_eq ha hb]
    have := (t1_iv ha hb k).2
    generalize a / 256 + k.val = n at *
    revert this; revert n; decide
  · rw [blkOff_eq ha hb]
    have := (t1_iv ha hb k).2
    intro x; fin_cases x
    · show a / 256 + k.val + 1 ≤ 64; omega
    · show 0 + 1 ≤ 1; omega
    · show 0 + 256 ≤ 256; omega

/-! ## The table -/

variable {F : FTy → Type} [FloatOps F] [Named F]
variable (m : (ℓ : Loc nD τ sig) → Buf (Elt F) ℓ)

/-- The mask whose rows the table counts. -/
def tblMask (ids : IVec S16384 32) : IVec S21x16384 1 :=
  cmpi .slt (broadcastInDim S21x16384 ![0, 1] bcast_S1x16384_S21x16384_0_1 (broadcastInDim S1x16384 ![1] bcast_S16384_S1x16384_1 ids))
    (broadcastInDim S21x16384 ![0, 1] bcast_S21x1_S21x16384_0_1 (broadcastInDim S21x1 ![0] bcast_S21_S21x1_0
      (muli (iotaInDim S21 32 0) (broadcastInDim S21 ![] bcast_S_S21 (constantI S_ 32 1024#32)))))

/-- The table as the host computes it. -/
def tblOf (ids : IVec S16384 32) : IVec S21 32 :=
  Host.reduce IntOp.addi (extui 32 (tblMask ids) natLt_1_32) (constantI S_ 32 0#32) reducesTo_S21x16384_S21_d1 h_S_

theorem E3_v11 (c : Dev nD) : E3 m c main_v11 = (tblOf (m ((c : Thread nD τ).loc main_arg6)) : Vec F S21 .i32) := by
  show StableHlo.after hostOps1 (W2 m c) (Proc.devRef .tc main_v11) = _
  have e : W2 m c (Proc.devRef .tc main_arg6) = m ((c : Thread nD τ).loc main_arg6) := by
    refine (Function.update_of_ne (StableHlo.devRef_ne_of_ne (by decide)) _ _).trans ?_
    exact V1_of m c main_arg6 (by decide)
  rw [← e]
  after_reads_simp
  rfl

theorem tblOf_le (ids : IVec S16384 32) (j : S21.Idx) : (tblOf ids j).toNat ≤ 16384 := by
  unfold tblOf
  refine (Nat.le_of_eq (StableHlo.Predicate.toNat_reduce_count_cols (by decide) (tblMask ids) natLt_1_32 reducesTo_S21x16384_S21_d1 h_S_ j)).trans ?_
  refine (Finset.card_le_univ _).trans ?_
  simp

theorem tableOk : TableOk m := by
  intro c i h
  have key : ∀ (off : Fin 1 → ℕ) (hin : ∀ x, off x + S1.size x ≤ S21.size x),
      ∃ a : ℕ, a ≤ 16384 ∧ (View.readAt (Elt F) tbM.view (Rect.unit (s := S21) off S1.size hin).toLoadRect (E3 m c main_v11) (Shape.Idx.first (numel1_S1.symm ▸ Nat.one_pos)) : BitVec 32) = BitVec.ofNat 32 a := by
    intro off hin
    have hr : ∀ ft : HbBuf (F := F) c tbM, ∃ j : S21.Idx, (View.readAt (Elt F) tbM.view (Rect.unit (s := S21) off S1.size hin).toLoadRect ft (Shape.Idx.first (numel1_S1.symm ▸ Nat.one_pos)) : BitVec 32) = ft j := fun ft => ⟨_, rfl⟩
    obtain ⟨j, hj⟩ := hr (E3 m c main_v11)
    refine ⟨(tblOf (m ((c : Thread nD τ).loc main_arg6)) j).toNat, tblOf_le _ _, hj.trans ?_⟩
    rw [BitVec.ofNat_toNat, BitVec.setWidth_eq]
    exact congrFun (E3_v11 m c) j
  obtain ⟨a, ha, ea⟩ := key _ (k1_off1_inb i h)
  obtain ⟨b, hb, eb⟩ := key _ (k1_off2_inb i h)
  unfold tblLo tblHi
  rw [ea, eb]
  exact chk_of_le i ha hb

end Cert.KernelIdeal.Hand
-- ==== Proof.Printed.RunCond.lean ====
/-
  The whole run, given what each of its two kernels leaves: the arguments are unchanged and the result is the second
  kernel's.
-/
module

public import proofs.«01_k».proof.Proof.Gen.Kernel.Regions

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev_sems`'s implicit arguments are found by unifying its conclusion with this one, which takes unfolding
-- plain definitions in a metavariable's type
set_option backward.isDefEq.respectTransparency.types false in
/-- The run of the whole program, given each region's record: the arguments end as launched, the result holds what the
    second region leaves, every counter is at zero. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v17) = outs 4 main_v17 c)
      ∧ r.2.sem = fun _ => 0) := by
  refine Pipeline.θ_run_regions_kit_dev_sems (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_v17) = outs 4 main_v17 c)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c),
        (h (Proc.devRef .tc main_arg4) (Finset.mem_filter.mpr ⟨StableHlo.devRef_mem_tcRefs main_arg4, by decide⟩)).trans (V4_main_arg4 m outs c),
        (h (Proc.devRef .tc main_arg5) (Finset.mem_filter.mpr ⟨StableHlo.devRef_mem_tcRefs main_arg5, by decide⟩)).trans (V4_main_arg5 m outs c),
        (h (Proc.devRef .tc main_arg6) (Finset.mem_filter.mpr ⟨StableHlo.devRef_mem_tcRefs main_arg6, by decide⟩)).trans (V4_main_arg6 m outs c),
        (h (Proc.devRef .tc main_v17) (Finset.mem_filter.mpr ⟨StableHlo.devRef_mem_tcRefs main_v17, by decide⟩)).trans (by simp only [V4, Function.update_self])⟩
    · iexact HSI

end Cert.Kernel.Hand

end
-- ==== Proof.Printed.StatsLoops.lean ====
/-
  The sixteen counted loops of the statistics kernel, each by an invariant: the block of logits is only read, and
  the value carried is the fold of the trips run so far (`fold`), each trip applying the loop's own step to the
  128 columns it loads. The loops come in pairs, one pair for each group of 16 rows: the first takes the running
  maximum over the column groups 1..159, the second adds up the exponentials over the column groups 0..159.
-/
module

public import proofs.«01_k».proof.Proof.Gen.Kernel.Loops
public import Idealize.ShloMosaic.Lib.Pipeline.FrameBody
public import Idealize.ShloMosaic.Lib.Tactic

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The 16 rows and 128 columns of the block that start at the offset `o`. -/
abbrev slice (arg1 : Memref sig .tc .vmem S128x20480 .bf16) (X : BufTy.Contents (Elt F) arg1.view.ty) (o : Fin 2 → ℕ)
    (h : ∀ a, o a + S16x128.size a ≤ S128x20480.size a) : Vec F S16x128 .bf16 :=
  View.readAt (Elt F) arg1.view (Rect.unit (s := S128x20480) o S16x128.size h).toLoadRect X

/-- The value carried after `k` trips of a counted loop of `n` trips with step `f`, from `a`. -/
@[reducible] def fold {α : Type} (n : ℕ) (f : Fin n → α → α) (a : α) (k : ℕ) : α :=
  Nat.rec a (fun k b => if h : k < n then f ⟨k, h⟩ b else b) k

theorem fold_succ {α : Type} (n : ℕ) (f : Fin n → α → α) (a : α) (k : Fin n) :
    fold n f a (k.val + 1) = f k (fold n f a k.val) := dif_pos k.isLt

set_option warn.classDefReducibility false in
/-- The running maximum over the column groups, rows 0 to 15. -/
@[sl_loop] def loop1 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (X : BufTy.Contents (Elt F) arg1.view.ty) (init : FVec F S16x128 .bf16) :
    LoopInvTy_k0_t1 (F := F) Unit ℕ U ℕ 𝒱 c bd E i arg1 harg1 arg2 harg2 init where
  inv k acc := iprop((arg1.view.loc (c : Thread nD τ) ↦[arg1.view.set]{fullShare} X)
    ∗ ⌜acc = fold _ (fun k a => k0_pay11 a (slice arg1 X (k0_off1 k) (k0_off1_inb k))) init k⌝)
  step k acc := by
    iintro ⟨H, %h⟩
    subst h
    unfold k0_t1_body
    sl_exec
    sl_step
    isplitl [H]
    · iexact H
    ipureintro
    exact (fold_succ _ (fun k a => k0_pay11 a (slice arg1 X (k0_off1 k) (k0_off1_inb k))) init k).symm

set_option warn.classDefReducibility false in
/-- The sum of exponentials over the column groups, rows 0 to 15. -/
@[sl_loop] def loop2 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v3 : FVec F S16x128 .bf16) (X : BufTy.Contents (Elt F) arg1.view.ty) (init : FVec F S16x128 .f32) :
    LoopInvTy_k0_t2 (F := F) Unit ℕ U ℕ 𝒱 c bd E i arg1 harg1 arg2 harg2 v3 init where
  inv k acc := iprop((arg1.view.loc (c : Thread nD τ) ↦[arg1.view.set]{fullShare} X)
    ∗ ⌜acc = fold _ (fun k a => k0_pay14 v3 a (slice arg1 X (k0_off2 k) (k0_off2_inb k))) init k⌝)
  step k acc := by
    iintro ⟨H, %h⟩
    subst h
    unfold k0_t2_body
    sl_exec
    sl_step
    isplitl [H]
    · iexact H
    ipureintro
    exact (fold_succ _ (fun k a => k0_pay14 v3 a (slice arg1 X (k0_off2 k) (k0_off2_inb k))) init k).symm

set_option warn.classDefReducibility false in
/-- The running maximum over the column groups, rows 16 to 31. -/
@[sl_loop] def loop3 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (X : BufTy.Contents (Elt F) arg1.view.ty) (init : FVec F S16x128 .bf16) :
    LoopInvTy_k0_t3 (F := F) Unit ℕ U ℕ 𝒱 c bd E i arg1 harg1 arg2 harg2 init where
  inv k acc := iprop((arg1.view.loc (c : Thread nD τ) ↦[arg1.view.set]{fullShare} X)
    ∗ ⌜acc = fold _ (fun k a => k0_pay19 a (slice arg1 X (k0_off3 k) (k0_off3_inb k))) init k⌝)
  step k acc := by
    iintro ⟨H, %h⟩
    subst h
    unfold k0_t3_body
    sl_exec
    sl_step
    isplitl [H]
    · iexact H
    ipureintro
    exact (fold_succ _ (fun k a => k0_pay19 a (slice arg1 X (k0_off3 k) (k0_off3_inb k))) init k).symm

set_option warn.classDefReducibility false in
/-- The sum of exponentials over the column groups, rows 16 to 31. -/
@[sl_loop] def loop4 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v30 : FVec F S16x1 .f32) (cst_17 : F .f32) (X : BufTy.Contents (Elt F) arg1.view.ty) (init : FVec F S16x128 .f32) :
    LoopInvTy_k0_t4 (F := F) Unit ℕ U ℕ 𝒱 c bd E i arg1 harg1 arg2 harg2 v30 cst_17 init where
  inv k acc := iprop((arg1.view.loc (c : Thread nD τ) ↦[arg1.view.set]{fullShare} X)
    ∗ ⌜acc = fold _ (fun k a => k0_pay22 v30 a (slice arg1 X (k0_off4 k) (k0_off4_inb k))) init k⌝)
  step k acc := by
    iintro ⟨H, %h⟩
    subst h
    unfold k0_t4_body
    sl_exec
    sl_step
    isplitl [H]
    · iexact H
    ipureintro
    exact (fold_succ _ (fun k a => k0_pay22 v30 a (slice arg1 X (k0_off4 k) (k0_off4_inb k))) init k).symm

set_option warn.classDefReducibility false in
/-- The running maximum over the column groups, rows 32 to 47. -/
@[sl_loop] def loop5 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v30 : FVec F S16x1 .f32) (cst_17 : F .f32) (X : BufTy.Contents (Elt F) arg1.view.ty) (init : FVec F S16x128 .bf16) :
    LoopInvTy_k0_t5 (F := F) Unit ℕ U ℕ 𝒱 c bd E i arg1 harg1 arg2 harg2 v30 cst_17 init where
  inv k acc := iprop((arg1.view.loc (c : Thread nD τ) ↦[arg1.view.set]{fullShare} X)
    ∗ ⌜acc = fold _ (fun k a => k0_pay27 a (slice arg1 X (k0_off5 k) (k0_off5_inb k))) init k⌝)
  step k acc := by
    iintro ⟨H, %h⟩
    subst h
    unfold k0_t5_body
    sl_exec
    sl_step
    isplitl [H]
    · iexact H
    ipureintro
    exact (fold_succ _ (fun k a => k0_pay27 a (slice arg1 X (k0_off5 k) (k0_off5_inb k))) init k).symm

set_option warn.classDefReducibility false in
/-- The sum of exponentials over the column groups, rows 32 to 47. -/
@[sl_loop] def loop6 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v30 : FVec F S16x1 .f32) (cst_17 : F .f32) (v51 : FVec F S16x128 .bf16) (X : BufTy.Contents (Elt F) arg1.view.ty) (init : FVec F S16x128 .f32) :
    LoopInvTy_k0_t6 (F := F) Unit ℕ U ℕ 𝒱 c bd E i arg1 harg1 arg2 harg2 v30 cst_17 v51 init where
  inv k acc := iprop((arg1.view.loc (c : Thread nD τ) ↦[arg1.view.set]{fullShare} X)
    ∗ ⌜acc = fold _ (fun k a => k0_pay30 v51 a (slice arg1 X (k0_off6 k) (k0_off6_inb k))) init k⌝)
  step k acc := by
    iintro ⟨H, %h⟩
    subst h
    unfold k0_t6_body
    sl_exec
    sl_step
    isplitl [H]
    · iexact H
    ipureintro
    exact (fold_succ _ (fun k a => k0_pay30 v51 a (slice arg1 X (k0_off6 k) (k0_off6_inb k))) init k).symm

set_option warn.classDefReducibility false in
/-- The running maximum over the column groups, rows 48 to 63. -/
@[sl_loop] def loop7 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v61 : FVec F S16x128 .f32) (v64 : FVec F S16x1 .f32) (X : BufTy.Contents (Elt F) arg1.view.ty) (init : FVec F S16x128 .bf16) :
    LoopInvTy_k0_t7 (F := F) Unit ℕ U ℕ 𝒱 c bd E i arg1 harg1 arg2 harg2 v61 v64 init where
  inv k acc := iprop((arg1.view.loc (c : Thread nD τ) ↦[arg1.view.set]{fullShare} X)
    ∗ ⌜acc = fold _ (fun k a => k0_pay37 a (slice arg1 X (k0_off7 k) (k0_off7_inb k))) init k⌝)
  step k acc := by
    iintro ⟨H, %h⟩
    subst h
    unfold k0_t7_body
    sl_exec
    sl_step
    isplitl [H]
    · iexact H
    ipureintro
    exact (fold_succ _ (fun k a => k0_pay37 a (slice arg1 X (k0_off7 k) (k0_off7_inb k))) init k).symm

set_option warn.classDefReducibility false in
/-- The sum of exponentials over the column groups, rows 48 to 63. -/
@[sl_loop] def loop8 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v61 : FVec F S16x128 .f32) (v64 : FVec F S16x1 .f32) (v75 : FVec F S16x128 .bf16) (X : BufTy.Contents (Elt F) arg1.view.ty) (init : FVec F S16x128 .f32) :
    LoopInvTy_k0_t8 (F := F) Unit ℕ U ℕ 𝒱 c bd E i arg1 harg1 arg2 harg2 v61 v64 v75 init where
  inv k acc := iprop((arg1.view.loc (c : Thread nD τ) ↦[arg1.view.set]{fullShare} X)
    ∗ ⌜acc = fold _ (fun k a => k0_pay40 v75 a (slice arg1 X (k0_off8 k) (k0_off8_inb k))) init k⌝)
  step k acc := by
    iintro ⟨H, %h⟩
    subst h
    unfold k0_t8_body
    sl_exec
    sl_step
    isplitl [H]
    · iexact H
    ipureintro
    exact (fold_succ _ (fun k a => k0_pay40 v75 a (slice arg1 X (k0_off8 k) (k0_off8_inb k))) init k).symm

set_option warn.classDefReducibility false in
/-- The running maximum over the column groups, rows 64 to 79. -/
@[sl_loop] def loop9 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v96 : Vec F S16x128 .bf16) (X : BufTy.Contents (Elt F) arg1.view.ty) (init : FVec F S16x128 .bf16) :
    LoopInvTy_k0_t9 (F := F) Unit ℕ U ℕ 𝒱 c bd E i arg1 harg1 arg2 harg2 v96 init where
  inv k acc := iprop((arg1.view.loc (c : Thread nD τ) ↦[arg1.view.set]{fullShare} X)
    ∗ ⌜acc = fold _ (fun k a => k0_pay45 a (slice arg1 X (k0_off9 k) (k0_off9_inb k))) init k⌝)
  step k acc := by
    iintro ⟨H, %h⟩
    subst h
    unfold k0_t9_body
    sl_exec
    sl_step
    isplitl [H]
    · iexact H
    ipureintro
    exact (fold_succ _ (fun k a => k0_pay45 a (slice arg1 X (k0_off9 k) (k0_off9_inb k))) init k).symm

set_option warn.classDefReducibility false in
/-- The sum of exponentials over the column groups, rows 64 to 79. -/
@[sl_loop] def loop10 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v96 : Vec F S16x128 .bf16) (v99 : FVec F S16x128 .bf16) (X : BufTy.Contents (Elt F) arg1.view.ty) (init : FVec F S16x128 .f32) :
    LoopInvTy_k0_t10 (F := F) Unit ℕ U ℕ 𝒱 c bd E i arg1 harg1 arg2 harg2 v96 v99 init where
  inv k acc := iprop((arg1.view.loc (c : Thread nD τ) ↦[arg1.view.set]{fullShare} X)
    ∗ ⌜acc = fold _ (fun k a => k0_pay48 v99 a (slice arg1 X (k0_off10 k) (k0_off10_inb k))) init k⌝)
  step k acc := by
    iintro ⟨H, %h⟩
    subst h
    unfold k0_t10_body
    sl_exec
    sl_step
    isplitl [H]
    · iexact H
    ipureintro
    exact (fold_succ _ (fun k a => k0_pay48 v99 a (slice arg1 X (k0_off10 k) (k0_off10_inb k))) init k).symm

set_option warn.classDefReducibility false in
/-- The running maximum over the column groups, rows 80 to 95. -/
@[sl_loop] def loop11 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v96 : Vec F S16x128 .bf16) (X : BufTy.Contents (Elt F) arg1.view.ty) (init : FVec F S16x128 .bf16) :
    LoopInvTy_k0_t11 (F := F) Unit ℕ U ℕ 𝒱 c bd E i arg1 harg1 arg2 harg2 v96 init where
  inv k acc := iprop((arg1.view.loc (c : Thread nD τ) ↦[arg1.view.set]{fullShare} X)
    ∗ ⌜acc = fold _ (fun k a => k0_pay53 a (slice arg1 X (k0_off11 k) (k0_off11_inb k))) init k⌝)
  step k acc := by
    iintro ⟨H, %h⟩
    subst h
    unfold k0_t11_body
    sl_exec
    sl_step
    isplitl [H]
    · iexact H
    ipureintro
    exact (fold_succ _ (fun k a => k0_pay53 a (slice arg1 X (k0_off11 k) (k0_off11_inb k))) init k).symm

set_option warn.classDefReducibility false in
/-- The sum of exponentials over the column groups, rows 80 to 95. -/
@[sl_loop] def loop12 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v126 : FVec F S16x1 .f32) (v127 : FVec F S16x128 .f32) (c0_i32_86 : BitVec 32) (X : BufTy.Contents (Elt F) arg1.view.ty) (init : FVec F S16x128 .f32) :
    LoopInvTy_k0_t12 (F := F) Unit ℕ U ℕ 𝒱 c bd E i arg1 harg1 arg2 harg2 v126 v127 c0_i32_86 init where
  inv k acc := iprop((arg1.view.loc (c : Thread nD τ) ↦[arg1.view.set]{fullShare} X)
    ∗ ⌜acc = fold _ (fun k a => k0_pay56 v126 a (slice arg1 X (k0_off12 k) (k0_off12_inb k))) init k⌝)
  step k acc := by
    iintro ⟨H, %h⟩
    subst h
    unfold k0_t12_body
    sl_exec
    sl_step
    isplitl [H]
    · iexact H
    ipureintro
    exact (fold_succ _ (fun k a => k0_pay56 v126 a (slice arg1 X (k0_off12 k) (k0_off12_inb k))) init k).symm

set_option warn.classDefReducibility false in
/-- The running maximum over the column groups, rows 96 to 111. -/
@[sl_loop] def loop13 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v126 : FVec F S16x1 .f32) (v127 : FVec F S16x128 .f32) (c0_i32_86 : BitVec 32) (X : BufTy.Contents (Elt F) arg1.view.ty) (init : FVec F S16x128 .bf16) :
    LoopInvTy_k0_t13 (F := F) Unit ℕ U ℕ 𝒱 c bd E i arg1 harg1 arg2 harg2 v126 v127 c0_i32_86 init where
  inv k acc := iprop((arg1.view.loc (c : Thread nD τ) ↦[arg1.view.set]{fullShare} X)
    ∗ ⌜acc = fold _ (fun k a => k0_pay61 a (slice arg1 X (k0_off13 k) (k0_off13_inb k))) init k⌝)
  step k acc := by
    iintro ⟨H, %h⟩
    subst h
    unfold k0_t13_body
    sl_exec
    sl_step
    isplitl [H]
    · iexact H
    ipureintro
    exact (fold_succ _ (fun k a => k0_pay61 a (slice arg1 X (k0_off13 k) (k0_off13_inb k))) init k).symm

set_option warn.classDefReducibility false in
/-- The sum of exponentials over the column groups, rows 96 to 111. -/
@[sl_loop] def loop14 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v126 : FVec F S16x1 .f32) (v127 : FVec F S16x128 .f32) (c0_i32_86 : BitVec 32) (v147 : FVec F S16x128 .bf16) (X : BufTy.Contents (Elt F) arg1.view.ty) (init : FVec F S16x128 .f32) :
    LoopInvTy_k0_t14 (F := F) Unit ℕ U ℕ 𝒱 c bd E i arg1 harg1 arg2 harg2 v126 v127 c0_i32_86 v147 init where
  inv k acc := iprop((arg1.view.loc (c : Thread nD τ) ↦[arg1.view.set]{fullShare} X)
    ∗ ⌜acc = fold _ (fun k a => k0_pay64 v147 a (slice arg1 X (k0_off14 k) (k0_off14_inb k))) init k⌝)
  step k acc := by
    iintro ⟨H, %h⟩
    subst h
    unfold k0_t14_body
    sl_exec
    sl_step
    isplitl [H]
    · iexact H
    ipureintro
    exact (fold_succ _ (fun k a => k0_pay64 v147 a (slice arg1 X (k0_off14 k) (k0_off14_inb k))) init k).symm

set_option warn.classDefReducibility false in
/-- The running maximum over the column groups, rows 112 to 127. -/
@[sl_loop] def loop15 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (X : BufTy.Contents (Elt F) arg1.view.ty) (init : FVec F S16x128 .bf16) :
    LoopInvTy_k0_t15 (F := F) Unit ℕ U ℕ 𝒱 c bd E i arg1 harg1 arg2 harg2 init where
  inv k acc := iprop((arg1.view.loc (c : Thread nD τ) ↦[arg1.view.set]{fullShare} X)
    ∗ ⌜acc = fold _ (fun k a => k0_pay3 a (slice arg1 X (k0_off15 k) (k0_off15_inb k))) init k⌝)
  step k acc := by
    iintro ⟨H, %h⟩
    subst h
    unfold k0_t15_body
    sl_exec
    sl_step
    isplitl [H]
    · iexact H
    ipureintro
    exact (fold_succ _ (fun k a => k0_pay3 a (slice arg1 X (k0_off15 k) (k0_off15_inb k))) init k).symm

set_option warn.classDefReducibility false in
/-- The sum of exponentials over the column groups, rows 112 to 127. -/
@[sl_loop] def loop16 (U : Type) [URA U] (𝒱 : Variants) (c : Dev nD) (bd : Option 𝒱.V) (E : Set ℕ) (i : grid0.Coords) (arg1 : Memref sig .tc .vmem S128x20480 .bf16) (harg1 : arg1.IsWhole) (arg2 : Memref sig .tc .vmem S2x128 .f32) (harg2 : arg2.IsWhole) (v171 : FVec F S16x128 .bf16) (X : BufTy.Contents (Elt F) arg1.view.ty) (init : FVec F S16x128 .f32) :
    LoopInvTy_k0_t16 (F := F) Unit ℕ U ℕ 𝒱 c bd E i arg1 harg1 arg2 harg2 v171 init where
  inv k acc := iprop((arg1.view.loc (c : Thread nD τ) ↦[arg1.view.set]{fullShare} X)
    ∗ ⌜acc = fold _ (fun k a => k0_pay6 v171 a (slice arg1 X (k0_off16 k) (k0_off16_inb k))) init k⌝)
  step k acc := by
    iintro ⟨H, %h⟩
    subst h
    unfold k0_t16_body
    sl_exec
    sl_step
    isplitl [H]
    · iexact H
    ipureintro
    exact (fold_succ _ (fun k a => k0_pay6 v171 a (slice arg1 X (k0_off16 k) (k0_off16_inb k))) init k).symm

end Cert.Kernel.Hand

end
-- ==== Proof.Printed.StatsRun.lean ====
/-
  The statistics kernel's body on one block of 128 rows of logits: what it stores.
-/
module

public import proofs.«01_k».proof.Proof.Printed.StatsLoops
public import proofs.«01_k».proof.Proof.Gen.Kernel.Points
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1040000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def statsRun (c : Dev nD) (i : grid0.Coords) (arg1 : Memref sig .tc .vmem S128x20480 .bf16) (harg1 : arg1.IsWhole) (arg2 : Memref sig .tc .vmem S2x128 .f32) (harg2 : arg2.IsWhole)
    (x0 : Vec F S128x20480 .bf16) :
    { L1 : List (View.Piece (Elt F) S2x128 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0_stats i arg1 harg1 arg2 harg2) K } := by
  refine ⟨?_, fun E K => ?run⟩
  case run =>
    simp only [cc0_stats_eq_skeleton]; unfold cc0_stats_skel
    simp only [k0_part1_eq_skeleton, k0_part2_eq_skeleton, k0_part3_eq_skeleton, k0_part4_eq_skeleton, k0_part5_eq_skeleton]
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

end Cert.Kernel.Hand

end
-- ==== Proof.Printed.StatsRegion.lean ====
/-
  The statistics kernel's pipeline: what it leaves in its result, and that its body meets the pipeline's demands.
-/
module

public import proofs.«01_k».proof.Proof.Printed.StatsRun
public import proofs.«01_k».proof.Proof.Gen.Kernel.Launch
public import Idealize.ShloMosaic.Lib.Pipeline.FrameBody
public import Idealize.ShloMosaic.Lib.Ring
public import Idealize.ShloMosaic.Lib.Tactic

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The row statistics' pipeline: what its buffers hold

The pipeline of the first kernel, with the arrays as the region finds them (`V`). -/

variable (V : (c : Dev nD) → (b : Ref sig .tc) → Buf (Elt F) ((c : Thread nD τ).loc b))

/-- One staging buffer of the output window. -/
abbrev VO0_1 : View sig .tc .vmem S2x128 .f32 := (Memref.whole cc0_stg1_0 : Memref sig .tc .vmem S2x128 .f32).view
/-- Each window's current staging memref at point `t`, and its wholeness. -/
abbrev ms0_0 (t : Fin cfg0.N) : Memref sig .tc .vmem S128x20480 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x128 .f32 := win0_1.stage (cfg0.slots t 1)
abbrev hs0_1 (t : Fin cfg0.N) : (ms0_1 t).IsWhole := hstage0_1 ((cfg0.slots t 1).cast nbuf0_1)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The run's pieces for output 1 tile its block (16 stores of `S1x16`, checked by the kernel's evaluation: Lib/Ring.lean `Piece.tiledL`, linear in the pieces, through a loop's `@[irreducible]` trip theorem too), so they cover it. -/
theorem cover0_A_1 (c : Dev nD) (i : grid0.Coords) (arg1 : Memref sig .tc .vmem S128x20480 .bf16) (harg1 : arg1.IsWhole) (arg2 : Memref sig .tc .vmem S2x128 .f32) (harg2 : arg2.IsWhole)
    (x0 : Vec F S128x20480 .bf16) (y : S2x128.Idx) :
    ∃ pc ∈ (statsRun c i arg1 harg1 arg2 harg2 x0).1, y ∈ pc.1.set :=
  View.cover_of_tiledL (statsRun c i arg1 harg1 arg2 harg2 x0).1 S1x16.size (by sl_kernel_rfl) y

/-- What the run leaves in output 1's staging buffer: its pieces read back over junk. -/
def out0_A_1 (c : Dev nD) (i : grid0.Coords) (arg1 : Memref sig .tc .vmem S128x20480 .bf16) (harg1 : arg1.IsWhole) (arg2 : Memref sig .tc .vmem S2x128 .f32) (harg2 : arg2.IsWhole)
    (x0 : Vec F S128x20480 .bf16) : Vec F S2x128 .f32 :=
  VO0_1.read (Elt F) (VO0_1.writes (Elt F) VO0_1.junk (statsRun c i arg1 harg1 arg2 harg2 x0).1)

/-! ## What the outputs hold after each point -/

/-- What the outputs' staging buffers hold after the body at point `t`: the run's contents at
    the point's memrefs and input blocks. -/
def outsAt0 (c : Dev nD) (t : Fin cfg0.N) : Vec F S2x128 .f32 :=
  out0_A_1 c (grid0.coords t) (ms0_0 t) (hs0_0 t) (ms0_1 t) (hs0_1 t) (iblk0 V c 0 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => (outsAt0 V c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  unfold outsAt0
  unfold out0_A_1
  iintro ⟨HΦ, Ho, ⟨%d0, H0⟩, ⟨%d1, H1⟩⟩
  iapply ((statsRun c (grid0.coords t) _ _ _ _ (iblk0 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_A_1 c _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Hand

end
-- ==== Proof.Printed.MainShared.lean ====
/-
  What the two runs of the main kernel share.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body sums the embedding blocks at this grid point. -/
abbrev condM (i : grid1.Coords) : Prop := k1_cond1 i = 1#1

/-- It does so at the first reduction step of every output block. -/
theorem hcondM : ∀ t : Fin grid1.N, condM (grid1.coords t) ↔ t.val % 32 = 0 :=
  fun t => by
    have ht : t.val < 640 := Nat.lt_of_lt_of_eq t.isLt N_1
    have e0 : (grid1.coords t 0).val = t.val / 32 % 20 := Pipeline.Grid.coords_val t 0 (by decide) rfl
    have e1 : (grid1.coords t 1).val = t.val / 1 % 32 := Pipeline.Grid.coords_val t 1 (by decide) rfl
    simp only [condM, k1_cond1, e0, e1]
    word_cmp

/-- The embedding gradient rows, left in HBM. -/
abbrev hbM : Memref sig .tc .hbm S16384x4096 .fp8e5m2 := Memref.whole main_arg4
/-- The table of first embedding rows. -/
abbrev tbM : Memref sig .tc .smem S21 .i32 := Memref.whole main_v11
/-- The contents of a memref's buffer, and the buffer held whole. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The table word of the output block, and the one after it. -/
abbrev tblLo (c : Dev nD) (i : grid1.Coords) (hc0 : condM i) (ft : HbBuf (F := F) c tbM) : BitVec 32 :=
  View.readAt (Elt F) tbM.view (Rect.unit (s := S21) (k1_off1 i) S1.size (k1_off1_inb i hc0)).toLoadRect ft (Shape.Idx.first (numel1_S1.symm ▸ Nat.one_pos))
abbrev tblHi (c : Dev nD) (i : grid1.Coords) (hc0 : condM i) (ft : HbBuf (F := F) c tbM) : BitVec 32 :=
  View.readAt (Elt F) tbM.view (Rect.unit (s := S21) (k1_off2 i) S1.size (k1_off2_inb i hc0)).toLoadRect ft (Shape.Idx.first (numel1_S1.symm ▸ Nat.one_pos))

end Cert.Kernel.Hand

end
-- ==== Proof.Printed.MainRunA.lean ====
/-
  The main kernel's body at a grid point: what it stores, first reduction step (the embedding blocks are summed first).
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Tactic
public import Idealize.ShloMosaic.Lib.WordCmp
public import proofs.«01_k».proof.Proof.Printed.MainShared
@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The main kernel's body at a grid point: what it stores, first reduction step (the embedding blocks are summed first). The stores are found by running the body; the pieces they leave, last first, are the witness. -/
noncomputable def mainRunA (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec F S512x1024 .bf16) (x1 : Vec F S2x512 .f32) (x2 : Vec F S1x512 .i32) (x3 : Vec F S1x512 .f32) (x4 : Vec F S512x4096 .fp8e4m3) (x5 : Vec F S64x1x256 .i32) (x6 : Vec F S64x1x256 .f32) (fh0 : HbBuf (F := F) c hbM) (ft : HbBuf (F := F) c tbM) (hchk : k1_chk1 i (tblLo c i hc0 ft) (tblHi c i hc0 ft)) :
    Σ' (L7 : List (View.Piece (Elt F) S1024x4096 .f32)), { LT0 : List (View.Piece (Elt F) S1024x512 .bf16) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 18) 0 ∗ hbPt c hbM fh0 ∗ hbPt c tbM ft ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f LT0) ∗ (∃ d, owns (c : Thread nD τ) arg13 fullShare d) ∗ semVal ((c : Thread nD τ), SemLoc.dma 18) 0 ∗ hbPt c hbM fh0 ∗ hbPt c tbM ft ∗ (∃ W', owes (c : Thread nD τ) 0 W')) -∗ K ⟨⟩))
          ⊢ wp frame (wpE (defs₀ (F := F)) Variants.none c none) Set.univ (cc1_main i (Memref.whole main_v11) (Memref.isWhole_whole _) arg3 harg3 arg4 harg4 arg5 harg5 arg6 harg6 arg7 harg7 arg8 harg8 arg9 harg9 (Memref.whole main_arg4) (Memref.isWhole_whole _) arg11 harg11 arg12 harg12 arg13 harg13 cc1_scratch2) K } := by
  refine ⟨?_, ?_, fun W K => ?run⟩
  case run =>
    simp only [cc1_main_eq_skeleton]; unfold cc1_main_skel
    simp only [k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hq0, Hh0, HT, HW, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hchk)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]
    · iexists _, _; isplitr; swap; · iexact HS1
      ipureintro; rfl
    isplitl [Hq0]; · iexact Hq0
    isplitl [Hh0]; · iexact Hh0
    isplitl [HT]; · iexact HT
    iexists _; iexact HW

end Cert.Kernel.Hand

end
-- ==== Proof.Printed.MainRunB.lean ====
/-
  The main kernel's body at a grid point: what it stores, later reduction steps.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Tactic
public import Idealize.ShloMosaic.Lib.WordCmp
public import proofs.«01_k».proof.Proof.Printed.MainShared
@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The main kernel's body at a grid point: what it stores, later reduction steps. The stores are found by running the body; the pieces they leave, last first, are the witness. -/
noncomputable def mainRunB (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : ¬condM i)
    (x0 : Vec F S512x1024 .bf16) (x1 : Vec F S2x512 .f32) (x2 : Vec F S1x512 .i32) (x3 : Vec F S1x512 .f32) (x4 : Vec F S512x4096 .fp8e4m3) (x5 : Vec F S64x1x256 .i32) (x6 : Vec F S64x1x256 .f32) (xo7 : Vec F S1024x4096 .f32) (fh0 : HbBuf (F := F) c hbM) (ft : HbBuf (F := F) c tbM) :
    Σ' (L7 : List (View.Piece (Elt F) S1024x4096 .f32)), { LT0 : List (View.Piece (Elt F) S1024x512 .bf16) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg11 fullShare xo7 ∗ (∃ d, owns (c : Thread nD τ) arg12 fullShare d) ∗ (∃ d, owns (c : Thread nD τ) arg13 fullShare d) ∗ semVal ((c : Thread nD τ), SemLoc.dma 18) 0 ∗ hbPt c hbM fh0 ∗ hbPt c tbM ft ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f LT0) ∗ (∃ d, owns (c : Thread nD τ) arg13 fullShare d) ∗ semVal ((c : Thread nD τ), SemLoc.dma 18) 0 ∗ hbPt c hbM fh0 ∗ hbPt c tbM ft ∗ (∃ W', owes (c : Thread nD τ) 0 W')) -∗ K ⟨⟩))
          ⊢ wp frame (wpE (defs₀ (F := F)) Variants.none c none) Set.univ (cc1_main i (Memref.whole main_v11) (Memref.isWhole_whole _) arg3 harg3 arg4 harg4 arg5 harg5 arg6 harg6 arg7 harg7 arg8 harg8 arg9 harg9 (Memref.whole main_arg4) (Memref.isWhole_whole _) arg11 harg11 arg12 harg12 arg13 harg13 cc1_scratch2) K } := by
  refine ⟨?_, ?_, fun W K => ?run⟩
  case run =>
    simp only [cc1_main_eq_skeleton]; unfold cc1_main_skel
    simp only [k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hq0, Hh0, HT, HW, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf7
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]
    · iexists _, _; isplitr; swap; · iexact HS1
      ipureintro; rfl
    isplitl [Hq0]; · iexact Hq0
    isplitl [Hh0]; · iexact Hh0
    isplitl [HT]; · iexact HT
    iexists _; iexact HW

end Cert.Kernel.Hand

end
-- ==== Proof.Printed.MainRegion.lean ====
/-
  The main kernel's pipeline: what it leaves in its result, and that its body meets the pipeline's demands.
-/
module

public import proofs.«01_k».proof.Proof.Printed.MainRunA
public import proofs.«01_k».proof.Proof.Printed.MainRunB
public import Idealize.ShloMosaic.Lib.Pipeline.FrameBody
public import Idealize.ShloMosaic.Lib.Ring
public import Idealize.ShloMosaic.Lib.Tactic

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The main kernel's pipeline: what its buffers hold

The pipeline of the main kernel, with the arrays as the region finds them (`V`), at the table contents `a`; the
table's words meet the body's side condition (`hchk`). -/

variable (V : (c : Dev nD) → (b : Ref sig .tc) → Buf (Elt F) ((c : Thread nD τ).loc b)) (a : (pcfg1 (F := F)).Adm)

/-- One staging buffer of the output window. -/
abbrev VO1_7 : View sig .tc .vmem S1024x4096 .f32 := (Memref.whole cc1_stg7_0 : Memref sig .tc .vmem S1024x4096 .f32).view
/-- Each window's current staging memref at point `t`, and its wholeness. -/
abbrev ms1_0 (t : Fin grid1.N) : Memref sig .tc .vmem S512x1024 .bf16 := spec1_0.stage ((cfg1 a).slots t 0)
abbrev hs1_0 (t : Fin grid1.N) : (ms1_0 a t).IsWhole := hstage1_0 (((cfg1 a).slots t 0).cast nbuf1_0)
abbrev ms1_1 (t : Fin grid1.N) : Memref sig .tc .vmem S2x512 .f32 := spec1_1.stage ((cfg1 a).slots t 1)
abbrev hs1_1 (t : Fin grid1.N) : (ms1_1 a t).IsWhole := hstage1_1 (((cfg1 a).slots t 1).cast nbuf1_1)
abbrev ms1_2 (t : Fin grid1.N) : Memref sig .tc .vmem S1x512 .i32 := spec1_2.stage ((cfg1 a).slots t 2)
abbrev hs1_2 (t : Fin grid1.N) : (ms1_2 a t).IsWhole := hstage1_2 (((cfg1 a).slots t 2).cast nbuf1_2)
abbrev ms1_3 (t : Fin grid1.N) : Memref sig .tc .vmem S1x512 .f32 := spec1_3.stage ((cfg1 a).slots t 3)
abbrev hs1_3 (t : Fin grid1.N) : (ms1_3 a t).IsWhole := hstage1_3 (((cfg1 a).slots t 3).cast nbuf1_3)
abbrev ms1_4 (t : Fin grid1.N) : Memref sig .tc .vmem S512x4096 .fp8e4m3 := spec1_4.stage ((cfg1 a).slots t 4)
abbrev hs1_4 (t : Fin grid1.N) : (ms1_4 a t).IsWhole := hstage1_4 (((cfg1 a).slots t 4).cast nbuf1_4)
abbrev ms1_5 (t : Fin grid1.N) : Memref sig .tc .vmem S64x1x256 .i32 := spec1_5.stage ((cfg1 a).slots t 5)
abbrev hs1_5 (t : Fin grid1.N) : (ms1_5 a t).IsWhole := hstage1_5 (((cfg1 a).slots t 5).cast nbuf1_5)
abbrev ms1_6 (t : Fin grid1.N) : Memref sig .tc .vmem S64x1x256 .f32 := spec1_6.stage ((cfg1 a).slots t 6)
abbrev hs1_6 (t : Fin grid1.N) : (ms1_6 a t).IsWhole := hstage1_6 (((cfg1 a).slots t 6).cast nbuf1_6)
abbrev ms1_7 (t : Fin grid1.N) : Memref sig .tc .vmem S1024x4096 .f32 := spec1_7.stage ((cfg1 a).slots t 7)
abbrev hs1_7 (t : Fin grid1.N) : (ms1_7 a t).IsWhole := hstage1_7 (((cfg1 a).slots t 7).cast nbuf1_7)
/-- The scratch operands. -/
abbrev scMg : Memref sig .tc .vmem S1024x512 .bf16 := Memref.whole cc1_scratch0
abbrev scMe : Memref sig .tc .vmem S256x4096 .fp8e5m2 := Memref.whole cc1_scratch1
/-- The kernel body at point `t`, on what the pipeline calls it with. -/
abbrev bodyAt1 (t : Fin grid1.N) : Prog (TpuEff nD τ sig (Elt F) Λ₀ .tc) PUnit :=
  cc1_main (grid1.coords t) (Memref.whole main_v11) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (Memref.whole main_arg4) (Memref.isWhole_whole _) (ms1_7 a t) (hs1_7 a t) scMg (Memref.isWhole_whole _) scMe (Memref.isWhole_whole _) cc1_scratch2

/-- The output is written back at the last reduction step of every output block. -/
theorem flush1_7 : ∀ t : Fin grid1.N, ((cfg1 a).win 7).flush t = true ↔ t.val % 32 = 31 :=
  (fun t => Pipeline.Window.flush_reads ((cfg1 a).win 7) rfl 0 (show 1 < grid1.bound 0 by decide) (show grid1.fixedAfter spec1_7.reads 0 = true by decide) (Pipeline.Window.sep_of_coord cc1_transform_8 0 0 (fun _ => rfl) (by decide)) (P := 32) (m := 31) (show grid1.stride 0 = 32 by decide) rfl t)

/-- Window `w`'s block at point `t`, read off its array as the region finds it. -/
def iblk1 (c : Dev nD) (w : Fin 8) (t : Fin grid1.N) : (((cfg1 a).win w).xblock ((cfg1 a).grid.coords t)).Idx → Elt F ((cfg1 a).win w).elt :=
  (((cfg1 a).win w).blk t).view.read (Elt F) (V c (Pipeline.arrRef spec1 w))

/-- Window 0's current staging buffer holds its block at every point. -/
theorem before1_0_of {c : Dev nD} (dat : Dat τ (Elt F) Unit ℕ (Pipeline.UD sig nD τ) ℕ (cfg1 a) c) (hA : dat.A 0 = V c (Pipeline.arrRef spec1 0))
    (hafter : ∀ t, dat.after 0 t = iblk1 V a c 0 t) (t : Fin grid1.N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Window 1's current staging buffer holds its block at every point. -/
theorem before1_1_of {c : Dev nD} (dat : Dat τ (Elt F) Unit ℕ (Pipeline.UD sig nD τ) ℕ (cfg1 a) c) (hA : dat.A 1 = V c (Pipeline.arrRef spec1 1))
    (hafter : ∀ t, dat.after 1 t = iblk1 V a c 1 t) (t : Fin grid1.N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2's current staging buffer holds its block at every point. -/
theorem before1_2_of {c : Dev nD} (dat : Dat τ (Elt F) Unit ℕ (Pipeline.UD sig nD τ) ℕ (cfg1 a) c) (hA : dat.A 2 = V c (Pipeline.arrRef spec1 2))
    (hafter : ∀ t, dat.after 2 t = iblk1 V a c 2 t) (t : Fin grid1.N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Window 3's current staging buffer holds its block at every point. -/
theorem before1_3_of {c : Dev nD} (dat : Dat τ (Elt F) Unit ℕ (Pipeline.UD sig nD τ) ℕ (cfg1 a) c) (hA : dat.A 3 = V c (Pipeline.arrRef spec1 3))
    (hafter : ∀ t, dat.after 3 t = iblk1 V a c 3 t) (t : Fin grid1.N) (d) : dat.before 3 t d = iblk1 V a c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Window 4's current staging buffer holds its block at every point. -/
theorem before1_4_of {c : Dev nD} (dat : Dat τ (Elt F) Unit ℕ (Pipeline.UD sig nD τ) ℕ (cfg1 a) c) (hA : dat.A 4 = V c (Pipeline.arrRef spec1 4))
    (hafter : ∀ t, dat.after 4 t = iblk1 V a c 4 t) (t : Fin grid1.N) (d) : dat.before 4 t d = iblk1 V a c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Window 5's current staging buffer holds its block at every point. -/
theorem before1_5_of {c : Dev nD} (dat : Dat τ (Elt F) Unit ℕ (Pipeline.UD sig nD τ) ℕ (cfg1 a) c) (hA : dat.A 5 = V c (Pipeline.arrRef spec1 5))
    (hafter : ∀ t, dat.after 5 t = iblk1 V a c 5 t) (t : Fin grid1.N) (d) : dat.before 5 t d = iblk1 V a c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Window 6's current staging buffer holds its block at every point. -/
theorem before1_6_of {c : Dev nD} (dat : Dat τ (Elt F) Unit ℕ (Pipeline.UD sig nD τ) ℕ (cfg1 a) c) (hA : dat.A 6 = V c (Pipeline.arrRef spec1 6))
    (hafter : ∀ t, dat.after 6 t = iblk1 V a c 6 t) (t : Fin grid1.N) (d) : dat.before 6 t d = iblk1 V a c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The body's own DMA semaphore: none is a window's. -/
abbrev osem1 : Fin 1 → SemLoc sig := fun j => (![SemLoc.dma 18] : Fin 1 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 18) 0) := by
  rw [Pipeline.ownSems0_eq_of_list c osem1 [0] (by decide) (by decide)]; rfl
/-- The HBM operand the body moves itself. -/
def H1 : Finset (Ref sig .tc) := {main_arg4}
theorem hbmPts1_eq (c : Dev nD) :
    (bigSep H1 (fun b => ((c : Thread nD τ).loc b) ↦{fullShare} V c b) : sProp 𝕄) = iprop(hbPt c hbM (V c main_arg4)) := by
  rw [BI.bigSep_eq_bigSepL_of_eq [main_arg4] (by decide) (by decide)]; rfl

/-- What the body keeps from point to point: the scoped buffers, the generator register, its own semaphore at zero, the
    HBM operand and the table as the region found them. -/
def PhiM (c : Dev nD) : sProp 𝕄 :=
  iprop(Pipeline.scopedRest spec1 c ∗ (∃ r, prngReg c r) ∗ Pipeline.ownSems0 (τ := τ) osem1 c ∗ (bigSep H1 fun b => ((c : Thread nD τ).loc b) ↦{fullShare} V c b) ∗ hbPt c tbM (V c main_v11))

theorem PhiM_eq (c : Dev nD) :
    (PhiM V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scMg fullShare d) ∗ (∃ d, owns (c : Thread nD τ) scMe fullShare d)) ∗ (∃ r, prngReg c r) ∗ iprop(semVal ((c : Thread nD τ), SemLoc.dma 18) 0) ∗ iprop(hbPt c hbM (V c main_arg4)) ∗ hbPt c tbM (V c main_v11)) := by
  unfold PhiM
  rw [scopedRest1_eq, ownSems01_eq, hbmPts1_eq]; simp only [scMg, scMe, owns_whole]
  try rfl

variable (hchk : ∀ (c : Dev nD) (i : grid1.Coords) (h : condM i), k1_chk1 i (tblLo c i h (V c main_v11)) (tblHi c i h (V c main_v11)))

/-- Case A's pieces for output 7 are of SEVERAL sizes (521 stores of `S1024x4096`, `S1024x512`): cut into blocks of `![1024, 512]` they tile its block (checked by the kernel's evaluation: Lib/Ring.lean `Piece.tiledBy`), so they cover it. -/
theorem cover1_A_7 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec F S512x1024 .bf16) (x1 : Vec F S2x512 .f32) (x2 : Vec F S1x512 .i32) (x3 : Vec F S1x512 .f32) (x4 : Vec F S512x4096 .fp8e4m3) (x5 : Vec F S64x1x256 .i32) (x6 : Vec F S64x1x256 .f32) (fh0 : HbBuf (F := F) c hbM) (ft : HbBuf (F := F) c tbM) (hchk : k1_chk1 i (tblLo c i hc0 ft) (tblHi c i hc0 ft)) (y : S1024x4096.Idx) :
    ∃ pc ∈ (mainRunA c i arg3 harg3 arg4 harg4 arg5 harg5 arg6 harg6 arg7 harg7 arg8 harg8 arg9 harg9 arg11 harg11 arg12 harg12 arg13 harg13 hc0 x0 x1 x2 x3 x4 x5 x6 fh0 ft hchk).1, y ∈ pc.1.set :=
  have ⟨pc, hpc, hy⟩ := View.cover_of_tiledL ((mainRunA c i arg3 harg3 arg4 harg4 arg5 harg5 arg6 harg6 arg7 harg7 arg8 harg8 arg9 harg9 arg11 harg11 arg12 harg12 arg13 harg13 hc0 x0 x1 x2 x3 x4 x5 x6 fh0 ft hchk).1.take 8) S1024x512.size (by sl_kernel_rfl) y
  ⟨pc, List.mem_of_mem_take hpc, hy⟩

/-- What case A leaves in output 7's staging buffer: its pieces read back over junk. -/
def out1_A_7 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec F S512x1024 .bf16) (x1 : Vec F S2x512 .f32) (x2 : Vec F S1x512 .i32) (x3 : Vec F S1x512 .f32) (x4 : Vec F S512x4096 .fp8e4m3) (x5 : Vec F S64x1x256 .i32) (x6 : Vec F S64x1x256 .f32) (fh0 : HbBuf (F := F) c hbM) (ft : HbBuf (F := F) c tbM) (hchk : k1_chk1 i (tblLo c i hc0 ft) (tblHi c i hc0 ft)) : Vec F S1024x4096 .f32 :=
  VO1_7.read (Elt F) (VO1_7.writes (Elt F) VO1_7.junk (mainRunA c i arg3 harg3 arg4 harg4 arg5 harg5 arg6 harg6 arg7 harg7 arg8 harg8 arg9 harg9 arg11 harg11 arg12 harg12 arg13 harg13 hc0 x0 x1 x2 x3 x4 x5 x6 fh0 ft hchk).1)

/-- Case B's pieces for output 7 tile its block (8 stores of `S1024x512`, checked by the kernel's evaluation: Lib/Ring.lean `Piece.tiledL`, linear in the pieces, through a loop's `@[irreducible]` trip theorem too), so they cover it. -/
theorem cover1_B_7 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : ¬condM i)
    (x0 : Vec F S512x1024 .bf16) (x1 : Vec F S2x512 .f32) (x2 : Vec F S1x512 .i32) (x3 : Vec F S1x512 .f32) (x4 : Vec F S512x4096 .fp8e4m3) (x5 : Vec F S64x1x256 .i32) (x6 : Vec F S64x1x256 .f32) (xo7 : Vec F S1024x4096 .f32) (fh0 : HbBuf (F := F) c hbM) (ft : HbBuf (F := F) c tbM) (y : S1024x4096.Idx) :
    ∃ pc ∈ (mainRunB c i arg3 harg3 arg4 harg4 arg5 harg5 arg6 harg6 arg7 harg7 arg8 harg8 arg9 harg9 arg11 harg11 arg12 harg12 arg13 harg13 hc0 x0 x1 x2 x3 x4 x5 x6 xo7 fh0 ft).1, y ∈ pc.1.set :=
  View.cover_of_tiledL (mainRunB c i arg3 harg3 arg4 harg4 arg5 harg5 arg6 harg6 arg7 harg7 arg8 harg8 arg9 harg9 arg11 harg11 arg12 harg12 arg13 harg13 hc0 x0 x1 x2 x3 x4 x5 x6 xo7 fh0 ft).1 S1024x512.size (by sl_kernel_rfl) y

/-- What case B leaves in output 7's staging buffer: its pieces read back over junk. -/
def out1_B_7 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : ¬condM i)
    (x0 : Vec F S512x1024 .bf16) (x1 : Vec F S2x512 .f32) (x2 : Vec F S1x512 .i32) (x3 : Vec F S1x512 .f32) (x4 : Vec F S512x4096 .fp8e4m3) (x5 : Vec F S64x1x256 .i32) (x6 : Vec F S64x1x256 .f32) (xo7 : Vec F S1024x4096 .f32) (fh0 : HbBuf (F := F) c hbM) (ft : HbBuf (F := F) c tbM) : Vec F S1024x4096 .f32 :=
  VO1_7.read (Elt F) (VO1_7.writes (Elt F) VO1_7.junk (mainRunB c i arg3 harg3 arg4 harg4 arg5 harg5 arg6 harg6 arg7 harg7 arg8 harg8 arg9 harg9 arg11 harg11 arg12 harg12 arg13 harg13 hc0 x0 x1 x2 x3 x4 x5 x6 xo7 fh0 ft).1)

/-! ## What the outputs hold after each point -/

/-- THE ACCUMULATION. What the outputs' staging buffers hold after the body at position `n`:
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < grid1.N → Vec F S1024x4096 .f32
  | 0, hn => out1_A_7 c (grid1.coords ⟨0, hn⟩) (ms1_0 a ⟨0, hn⟩) (hs1_0 a ⟨0, hn⟩) (ms1_1 a ⟨0, hn⟩) (hs1_1 a ⟨0, hn⟩) (ms1_2 a ⟨0, hn⟩) (hs1_2 a ⟨0, hn⟩) (ms1_3 a ⟨0, hn⟩) (hs1_3 a ⟨0, hn⟩) (ms1_4 a ⟨0, hn⟩) (hs1_4 a ⟨0, hn⟩) (ms1_5 a ⟨0, hn⟩) (hs1_5 a ⟨0, hn⟩) (ms1_6 a ⟨0, hn⟩) (hs1_6 a ⟨0, hn⟩) (ms1_7 a ⟨0, hn⟩) (hs1_7 a ⟨0, hn⟩) scMg (Memref.isWhole_whole _) scMe (Memref.isWhole_whole _) ((hcondM ⟨0, hn⟩).mpr (Nat.zero_mod _)) (iblk1 V a c 0 ⟨0, hn⟩) (iblk1 V a c 1 ⟨0, hn⟩) (iblk1 V a c 2 ⟨0, hn⟩) (iblk1 V a c 3 ⟨0, hn⟩) (iblk1 V a c 4 ⟨0, hn⟩) (iblk1 V a c 5 ⟨0, hn⟩) (iblk1 V a c 6 ⟨0, hn⟩) (V c main_arg4) (V c main_v11) (hchk c _ ((hcondM ⟨0, hn⟩).mpr (Nat.zero_mod _)))
  | n + 1, hn =>
    if h0 : (n + 1) % 32 = 0 then
      out1_A_7 c (grid1.coords ⟨n + 1, hn⟩) (ms1_0 a ⟨n + 1, hn⟩) (hs1_0 a ⟨n + 1, hn⟩) (ms1_1 a ⟨n + 1, hn⟩) (hs1_1 a ⟨n + 1, hn⟩) (ms1_2 a ⟨n + 1, hn⟩) (hs1_2 a ⟨n + 1, hn⟩) (ms1_3 a ⟨n + 1, hn⟩) (hs1_3 a ⟨n + 1, hn⟩) (ms1_4 a ⟨n + 1, hn⟩) (hs1_4 a ⟨n + 1, hn⟩) (ms1_5 a ⟨n + 1, hn⟩) (hs1_5 a ⟨n + 1, hn⟩) (ms1_6 a ⟨n + 1, hn⟩) (hs1_6 a ⟨n + 1, hn⟩) (ms1_7 a ⟨n + 1, hn⟩) (hs1_7 a ⟨n + 1, hn⟩) scMg (Memref.isWhole_whole _) scMe (Memref.isWhole_whole _) ((hcondM ⟨n + 1, hn⟩).mpr h0) (iblk1 V a c 0 ⟨n + 1, hn⟩) (iblk1 V a c 1 ⟨n + 1, hn⟩) (iblk1 V a c 2 ⟨n + 1, hn⟩) (iblk1 V a c 3 ⟨n + 1, hn⟩) (iblk1 V a c 4 ⟨n + 1, hn⟩) (iblk1 V a c 5 ⟨n + 1, hn⟩) (iblk1 V a c 6 ⟨n + 1, hn⟩) (V c main_arg4) (V c main_v11) (hchk c _ ((hcondM ⟨n + 1, hn⟩).mpr h0))
    else
      out1_B_7 c (grid1.coords ⟨n + 1, hn⟩) (ms1_0 a ⟨n + 1, hn⟩) (hs1_0 a ⟨n + 1, hn⟩) (ms1_1 a ⟨n + 1, hn⟩) (hs1_1 a ⟨n + 1, hn⟩) (ms1_2 a ⟨n + 1, hn⟩) (hs1_2 a ⟨n + 1, hn⟩) (ms1_3 a ⟨n + 1, hn⟩) (hs1_3 a ⟨n + 1, hn⟩) (ms1_4 a ⟨n + 1, hn⟩) (hs1_4 a ⟨n + 1, hn⟩) (ms1_5 a ⟨n + 1, hn⟩) (hs1_5 a ⟨n + 1, hn⟩) (ms1_6 a ⟨n + 1, hn⟩) (hs1_6 a ⟨n + 1, hn⟩) (ms1_7 a ⟨n + 1, hn⟩) (hs1_7 a ⟨n + 1, hn⟩) scMg (Memref.isWhole_whole _) scMe (Memref.isWhole_whole _) (fun h => h0 ((hcondM ⟨n + 1, hn⟩).mp h)) (iblk1 V a c 0 ⟨n + 1, hn⟩) (iblk1 V a c 1 ⟨n + 1, hn⟩) (iblk1 V a c 2 ⟨n + 1, hn⟩) (iblk1 V a c 3 ⟨n + 1, hn⟩) (iblk1 V a c 4 ⟨n + 1, hn⟩) (iblk1 V a c 5 ⟨n + 1, hn⟩) (iblk1 V a c 6 ⟨n + 1, hn⟩) (outsAt1 c n (Nat.lt_of_succ_lt hn)) (V c main_arg4) (V c main_v11)

/-- `outsAt0` at a point of case A: that case's contents. -/
theorem outsAt1_A (c : Dev nD) (t : Fin grid1.N) (h0 : t.val % 32 = 0) :
    outsAt1 V a hchk c t.val t.isLt = out1_A_7 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) scMg (Memref.isWhole_whole _) scMe (Memref.isWhole_whole _) ((hcondM t).mpr h0) (iblk1 V a c 0 t) (iblk1 V a c 1 t) (iblk1 V a c 2 t) (iblk1 V a c 3 t) (iblk1 V a c 4 t) (iblk1 V a c 5 t) (iblk1 V a c 6 t) (V c main_arg4) (V c main_v11) (hchk c _ ((hcondM t).mpr h0)) := by
  obtain ⟨n, hn⟩ := t
  cases n with
  | zero => exact rfl
  | succ n => exact (dif_pos h0).trans rfl

/-- `outsAt0` at a point of case B: that case's contents, over what the point before left. -/
theorem outsAt1_B (c : Dev nD) (t : Fin grid1.N) (h0 : ¬t.val % 32 = 0) :
    outsAt1 V a hchk c t.val t.isLt = out1_B_7 c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) scMg (Memref.isWhole_whole _) scMe (Memref.isWhole_whole _) (fun h => h0 ((hcondM t).mp h)) (iblk1 V a c 0 t) (iblk1 V a c 1 t) (iblk1 V a c 2 t) (iblk1 V a c 3 t) (iblk1 V a c 4 t) (iblk1 V a c 5 t) (iblk1 V a c 6 t) (outsAt1 V a hchk c (t.val - 1) (Nat.lt_of_le_of_lt (Nat.sub_le _ _) t.isLt)) (V c main_arg4) (V c main_v11) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dat1 (c : Dev nD) : Dat τ (Elt F) Unit ℕ (Pipeline.UD sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => iblk1 V a c 4 t
    | ⟨5, _⟩ => iblk1 V a c 5 t
    | ⟨6, _⟩ => iblk1 V a c 6 t
    | ⟨7, _⟩ => (outsAt1 V a hchk c t.val t.isLt)
  Φ _ := PhiM V c
  q _ := fullShare
  owed _ := 0

/-- The proof data's arrays are the region-entry contents: the proof data's definition projected (`dsimp`), so that
    `V` — a fold over @main's host prefix, long for some programs — is never unfolded to check it. -/
theorem A_eq1 (c : Dev nD) (w : Fin 8) : (dat1 V a hchk c).A w = V c (Pipeline.arrRef spec1 w) := by
  dsimp only [dat1]

/-- What the body leaves, window by window (the proof data's `match` reduced by `dsimp`). -/
theorem after1_0 (c : Dev nD) (t : Fin grid1.N) : (dat1 V a hchk c).after 0 t = iblk1 V a c 0 t := rfl
theorem after1_1 (c : Dev nD) (t : Fin grid1.N) : (dat1 V a hchk c).after 1 t = iblk1 V a c 1 t := rfl
theorem after1_2 (c : Dev nD) (t : Fin grid1.N) : (dat1 V a hchk c).after 2 t = iblk1 V a c 2 t := rfl
theorem after1_3 (c : Dev nD) (t : Fin grid1.N) : (dat1 V a hchk c).after 3 t = iblk1 V a c 3 t := rfl
theorem after1_4 (c : Dev nD) (t : Fin grid1.N) : (dat1 V a hchk c).after 4 t = iblk1 V a c 4 t := rfl
theorem after1_5 (c : Dev nD) (t : Fin grid1.N) : (dat1 V a hchk c).after 5 t = iblk1 V a c 5 t := rfl
theorem after1_6 (c : Dev nD) (t : Fin grid1.N) : (dat1 V a hchk c).after 6 t = iblk1 V a c 6 t := rfl
theorem after1_7 (c : Dev nD) (t : Fin grid1.N) : (dat1 V a hchk c).after 7 t = (outsAt1 V a hchk c t.val t.isLt) := rfl

/-- Each input's current staging buffer holds its block at every point, fetched there or not (`beforeK_W_of`). -/
theorem before1_0 (c : Dev nD) (t : Fin grid1.N) (d) : (dat1 V a hchk c).before 0 t d = iblk1 V a c 0 t :=
  before1_0_of V a (dat1 V a hchk c) (A_eq1 V a hchk c 0) (after1_0 V a hchk c) t d
theorem before1_1 (c : Dev nD) (t : Fin grid1.N) (d) : (dat1 V a hchk c).before 1 t d = iblk1 V a c 1 t :=
  before1_1_of V a (dat1 V a hchk c) (A_eq1 V a hchk c 1) (after1_1 V a hchk c) t d
theorem before1_2 (c : Dev nD) (t : Fin grid1.N) (d) : (dat1 V a hchk c).before 2 t d = iblk1 V a c 2 t :=
  before1_2_of V a (dat1 V a hchk c) (A_eq1 V a hchk c 2) (after1_2 V a hchk c) t d
theorem before1_3 (c : Dev nD) (t : Fin grid1.N) (d) : (dat1 V a hchk c).before 3 t d = iblk1 V a c 3 t :=
  before1_3_of V a (dat1 V a hchk c) (A_eq1 V a hchk c 3) (after1_3 V a hchk c) t d
theorem before1_4 (c : Dev nD) (t : Fin grid1.N) (d) : (dat1 V a hchk c).before 4 t d = iblk1 V a c 4 t :=
  before1_4_of V a (dat1 V a hchk c) (A_eq1 V a hchk c 4) (after1_4 V a hchk c) t d
theorem before1_5 (c : Dev nD) (t : Fin grid1.N) (d) : (dat1 V a hchk c).before 5 t d = iblk1 V a c 5 t :=
  before1_5_of V a (dat1 V a hchk c) (A_eq1 V a hchk c 5) (after1_5 V a hchk c) t d
theorem before1_6 (c : Dev nD) (t : Fin grid1.N) (d) : (dat1 V a hchk c).before 6 t d = iblk1 V a c 6 t :=
  before1_6_of V a (dat1 V a hchk c) (A_eq1 V a hchk c 6) (after1_6 V a hchk c) t d
/-- At a point of case B output 7's current staging buffer holds what the body left at the point before: the point is
    not the first, the buffer was not written back between (`flush1_7 a`), the window is live and uncut (Lib/Pipeline/Frame.lean
    `Dat.before_out_kept`). -/
theorem before1_7_B (c : Dev nD) (t : Fin grid1.N) (h0 : ¬t.val % 32 = 0) (d) :
    (dat1 V a hchk c).before 7 t d = (outsAt1 V a hchk c (t.val - 1) (Nat.lt_of_le_of_lt (Nat.sub_le _ _) t.isLt)) := by
  have hN : t.val < 640 := lt_of_lt_of_eq t.isLt (show grid1.N = 640 from N_1)
  refine (Dat.before_out_kept (dat1 V a hchk c) 7 rfl t (by omega) (Bool.eq_false_iff.mpr fun h => by have := (flush1_7 a _).mp h; dsimp only at this; omega)
    (fun _ => rfl) (fun _ _ => rfl) d).trans ?_
  rfl

/-! ## The body obligation, at a generic point -/

/-- What the body is called with at point `t` (Lib/Pipeline.lean `BodyObligation`'s precondition, the windows one by one), -/
def bodyPre1 (c : Dev nD) (t : Fin grid1.N) : sProp 𝕄 :=
  iprop((dat1 V a hchk c).Φ t.castSucc ∗ (dat1 V a hchk c).owesAt () t.castSucc
    ∗ (∃ d, owns (c : Thread nD τ) (ms1_0 a t) fullShare ((dat1 V a hchk c).before 0 t d))
    ∗ (∃ d, owns (c : Thread nD τ) (ms1_1 a t) fullShare ((dat1 V a hchk c).before 1 t d))
    ∗ (∃ d, owns (c : Thread nD τ) (ms1_2 a t) fullShare ((dat1 V a hchk c).before 2 t d))
    ∗ (∃ d, owns (c : Thread nD τ) (ms1_3 a t) fullShare ((dat1 V a hchk c).before 3 t d))
    ∗ (∃ d, owns (c : Thread nD τ) (ms1_4 a t) fullShare ((dat1 V a hchk c).before 4 t d))
    ∗ (∃ d, owns (c : Thread nD τ) (ms1_5 a t) fullShare ((dat1 V a hchk c).before 5 t d))
    ∗ (∃ d, owns (c : Thread nD τ) (ms1_6 a t) fullShare ((dat1 V a hchk c).before 6 t d))
    ∗ (∃ d, owns (c : Thread nD τ) (ms1_7 a t) fullShare ((dat1 V a hchk c).before 7 t d)))

/-- and what it returns. -/
def bodyPost1 (c : Dev nD) (t : Fin grid1.N) : sProp 𝕄 :=
  iprop((dat1 V a hchk c).Φ t.succ ∗ (dat1 V a hchk c).owesAt () t.succ
    ∗ owns (c : Thread nD τ) (ms1_0 a t) fullShare ((dat1 V a hchk c).after 0 t)
    ∗ owns (c : Thread nD τ) (ms1_1 a t) fullShare ((dat1 V a hchk c).after 1 t)
    ∗ owns (c : Thread nD τ) (ms1_2 a t) fullShare ((dat1 V a hchk c).after 2 t)
    ∗ owns (c : Thread nD τ) (ms1_3 a t) fullShare ((dat1 V a hchk c).after 3 t)
    ∗ owns (c : Thread nD τ) (ms1_4 a t) fullShare ((dat1 V a hchk c).after 4 t)
    ∗ owns (c : Thread nD τ) (ms1_5 a t) fullShare ((dat1 V a hchk c).after 5 t)
    ∗ owns (c : Thread nD τ) (ms1_6 a t) fullShare ((dat1 V a hchk c).after 6 t)
    ∗ owns (c : Thread nD τ) (ms1_7 a t) fullShare ((dat1 V a hchk c).after 7 t))

set_option maxHeartbeats 1600000 in
/-- The body at any point: the inputs' memrefs hold their blocks (`before1_W`); the closed forms say which case the point is in (`by_cases`), an output the case reads before covering holds what the point before left (`before1_W_κ`); so the
    run applies; the invariant (`PhiM_eq`) hands the body its scratch, the register, its DMA cells at zero and the HBM operands, and takes them back as they were; the core's `owes` goes in at whatever the points before recorded and comes back with this point's waits, within the next point's bound (everything). -/
theorem sound_body1 (c : Dev nD) (t : Fin grid1.N) :
    bodyPre1 V a hchk c t ⊢ wp frame (wpE (defs₀ (F := F)) Variants.none c none) Set.univ (bodyAt1 a t) (fun _ => bodyPost1 V a hchk c t) := by
  unfold bodyPre1 bodyPost1 bodyAt1
  simp only [before1_0, before1_1, before1_2, before1_3, before1_4, before1_5, before1_6]
  rw [show (dat1 V a hchk c).Φ t.succ = (dat1 V a hchk c).Φ t.castSucc from rfl,
    after1_0, after1_1, after1_2, after1_3, after1_4, after1_5, after1_6, after1_7]
  rw [show (dat1 V a hchk c).Φ t.castSucc = PhiM V c from rfl, PhiM_eq]
  unfold Dat.owesAt Pipeline.owesWithin
  rw [show (dat1 V a hchk c).owed t.castSucc = 0 from rfl, show (dat1 V a hchk c).owed t.succ = 0 from rfl]
  have hN : t.val < 640 := lt_of_lt_of_eq t.isLt (show grid1.N = 640 from N_1)
  by_cases h0 : t.val % 32 = 0
  · rw [outsAt1_A V a hchk c t h0]
    unfold out1_A_7
    iintro ⟨⟨⟨HSa, HSb, HSc, HSd, HS0, HS1⟩, Hg, Hq0, Hh0, HT⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((mainRunA c (grid1.coords t) _ _ _ _ _ _ _ _ _ _ _ _ _ _ _ _ _ _ _ _ ((hcondM t).mpr h0) (iblk1 V a c 0 t) (iblk1 V a c 1 t) (iblk1 V a c 2 t) (iblk1 V a c 3 t) (iblk1 V a c 4 t) (iblk1 V a c 5 t) (iblk1 V a c 6 t) (V c main_arg4) (V c main_v11) (hchk c _ ((hcondM t).mpr h0))).2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [Hq0]; · iexact Hq0
    isplitl [Hh0]; · iexact Hh0
    isplitl [HT]; · iexact HT
    isplitl [HW]; · iexact HW
    iintro ⟨H0, H1, H2, H3, H4, H5, H6, ⟨%e7, H7⟩, ⟨%fT0, HS0⟩, HS1, Hq0, Hh0, HT, ⟨%W', HW'⟩⟩
    isplitl [HSa HSb HSc HSd HS0 HS1 Hg Hq0 Hh0 HT]
    · isplitl [HSa HSb HSc HSd HS0 HS1]
      · isplitl [HSa]
        · iexact HSa
        isplitl [HSb]
        · iexact HSb
        isplitl [HSc]
        · iexact HSc
        isplitl [HSd]
        · iexact HSd
        isplitl [HS0]
        · iexists _; unfold owns; iexists _; isplitr
          swap; · iexact HS0
          ipureintro; rfl
        iexact HS1
      isplitl [Hg]
      · iexact Hg
      isplitl [Hq0]
      · iexact Hq0
      isplitl [Hh0]
      · iexact Hh0
      iexact HT
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover1_A_7 c _ _ _ _ _ _ _ _ _ _ _ _ _ _ _ _ _ _ _ _ _ _ _ _ _ _ _ _ _ _ _ _)
  · rw [outsAt1_B V a hchk c t h0]
    simp only [before1_7_B V a hchk c t h0]
    unfold out1_B_7
    iintro ⟨⟨⟨HSa, HSb, HSc, HSd, HS0, HS1⟩, Hg, Hq0, Hh0, HT⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((mainRunB c (grid1.coords t) _ _ _ _ _ _ _ _ _ _ _ _ _ _ _ _ _ _ _ _ (fun h => h0 ((hcondM t).mp h)) (iblk1 V a c 0 t) (iblk1 V a c 1 t) (iblk1 V a c 2 t) (iblk1 V a c 3 t) (iblk1 V a c 4 t) (iblk1 V a c 5 t) (iblk1 V a c 6 t) _ (V c main_arg4) (V c main_v11)).2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [Hq0]; · iexact Hq0
    isplitl [Hh0]; · iexact Hh0
    isplitl [HT]; · iexact HT
    isplitl [HW]; · iexact HW
    iintro ⟨H0, H1, H2, H3, H4, H5, H6, ⟨%e7, H7⟩, ⟨%fT0, HS0⟩, HS1, Hq0, Hh0, HT, ⟨%W', HW'⟩⟩
    isplitl [HSa HSb HSc HSd HS0 HS1 Hg Hq0 Hh0 HT]
    · isplitl [HSa HSb HSc HSd HS0 HS1]
      · isplitl [HSa]
        · iexact HSa
        isplitl [HSb]
        · iexact HSb
        isplitl [HSc]
        · iexact HSc
        isplitl [HSd]
        · iexact HSd
        isplitl [HS0]
        · iexists _; unfold owns; iexists _; isplitr
          swap; · iexact HS0
          ipureintro; rfl
        iexact HS1
      isplitl [Hg]
      · iexact Hg
      isplitl [Hq0]
      · iexact Hq0
      isplitl [Hh0]
      · iexact Hh0
      iexact HT
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover1_B_7 c _ _ _ _ _ _ _ _ _ _ _ _ _ _ _ _ _ _ _ _ _ _ _ _ _ _ _ _ _ _ _ _)

/-- The body table's row at point `t`'s slots is the body as `bodyAt1` spells it. -/
theorem defs₀_row1 (t : Fin grid1.N) :
    defs₀ (F := F) .tc (cfg1 a).body ((cfg1 a).bodyArgs t ((cfg1 a).slots t)) = bodyAt1 a t := by
  unfold defs₀; rw [Defs.onTc_tc]

/-- The library's body obligation, at every point: the body's triple restated (Lib/Pipeline/FrameBody.lean `triple_restated`). -/
theorem body_obligation1 (c : Dev nD) : BodyObligation (dat1 (F := F) V a hchk c) (defs₀ (F := F)) Variants.none () Set.univ := fun t => by
  rw [bigSep_W1, bigSep_W1, defs₀_row1]
  exact triple_restated (sound_body1 V a hchk c t) rfl .rfl fun _ => .rfl

end Cert.Kernel.Hand

end
-- ==== Proof.Printed.Whole.lean ====
/-
  The whole run: the two kernels' regions between the host operations.
-/
module

public import proofs.«01_k».proof.Proof.Printed.RunCond
public import proofs.«01_k».proof.Proof.Printed.StatsRegion
public import proofs.«01_k».proof.Proof.Printed.MainRegion
public import Idealize.ShloMosaic.Lib.Pipeline.Regions
public import Idealize.ShloMosaic.Lib.Pipeline.RegionArrays
public import Idealize.ShloMosaic.Lib.Pipeline.RegionArraysDT
public import Idealize.ShloMosaic.Lib.Pipeline.Frame

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the two kernels leave -/

/-- The unscoped buffers when the statistics kernel is entered. -/
abbrev E1 (c : Dev nD) (b : Ref sig .tc) : Buf (Elt F) ((c : Thread nD τ).loc b) := V1 m c b
/-- What the statistics kernel leaves in its result. -/
def out1 (c : Dev nD) : Buf (Elt F) ((c : Thread nD τ).loc main_v1) := (dat0 (E1 m) c).arrAt 1 cfg0.N
/-- The unscoped buffers after it, -/
def W2 (c : Dev nD) : Valuation τ sig (Elt F) := Function.update (V1 m c) main_v1 (out1 m c)
/-- and when the main kernel is entered. -/
def W3 (c : Dev nD) : Valuation τ sig (Elt F) := StableHlo.after hostOps1 (W2 m c)
abbrev E3 (c : Dev nD) (b : Ref sig .tc) : Buf (Elt F) ((c : Thread nD τ).loc b) := W3 m c b

/-- The table the main kernel is given, on the one core. -/
def adm (p : Fin 2) : (pcfgs (F := F) p).Adm := match p with
  | ⟨0, _⟩ => cfg0.toPCfg_adm
  | ⟨1, _⟩ => ⟨fun | 0 => W3 m 0 main_v11, trivial⟩

/-- The table words meet the main kernel's side condition. -/
abbrev TableOk : Prop := ∀ (c : Dev nD) (i : grid1.Coords) (h : condM i), k1_chk1 i (tblLo c i h (E3 m c main_v11)) (tblHi c i h (E3 m c main_v11))

variable (hchk : TableOk m)

/-- What the main kernel leaves in its result. -/
def out2 (c : Dev nD) : Buf (Elt F) ((c : Thread nD τ).loc main_v17) := (dat1 (E3 m) (adm m 1) hchk c).arrAt 7 grid1.N

def outsW : Outs (F := F) := fun j r c =>
  if j = 2 then Function.update (fun r : Ref sig .tc => m ((c : Thread nD τ).loc r)) main_v1 (out1 m c) r
  else Function.update (fun r : Ref sig .tc => m ((c : Thread nD τ).loc r)) main_v17 (out2 m hchk c) r

theorem outsW_2 (c : Dev nD) : outsW m hchk 2 main_v1 c = out1 m c := by
  unfold outsW; rw [if_pos rfl, Function.update_self]
theorem outsW_4 (c : Dev nD) : outsW m hchk 4 main_v17 c = out2 m hchk c := by
  unfold outsW; rw [if_neg (by decide), Function.update_self]
theorem V2_eq (c : Dev nD) : V2 m (outsW m hchk) c = W2 m c := by
  unfold V2 W2; rw [outsW_2]
theorem V3_eq (c : Dev nD) : V3 m (outsW m hchk) c = W3 m c := by
  unfold V3 W3; rw [V2_eq]

/-! ## The proof data and levels -/

def pdats (p : Fin 2) (c : Dev nD) : Dat τ (Elt F) Unit ℕ (Pipeline.UD sig nD τ) ℕ (Pipeline.pin (pcfgs (F := F)) (adm m) p) c := match p with
  | ⟨0, _⟩ => dat0 (E1 m) c
  | ⟨1, _⟩ => dat1 (E3 m) (adm m 1) hchk c

def Lv (g : GSem nD τ sig) : Finset Unit := if g.1.2 = .tc then {()} else ∅
def lv (_ : GSem nD τ sig) (_ : Unit) : ℕ := 0
theorem Lv_ne (g : GSem nD τ sig) (h : g.1.2 ≠ .tc) : Lv g = ∅ := if_neg h
theorem Lv_tc (c : Dev nD) (s : SemLoc sig) : () ∈ Lv ((c : Thread nD τ), s) := by
  unfold Lv; rw [if_pos rfl]; exact Finset.mem_singleton_self _

theorem cut (p : Fin 2) : Pipeline.LevelCut (pcfgs (F := F)) (adm m) () Lv lv p (fun _ => 0) fun _ => 0 where
  hι c w s := Lv_tc c _
  hιb c w s := le_refl _
  hD c g i h := absurd h (by simp)

/-- What rides along the buffers between the items. -/
abbrev Er (c : Dev nD) : sProp 𝕄 := iprop((∃ r, prngReg c r) ∗ ∃ W, owes (c : Thread nD τ) (0 : CellTallies nD τ sig Unit) W)

/-! ## The statistics kernel's region -/

theorem arr0_S : Pipeline.arrRefs (τ := τ) spec0 ⊆ Pipeline.ucRefs τ sig := Pipeline.arrRefs_sub_ucRefs spec0 (by decide)

theorem W2_of (c : Dev nD) (r : DevRef τ sig) (h : r ≠ Proc.devRef .tc main_v1) : W2 m c r = V1 m c r := by
  unfold W2; exact Function.update_of_ne h _ _
theorem W2_at (c : Dev nD) : W2 m c (Proc.devRef .tc main_v1) = out1 m c := by
  unfold W2; exact Function.update_self _ _ _

set_option backward.isDefEq.respectTransparency.types false in
def R0 : Pipeline.RegionSeg (pcfgs (F := F)) (adm m) (pdats m hchk) () defs₀ Variants.none Lv lv 0 :=
  Pipeline.RegionSeg.ofHeld (pcfgs (F := F)) (adm m) (pdats m hchk) () defs₀ Variants.none Lv lv 0 (fun _ => 0)
    (fun c => iprop(∃ r, prngReg c r)) (fun c => iprop(∃ r, prngReg c r)) launch0 rfl
    (fun c => (body_obligation0 (E1 m) c).loose) (fun _ _ => rfl) (fun _ => rfl)
    (fun c => (pdats m hchk 0 c).share_full fun _ => rfl) (fun _ => .rfl) (fun _ => .rfl) (fun _ => 0) (cut m 0)
    (fun c => StableHlo.held (c : Thread nD τ) (Pipeline.ucRefs τ sig \ Pipeline.arrRefs spec0) (V1 m c))
    (V1 m) (W2 m) (fun _ _ => rfl)
    (fun c => fun
      | 0 => ((pdats m hchk 0 c).arrAt_in 0 rfl _).trans (W2_of m c _ (StableHlo.devRef_ne_of_ne (by decide))).symm
      | 1 => (W2_at m c).symm
      | ⟨_ + 2, h⟩ => absurd h (Nat.not_lt.2 (Nat.le_add_left _ _)))

theorem hpre0 (c : Dev nD) : iprop(StableHlo.held (c : Thread nD τ) (Pipeline.ucRefs τ sig) (V1 m c) ∗ Er c) ⊢ (R0 m hchk).pre c := by
  show _ ⊢ (iprop(StableHlo.held (c : Thread nD τ) (Pipeline.arrRefs spec0) (V1 m c) ∗ (∃ r, prngReg c r)
    ∗ StableHlo.held (c : Thread nD τ) (Pipeline.ucRefs τ sig \ Pipeline.arrRefs spec0) (V1 m c)
    ∗ ∃ W, owes (c : Thread nD τ) (0 : CellTallies nD τ sig Unit) W) : sProp 𝕄)
  rw [StableHlo.held_sub_split (c : Thread nD τ) arr0_S (V1 m c)]
  iintro ⟨⟨Ha, Hr⟩, Hp, HO⟩
  isplitl [Ha]; · iexact Ha
  isplitl [Hp]; · iexact Hp
  isplitl [Hr]; · iexact Hr
  iexact HO

theorem rest0_eq (c : Dev nD) (b : DevRef τ sig) (h : b ∈ Pipeline.ucRefs τ sig \ Pipeline.arrRefs spec0) : W2 m c b = V1 m c b :=
  W2_of m c b fun e => (Finset.mem_sdiff.mp h).2 (by
    rw [e]; exact Finset.mem_map_of_mem _ (Finset.mem_image_of_mem _ (Finset.mem_univ (1 : Fin 2))))

theorem hpost0 (c : Dev nD) : (R0 m hchk).post c ⊢ iprop(StableHlo.held (c : Thread nD τ) (Pipeline.ucRefs τ sig) (W2 m c) ∗ Er c) := by
  show (iprop(StableHlo.held (c : Thread nD τ) (Pipeline.arrRefs spec0) (W2 m c) ∗ (∃ r, prngReg c r)
    ∗ StableHlo.held (c : Thread nD τ) (Pipeline.ucRefs τ sig \ Pipeline.arrRefs spec0) (V1 m c)
    ∗ ∃ W, owes (c : Thread nD τ) (0 : CellTallies nD τ sig Unit) W) : sProp 𝕄) ⊢ _
  rw [StableHlo.held_sub_split (c : Thread nD τ) arr0_S (W2 m c), StableHlo.held_congr (c : Thread nD τ) (rest0_eq m c)]
  iintro ⟨Ha, Hp, Hr, HO⟩
  isplitl [Ha Hr]
  · isplitl [Ha]; · iexact Ha
    iexact Hr
  isplitl [Hp]; · iexact Hp
  iexact HO

/-! ## The main kernel's region -/

/-- The unscoped buffers when the main kernel is left. -/
def W4 (c : Dev nD) : Valuation τ sig (Elt F) := Function.update (W3 m c) main_v17 (out2 m hchk c)
theorem V4_eq (c : Dev nD) : V4 m (outsW m hchk) c = W4 m hchk c := by
  unfold V4 W4; rw [outsW_4, V3_eq]
theorem W4_of (c : Dev nD) (r : DevRef τ sig) (h : r ≠ Proc.devRef .tc main_v17) : W4 m hchk c r = W3 m c r := by
  unfold W4; exact Function.update_of_ne h _ _
theorem W4_at (c : Dev nD) : W4 m hchk c (Proc.devRef .tc main_v17) = out2 m hchk c := by
  unfold W4; exact Function.update_self _ _ _

/-- The buffers that are neither the main kernel's arrays nor its table. -/
abbrev Sr1 : Finset (DevRef τ sig) := (Pipeline.ucRefs τ sig \ Pipeline.arrRefs spec1) \ Pipeline.tblRefs pre1

theorem arr1_S : Pipeline.arrRefs (τ := τ) spec1 ⊆ Pipeline.ucRefs τ sig := Pipeline.arrRefs_sub_ucRefs spec1 (by decide)

theorem adm_1 : (adm m 1).1 (0 : Fin 1) = W3 m 0 (Proc.devRef .tc main_v11) := by dsimp only [adm]

theorem tbl_v11 (c : Dev nD) (k : Fin 1) : (adm m 1).1 k = W3 m c (Proc.devRef .tc (pre1.ref k)) := by
  have hk : k = 0 := Subsingleton.elim _ _
  have hc : c = 0 := Subsingleton.elim _ _
  rw [hk, hc]
  exact adm_1 m

theorem tbl_held (c : Dev nD) : (Pipeline.tablesAt (pcfgs (F := F)) (adm m) 1 c : sProp 𝕄) = hbPt c tbM (W3 m c main_v11) := by
  show Pipeline.prefHeld pre1 c (fun _ => fullShare) (adm m 1).1 = _
  rw [Pipeline.prefHeld_held pre1 (by decide) c _ (W3 m c) (tbl_v11 m c)]
  unfold StableHlo.held
  rw [show Pipeline.tblRefs (τ := τ) pre1 = {Proc.devRef .tc main_v11} from by decide, BI.bigSep_singleton]

theorem W4_tbl (c : Dev nD) (k : Fin 1) : (adm m 1).1 k = W4 m hchk c (Proc.devRef .tc (pre1.ref k)) :=
  (tbl_v11 m c k).trans (W4_of m hchk c _ (StableHlo.devRef_ne_of_ne (by
    have hk : k = 0 := Subsingleton.elim _ _
    rw [hk]; decide))).symm

theorem exit1 (c : Dev nD) (w : Fin 8) : (pdats m hchk 1 c).arrAt w grid1.N = W4 m hchk c (Proc.devRef .tc (Pipeline.arrRef spec1 w)) := by
  match w with
  | 0 => exact ((pdats m hchk 1 c).arrAt_in 0 rfl _).trans <| (A_eq1 (E3 m) (adm m 1) hchk c 0).trans (W4_of m hchk c (Proc.devRef .tc (Pipeline.arrRef spec1 0)) (StableHlo.devRef_ne_of_ne (by decide))).symm
  | 1 => exact ((pdats m hchk 1 c).arrAt_in 1 rfl _).trans <| (A_eq1 (E3 m) (adm m 1) hchk c 1).trans (W4_of m hchk c (Proc.devRef .tc (Pipeline.arrRef spec1 1)) (StableHlo.devRef_ne_of_ne (by decide))).symm
  | 2 => exact ((pdats m hchk 1 c).arrAt_in 2 rfl _).trans <| (A_eq1 (E3 m) (adm m 1) hchk c 2).trans (W4_of m hchk c (Proc.devRef .tc (Pipeline.arrRef spec1 2)) (StableHlo.devRef_ne_of_ne (by decide))).symm
  | 3 => exact ((pdats m hchk 1 c).arrAt_in 3 rfl _).trans <| (A_eq1 (E3 m) (adm m 1) hchk c 3).trans (W4_of m hchk c (Proc.devRef .tc (Pipeline.arrRef spec1 3)) (StableHlo.devRef_ne_of_ne (by decide))).symm
  | 4 => exact ((pdats m hchk 1 c).arrAt_in 4 rfl _).trans <| (A_eq1 (E3 m) (adm m 1) hchk c 4).trans (W4_of m hchk c (Proc.devRef .tc (Pipeline.arrRef spec1 4)) (StableHlo.devRef_ne_of_ne (by decide))).symm
  | 5 => exact ((pdats m hchk 1 c).arrAt_in 5 rfl _).trans <| (A_eq1 (E3 m) (adm m 1) hchk c 5).trans (W4_of m hchk c (Proc.devRef .tc (Pipeline.arrRef spec1 5)) (StableHlo.devRef_ne_of_ne (by decide))).symm
  | 6 => exact ((pdats m hchk 1 c).arrAt_in 6 rfl _).trans <| (A_eq1 (E3 m) (adm m 1) hchk c 6).trans (W4_of m hchk c (Proc.devRef .tc (Pipeline.arrRef spec1 6)) (StableHlo.devRef_ne_of_ne (by decide))).symm
  | 7 => exact (W4_at m hchk c).symm

theorem Phi_in (c : Dev nD) : (iprop(iprop(Pipeline.scopedRest spec1 c ∗ (∃ r, prngReg c r) ∗ Pipeline.ownSems0 osem1 c
        ∗ (bigSep H1 fun b => ((c.tc : Thread nD τ).loc b) ↦{fullShare} W3 m c (Proc.devRef .tc b)) ∗ Transfers.MayWaits (c : Thread nD τ) () (0 : CellTallies nD τ sig Unit))
        ∗ Pipeline.tablesAt (pcfgs (F := F)) (adm m) 1 c) : sProp 𝕄) ⊢ PhiM (E3 m) c := by
  rw [tbl_held]; unfold PhiM
  iintro ⟨⟨Hs, Hp, Ho, Hh, -⟩, Ht⟩
  isplitl [Hs]; · iexact Hs
  isplitl [Hp]; · iexact Hp
  isplitl [Ho]; · iexact Ho
  isplitl [Hh]; · iexact Hh
  iexact Ht

theorem Phi_out (c : Dev nD) : PhiM (E3 m) c ⊢ (iprop(iprop(Pipeline.scopedRest spec1 c ∗ (∃ r, prngReg c r) ∗ Pipeline.ownSems0 osem1 c
        ∗ (bigSep H1 fun b => ((c.tc : Thread nD τ).loc b) ↦{fullShare} W3 m c (Proc.devRef .tc b)))
        ∗ Pipeline.tablesAt (pcfgs (F := F)) (adm m) 1 c) : sProp 𝕄) := by
  rw [tbl_held]; unfold PhiM
  iintro ⟨Hs, Hp, Ho, Hh, Ht⟩
  isplitr [Ht]
  · isplitl [Hs]; · iexact Hs
    isplitl [Hp]; · iexact Hp
    isplitl [Ho]; · iexact Ho
    iexact Hh
  iexact Ht

theorem H1_sub : Pipeline.hbmRefs (τ := τ) H1 ⊆ Sr1 := by
  intro b hb
  obtain ⟨r, hr, rfl⟩ := Finset.mem_map.mp hb
  obtain rfl := Finset.mem_singleton.mp hr
  refine Finset.mem_sdiff.mpr ⟨Finset.mem_sdiff.mpr ⟨?_, ?_⟩, ?_⟩
  · exact Finset.mem_filter.mpr ⟨StableHlo.devRef_mem_tcRefs _, by decide⟩
  · intro h
    obtain ⟨r', hr', e⟩ := Finset.mem_map.mp h
    obtain ⟨w, -, rfl⟩ := Finset.mem_image.mp hr'
    exact absurd (Proc.devRef_injective _ e) (by revert w; decide)
  · intro h
    obtain ⟨r', hr', e⟩ := Finset.mem_map.mp h
    obtain ⟨w, -, rfl⟩ := Finset.mem_image.mp hr'
    exact absurd (Proc.devRef_injective _ e) (by revert w; decide)

set_option backward.isDefEq.respectTransparency.types false in
def R1 : Pipeline.RegionSeg (pcfgs (F := F)) (adm m) (pdats m hchk) () defs₀ Variants.none Lv lv 1 :=
  Pipeline.RegionSeg.ofHeldDHT (pcfgs (F := F)) (adm m) (pdats m hchk) () defs₀ Variants.none Lv lv 1 (fun _ => 0)
    () osem1 ownSemFacts1 H1 Sr1 H1_sub launch1
    (fun c => (body_obligation1 (E3 m) (adm m 1) hchk c).loose) (fun _ _ => rfl) (fun _ => rfl)
    (fun c => (pdats m hchk 1 c).share_full fun _ => rfl)
    (fun c => (show _ ⊢ (BI.emp : sProp 𝕄) from by iintro -; iempintro).trans (Transfers.MayWaits.zero _ _))
    (W3 m) (W4 m hchk) (Phi_in m) (Phi_out m) (fun _ => 0) (cut m 1) (fun _ => BI.emp)
    (fun _ _ => rfl) (tbl_v11 m) (exit1 m hchk) (W4_tbl m hchk)

theorem tbl1_S : Pipeline.tblRefs (τ := τ) pre1 ⊆ Pipeline.ucRefs τ sig \ Pipeline.arrRefs spec1 :=
  Pipeline.tblRefs_sub_ucRefs_sdiff spec1 pre1 (by decide) (by decide)

theorem hpre1 (c : Dev nD) : iprop(StableHlo.held (c : Thread nD τ) (Pipeline.ucRefs τ sig) (W3 m c) ∗ Er c) ⊢ (R1 m hchk).pre c := by
  show _ ⊢ (iprop(StableHlo.held (c : Thread nD τ) (Pipeline.arrRefs spec1) (W3 m c) ∗ StableHlo.held (c : Thread nD τ) (Pipeline.tblRefs pre1) (W3 m c) ∗ (∃ r, prngReg c r)
    ∗ (StableHlo.held (c : Thread nD τ) Sr1 (W3 m c) ∗ BI.emp)
    ∗ ∃ W, owes (c : Thread nD τ) (0 : CellTallies nD τ sig Unit) W) : sProp 𝕄)
  rw [StableHlo.held_sub_split (c : Thread nD τ) arr1_S (W3 m c), StableHlo.held_sub_split (c : Thread nD τ) tbl1_S (W3 m c)]
  iintro ⟨⟨Ha, Ht, Hr⟩, Hp, HO⟩
  isplitl [Ha]; · iexact Ha
  isplitl [Ht]; · iexact Ht
  isplitl [Hp]; · iexact Hp
  isplitl [Hr]
  · isplitl [Hr]; · iexact Hr
    iempintro
  iexact HO

theorem rest1_eq (c : Dev nD) (b : DevRef τ sig) (h : b ∈ Sr1) : W4 m hchk c b = W3 m c b :=
  W4_of m hchk c b fun e => (Finset.mem_sdiff.mp (Finset.mem_sdiff.mp h).1).2 (by
    rw [e]; exact Finset.mem_map_of_mem _ (Finset.mem_image_of_mem _ (Finset.mem_univ (7 : Fin 8))))

theorem hpost1 (c : Dev nD) : (R1 m hchk).post c ⊢ iprop(StableHlo.held (c : Thread nD τ) (Pipeline.ucRefs τ sig) (W4 m hchk c) ∗ Er c) := by
  show (iprop(StableHlo.held (c : Thread nD τ) (Pipeline.arrRefs spec1) (W4 m hchk c) ∗ StableHlo.held (c : Thread nD τ) (Pipeline.tblRefs pre1) (W4 m hchk c) ∗ (∃ r, prngReg c r)
    ∗ (StableHlo.held (c : Thread nD τ) Sr1 (W3 m c) ∗ BI.emp)
    ∗ ∃ W, owes (c : Thread nD τ) (0 : CellTallies nD τ sig Unit) W) : sProp 𝕄) ⊢ _
  rw [StableHlo.held_sub_split (c : Thread nD τ) arr1_S (W4 m hchk c), StableHlo.held_sub_split (c : Thread nD τ) tbl1_S (W4 m hchk c),
    StableHlo.held_congr (c : Thread nD τ) (rest1_eq m hchk c)]
  iintro ⟨Ha, Ht, Hp, ⟨Hr, -⟩, HO⟩
  isplitl [Ha Ht Hr]
  · isplitl [Ha]; · iexact Ha
    isplitl [Ht]; · iexact Ht
    iexact Hr
  isplitl [Hp]; · iexact Hp
  iexact HO

/-! ## The run -/

/-- From any memory whose table words meet the main kernel's side condition: every run ends, with the arguments as
    launched, the result at what the main kernel leaves, and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v17) = out2 m hchk c)
      ∧ r.2.sem = fun _ => 0) := by
  simp only [← outsW_4 m hchk]
  refine run_cond m (Ix := Unit) (U := Pipeline.UD sig nD τ) (Lvl := ℕ) embL () Variants.none Lv lv Lv_ne ρ (outsW m hchk) (adm m) (pdats m hchk)
    (fun _ => 0) (fun _ => iprop(emp)) (initOf (Pipeline.cells (Pipeline.pin (pcfgs (F := F)) (adm m)) (cellOf_inj (adm m))) (Pipeline.launchToks (Pipeline.pin (pcfgs (F := F)) (adm m)) (cellOf_inj (adm m))), 1)
    ?hu (fun _ => Er) ?hE0 ?hE2
    (R0 m hchk) (hpre0 m hchk) (fun c => by rw [V2_eq]; exact hpost0 m hchk c)
    (R1 m hchk) (fun c => by rw [V3_eq]; exact hpre1 m hchk c) (fun c => by rw [V4_eq]; exact hpost1 m hchk c)
  case hu =>
    iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case hE0 =>
    iintro ⟨H, -⟩
    imodintro
    iapply (show (bigSep Finset.univ fun c : Dev nD => iprop(unscopedSems0 c ∗ owes (c : Thread nD τ) (0 : CellTallies nD τ sig Unit) ∅ ∗ Pipeline.launchCred (fun _ => 0) c ∗ prngReg c (ρ c) ∗ emp) : sProp 𝕄)
        ⊢ bigSep Finset.univ Er from bigSep_mono fun c _ => (show (iprop(unscopedSems0 c ∗ owes (c : Thread nD τ) (0 : CellTallies nD τ sig Unit) ∅ ∗ Pipeline.launchCred (fun _ => 0) c ∗ prngReg c (ρ c) ∗ emp) : sProp 𝕄) ⊢ Er c from by
      iintro ⟨-, HO, -, Hp, -⟩
      isplitl [Hp]; · iexists _; iexact Hp
      iexists _; iexact HO))
    iexact H
  case hE2 =>
    intro c
    iintro ⟨-, HO⟩
    iexact HO

end Cert.Kernel.Hand

end
-- ==== Proof.Printed.Table.lean ====
/-
  The table words and the loop over the embedding blocks: every word is at most 16384, so the loop makes sense and each
  of its blocks lies inside the embedding arrays.
-/
module

public import proofs.«01_k».proof.Proof.Printed.Whole
public import Idealize.ShloMosaic.Lib.Routing.Words
public import Idealize.ShloMosaic.Lib.LoopRemainder
public import Idealize.ShloMosaic.Lib.StableHlo.Predicate
public import Idealize.ShloMosaic.Lib.Tactic.CleanTypes
public import Idealize.ShloMosaic.Lib.StableHlo.ReadAt

@[expose] public section

set_option maxRecDepth 16384

noncomputable section

namespace Cert.Kernel.Hand

open Cert.Kernel.Gen
open Idealize.ShloMosaic Idealize.ShloMosaic.TcCoe Idealize.ShloMosaic.Tactic

/-- One past the last embedding block that the words `a` and `b` select. -/
def blkEnd (a b : ℕ) : ℕ := if a < b then (b + 255) / 256 else a / 256

theorem blkEnd_bounds {a b : ℕ} (ha : a ≤ 16384) (hb : b ≤ 16384) : a / 256 ≤ blkEnd a b ∧ blkEnd a b ≤ 64 := by
  unfold blkEnd; split <;> omega

theorem sdiv256 {a : ℕ} (ha : a < 2 ^ 31) : Scalar.divsi (BitVec.ofNat 32 a) 256#32 = BitVec.ofNat 32 (a / 256) :=
  Routing.divsi_word .scalar ha (by decide) (by decide)

/-- The printed floor division by 256 is the division. -/
theorem floor256 {a : ℕ} (ha : a ≤ 16384) :
    Scalar.select (Scalar.andi (Scalar.cmpi .ne (Scalar.subi (Scalar.extui (Scalar.cmpi .sgt (BitVec.ofNat 32 a) 0#32) : BitVec 32) (Scalar.extui (Scalar.cmpi .slt (BitVec.ofNat 32 a) 0#32)))
      (Scalar.subi (Scalar.extui (Scalar.cmpi .sgt 256#32 0#32)) (Scalar.extui (Scalar.cmpi .slt 256#32 0#32))))
      (Scalar.cmpi .ne (Scalar.remsi (BitVec.ofNat 32 a) 256#32) 0#32))
      (Scalar.subi (Scalar.divsi (BitVec.ofNat 32 a) 256#32) 1#32) (Scalar.divsi (BitVec.ofNat 32 a) 256#32) = BitVec.ofNat 32 (a / 256) := by
  rw [sdiv256 (by omega)]
  rcases Nat.eq_zero_or_pos a with rfl | h
  · decide
  · have h1 : Scalar.cmpi .sgt (BitVec.ofNat 32 a) 0#32 = 1#1 := by
      refine (StableHlo.Predicate.sgt_iff_toNat ?_ ?_).2 ?_ <;> simp <;> omega
    have h2 : Scalar.cmpi .slt (BitVec.ofNat 32 a) 0#32 = 0#1 := by
      refine (Or.resolve_right (show Scalar.cmpi .slt (BitVec.ofNat 32 a) 0#32 = 0#1 ∨ Scalar.cmpi .slt (BitVec.ofNat 32 a) 0#32 = 1#1 from ?_) ?_)
      · generalize Scalar.cmpi .slt (BitVec.ofNat 32 a) 0#32 = x
        revert x; decide
      · intro e
        have := (StableHlo.Predicate.slt_iff_toNat (a := BitVec.ofNat 32 a) (b := 0#32) (by simp; omega) (by simp)).1 e
        simp at this
    rw [h1, h2]
    generalize Scalar.cmpi .ne (Scalar.remsi (BitVec.ofNat 32 a) 256#32) 0#32 = y
    have e : Scalar.cmpi .ne (Scalar.subi (Scalar.extui (1#1 : BitVec 1) : BitVec 32) (Scalar.extui (0#1 : BitVec 1)))
        (Scalar.subi (Scalar.extui (Scalar.cmpi .sgt 256#32 0#32)) (Scalar.extui (Scalar.cmpi .slt 256#32 0#32))) = 0#1 := by decide
    rw [e]
    have e2 : Scalar.andi 0#1 y = 0#1 := by revert y; decide
    rw [e2]
    rfl

theorem sub_nat {x y : ℕ} (h : y ≤ x) : BitVec.ofNat 32 x - BitVec.ofNat 32 y = BitVec.ofNat 32 (x - y) := by
  obtain ⟨d, rfl⟩ := Nat.exists_eq_add_of_le h
  rw [Nat.add_sub_cancel_left, BitVec.ofNat_add, BitVec.add_comm, BitVec.add_sub_cancel]

theorem t1_loop_eq {a b : ℕ} (ha : a ≤ 16384) (hb : b ≤ 16384) :
    k1_t1_loop (BitVec.ofNat 32 a) (BitVec.ofNat 32 b) = ⟨BitVec.ofNat 32 (a / 256), BitVec.ofNat 32 (blkEnd a b), 1#32⟩ := by
  have hs : Scalar.select (Scalar.cmpi .sgt (BitVec.ofNat 32 b) (BitVec.ofNat 32 a))
      (Scalar.divsi (Scalar.addi (BitVec.ofNat 32 b) 255#32) 256#32) (BitVec.ofNat 32 (a / 256)) = BitVec.ofNat 32 (blkEnd a b) := by
    have e0 : Scalar.addi (BitVec.ofNat 32 b) 255#32 = BitVec.ofNat 32 (b + 255) := (BitVec.ofNat_add b 255).symm
    rw [e0, sdiv256 (by omega)]
    unfold blkEnd
    have hc := StableHlo.Predicate.sgt_iff_toNat (a := BitVec.ofNat 32 b) (b := BitVec.ofNat 32 a) (by simp; omega) (by simp; omega)
    have ea : (BitVec.ofNat 32 a).toNat = a := by simp; omega
    have eb : (BitVec.ofNat 32 b).toNat = b := by simp; omega
    rw [ea, eb] at hc
    by_cases h : a < b
    · rw [if_pos h]
      have := hc.2 h
      rw [show Scalar.cmpi .sgt (BitVec.ofNat 32 b) (BitVec.ofNat 32 a) = 1#1 from this]
      rfl
    · rw [if_neg h]
      have : Scalar.cmpi .sgt (BitVec.ofNat 32 b) (BitVec.ofNat 32 a) = 0#1 := by
        have hn : Scalar.cmpi .sgt (BitVec.ofNat 32 b) (BitVec.ofNat 32 a) ≠ 1#1 := fun e => h (hc.1 e)
        generalize Scalar.cmpi .sgt (BitVec.ofNat 32 b) (BitVec.ofNat 32 a) = x at hn
        revert x; decide
      rw [this]
      rfl
  unfold k1_t1_loop
  simp only [floor256 ha, hs, Scalar.muli_divsi_one]
  have : Scalar.addi (BitVec.ofNat 32 (a / 256)) (Scalar.subi (BitVec.ofNat 32 (blkEnd a b)) (BitVec.ofNat 32 (a / 256))) = BitVec.ofNat 32 (blkEnd a b) := by
    show BitVec.ofNat 32 (a / 256) + (BitVec.ofNat 32 (blkEnd a b) - BitVec.ofNat 32 (a / 256)) = _
    rw [sub_nat (blkEnd_bounds ha hb).1, ← BitVec.ofNat_add, Nat.add_sub_cancel' (blkEnd_bounds ha hb).1]
  rw [this]

theorem t1_trips {a b : ℕ} (ha : a ≤ 16384) (hb : b ≤ 16384) :
    (k1_t1_loop (BitVec.ofNat 32 a) (BitVec.ofNat 32 b)).trips = blkEnd a b - a / 256 := by
  rw [t1_loop_eq ha hb]
  have h := blkEnd_bounds ha hb
  show Scf.trips _ _ _ = _
  unfold Scf.trips
  rw [WordArith.toInt_ofNat_small _ (by omega), WordArith.toInt_ofNat_small _ (by omega), show (1#32 : BitVec 32).toInt = 1 from by decide]
  omega

theorem t1_iv {a b : ℕ} (ha : a ≤ 16384) (hb : b ≤ 16384) (k : Fin (k1_t1_loop (BitVec.ofNat 32 a) (BitVec.ofNat 32 b)).trips) :
    Scf.iv (BitVec.ofNat 32 (a / 256)) 1#32 k.val = BitVec.ofNat 32 (a / 256 + k.val) ∧ a / 256 + k.val < 64 := by
  have hk : k.val < blkEnd a b - a / 256 := lt_of_lt_of_eq k.isLt (t1_trips ha hb)
  have h := blkEnd_bounds ha hb
  refine ⟨?_, by omega⟩
  unfold Scf.iv
  rw [BitVec.mul_one, BitVec.ofNat_add]

theorem rowsOff_eq {a b : ℕ} (ha : a ≤ 16384) (hb : b ≤ 16384) (k : Fin (k1_t1_loop (BitVec.ofNat 32 a) (BitVec.ofNat 32 b)).trips) :
    k1_off3 (BitVec.ofNat 32 a) (BitVec.ofNat 32 b) k = ![(a / 256 + k.val) * 256, 0] := by
  obtain ⟨h1, h2⟩ := t1_iv ha hb k
  unfold k1_off3
  simp only [floor256 ha, h1]
  have : (Scalar.muli (BitVec.ofNat 32 (a / 256 + k.val)) 256#32).toNat = (a / 256 + k.val) * 256 := by
    show (BitVec.ofNat 32 (a / 256 + k.val) * BitVec.ofNat 32 256).toNat = _
    rw [← BitVec.ofNat_mul, BitVec.toNat_ofNat]; omega
  rw [this]

theorem blkOff_eq {a b : ℕ} (ha : a ≤ 16384) (hb : b ≤ 16384) (k : Fin (k1_t1_loop (BitVec.ofNat 32 a) (BitVec.ofNat 32 b)).trips) :
    k1_off4 (BitVec.ofNat 32 a) (BitVec.ofNat 32 b) k = ![a / 256 + k.val, 0, 0] := by
  obtain ⟨h1, h2⟩ := t1_iv ha hb k
  unfold k1_off4
  simp only [floor256 ha, h1]
  have : (Scalar.indexCast (BitVec.ofNat 32 (a / 256 + k.val)) : Index).toNat = a / 256 + k.val := by
    show (BitVec.ofNat 32 (a / 256 + k.val)).toNat = _
    rw [BitVec.toNat_ofNat]; omega
  rw [this]

/-- The side condition of the main kernel holds of words up to 16384. -/
theorem chk_of_le (i : grid1.Coords) {a b : ℕ} (ha : a ≤ 16384) (hb : b ≤ 16384) : k1_chk1 i (BitVec.ofNat 32 a) (BitVec.ofNat 32 b) := by
  have hne : ∀ k : Fin (k1_t2_loop (BitVec.ofNat 32 a) (BitVec.ofNat 32 b)).trips, False := fun k => Scf.rem_no_trip _ _ k
  refine ⟨fun _ => ?_, fun k _ => ?_, fun k _ hin => ?_, fun k _ => ?_, fun _ => Scf.rem_ok _ _, fun k => (hne k).elim, fun k => (hne k).elim, fun k => (hne k).elim⟩
  · rw [t1_loop_eq ha hb]
    have h := blkEnd_bounds ha hb
    show Scf.OK _ _ _
    refine ⟨show (0 : ℤ) < (1#32 : BitVec 32).toInt by decide, ?_⟩
    unfold Scf.trips
    rw [WordArith.toInt_ofNat_small _ (by omega), WordArith.toInt_ofNat_small _ (by omega), show (1#32 : BitVec 32).toInt = 1 from by decide]
    omega
  · rw [rowsOff_eq ha hb]
    have := (t1_iv ha hb k).2
    intro x; fin_cases x
    · show (a / 256 + k.val) * 256 + 256 ≤ 16384; omega
    · show 0 + 4096 ≤ 4096; omega
  · refine (Rect.wholeWords_iff_at ..).2 ?_
    show Shape.WholeWordsAt S16384x4096 (EltTy.packing .fp8e5m2) (k1_off3 _ _ k) S256x4096.size (fun _ => 1)
    rw [rowsOff_eq ha hb]
    have := (t1_iv ha hb k).2
    generalize a / 256 + k.val = n at *
    revert this; revert n; decide
  · rw [blkOff_eq ha hb]
    have := (t1_iv ha hb k).2
    intro x; fin_cases x
    · show a / 256 + k.val + 1 ≤ 64; omega
    · show 0 + 1 ≤ 1; omega
    · show 0 + 256 ≤ 256; omega

/-! ## The table -/

variable {F : FTy → Type} [FloatOps F]
variable (m : (ℓ : Loc nD τ sig) → Buf (Elt F) ℓ)

/-- The mask whose rows the table counts. -/
def tblMask (ids : IVec S16384 32) : IVec S21x16384 1 :=
  cmpi .slt (broadcastInDim S21x16384 ![0, 1] bcast_S1x16384_S21x16384_0_1 (broadcastInDim S1x16384 ![1] bcast_S16384_S1x16384_1 ids))
    (broadcastInDim S21x16384 ![0, 1] bcast_S21x1_S21x16384_0_1 (broadcastInDim S21x1 ![0] bcast_S21_S21x1_0
      (muli (iotaInDim S21 32 0) (broadcastInDim S21 ![] bcast_S_S21 (constantI S_ 32 1024#32)))))

/-- The table as the host computes it. -/
def tblOf (ids : IVec S16384 32) : IVec S21 32 :=
  Host.reduce IntOp.addi (extui 32 (tblMask ids) natLt_1_32) (constantI S_ 32 0#32) reducesTo_S21x16384_S21_d1 h_S_

theorem E3_v11 (c : Dev nD) : E3 m c main_v11 = (tblOf (m ((c : Thread nD τ).loc main_arg6)) : Vec F S21 .i32) := by
  show StableHlo.after hostOps1 (W2 m c) (Proc.devRef .tc main_v11) = _
  have e : W2 m c (Proc.devRef .tc main_arg6) = m ((c : Thread nD τ).loc main_arg6) := by
    refine (Function.update_of_ne (StableHlo.devRef_ne_of_ne (by decide)) _ _).trans ?_
    exact V1_of m c main_arg6 (by decide)
  rw [← e]
  after_reads_simp
  rfl

theorem tblOf_le (ids : IVec S16384 32) (j : S21.Idx) : (tblOf ids j).toNat ≤ 16384 := by
  unfold tblOf
  refine (Nat.le_of_eq (StableHlo.Predicate.toNat_reduce_count_cols (by decide) (tblMask ids) natLt_1_32 reducesTo_S21x16384_S21_d1 h_S_ j)).trans ?_
  refine (Finset.card_le_univ _).trans ?_
  simp

theorem tableOk : TableOk m := by
  intro c i h
  have key : ∀ (off : Fin 1 → ℕ) (hin : ∀ x, off x + S1.size x ≤ S21.size x),
      ∃ a : ℕ, a ≤ 16384 ∧ (View.readAt (Elt F) tbM.view (Rect.unit (s := S21) off S1.size hin).toLoadRect (E3 m c main_v11) (Shape.Idx.first (numel1_S1.symm ▸ Nat.one_pos)) : BitVec 32) = BitVec.ofNat 32 a := by
    intro off hin
    have hr : ∀ ft : HbBuf (F := F) c tbM, ∃ j : S21.Idx, (View.readAt (Elt F) tbM.view (Rect.unit (s := S21) off S1.size hin).toLoadRect ft (Shape.Idx.first (numel1_S1.symm ▸ Nat.one_pos)) : BitVec 32) = ft j := fun ft => ⟨_, rfl⟩
    obtain ⟨j, hj⟩ := hr (E3 m c main_v11)
    refine ⟨(tblOf (m ((c : Thread nD τ).loc main_arg6)) j).toNat, tblOf_le _ _, hj.trans ?_⟩
    rw [BitVec.ofNat_toNat, BitVec.setWidth_eq]
    exact congrFun (E3_v11 m c) j
  obtain ⟨a, ha, ea⟩ := key _ (k1_off1_inb i h)
  obtain ⟨b, hb, eb⟩ := key _ (k1_off2_inb i h)
  unfold tblLo tblHi
  rw [ea, eb]
  exact chk_of_le i ha hb

end Cert.Kernel.Hand
-- ==== Proof.StatsValue.lean ====
/-
  What one block of the statistics kernel holds over the extended reals: for each of its 128 rows the maximum of the
  row's 20480 logits, and one over the sum of the row's exponentials.
-/
module

public import proofs.«01_k».proof.Proof.StatsRegion
public import Idealize.ShloMosaic.Lib.Pointwise
public import Idealize.ShloMosaic.PureOps.Ideal.Laws

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pointwise

/-- The constant the kernel multiplies an exponent by before raising 2 to it. -/
def log2e : EReal := (Named.named (F := Ideal) κ "log2e" 0x3FB8AA3B#32 : Ideal .f32)

/-- The kernel's exponential, of a difference of logits. -/
def ker_exp (z : EReal) : EReal := (FloatOps.exp2 (F := Ideal) (φ := .f32) (z * log2e) : Ideal .f32)

/-- The largest logit of row `p` of a block. -/
def rowMax (X : S128x20480.Idx → EReal) (p : Fin 128) : EReal := Finset.univ.sup fun v : Fin 20480 => X (ix2 p v)

/-- The sum of the exponentials of row `p` of a block, each taken below the row's largest logit. -/
def rowSum (X : S128x20480.Idx → EReal) (p : Fin 128) : EReal :=
  ∑ v : Fin 20480, ker_exp (X (ix2 p v) - rowMax X p)

/-- A block of statistics: row 0 the maxima, row 1 the inverted sums. -/
def statsG (X : S128x20480.Idx → EReal) (y : S2x128.Idx) : EReal :=
  if (y 0).val = 0 then rowMax X (y 1) else Ideal.div 1 (rowSum X (y 1))

/-- The block read at natural numbers (0 outside it). -/
def cellN (X : S128x20480.Idx → EReal) (p v : ℕ) : EReal :=
  if h : p < 128 ∧ v < 20480 then X (ix2 (⟨p, h.1⟩ : Fin 128) (⟨v, h.2⟩ : Fin 20480)) else 0

theorem bot_bits : Ideal.ofBits .f32 0xFF800000#32 = (⊥ : EReal) := by simp [Ideal.ofBits, Ideal.ieee]

variable (arg1 : Memref sig .tc .vmem S128x20480 .bf16) (harg1 : arg1.IsWhole) (X : Vec Ideal S128x20480 .bf16)

/-- A loaded slice at a row and a lane. -/
theorem slice_apply (o a : ℕ) (off : Fin 2 → ℕ) (hoff : off = ![o, a]) (h : ∀ a, off a + S16x128.size a ≤ S128x20480.size a)
    (r : Fin 16) (l : Fin 128) :
    slice (F := Ideal) arg1 (harg1.unread X) off h (ix2 r l) = cellN X (o + r.val) (a + l.val) := by
  subst hoff
  have h0 := h 0
  have h1 := h 1
  simp at h0 h1
  show (arg1.view.read (Elt Ideal) (harg1.unread X)) _ = _
  rw [harg1.read_unread]
  unfold cellN
  rw [dif_pos ⟨by omega, by omega⟩]
  refine congrArg X ?_
  idx_ext

/-- The maximum carried after `k` trips. -/
theorem fold_max (o n : ℕ) (off : Fin n → Fin 2 → ℕ) (hoff : ∀ k, off k = ![o, (k.val + 1) * 128])
    (h : ∀ k a, off k a + S16x128.size a ≤ S128x20480.size a)
    (off0 : Fin 2 → ℕ) (hoff0 : off0 = ![o, 0]) (h0 : ∀ a, off0 a + S16x128.size a ≤ S128x20480.size a)
    (k : ℕ) (hk : k ≤ n) (r : Fin 16) (l : Fin 128) :
    fold n (fun k a => k0_pay11 (F := Ideal) a (slice arg1 (harg1.unread X) (off k) (h k)))
      (k0_pay10 (slice arg1 (harg1.unread X) off0 h0)) k (ix2 r l)
      = (Finset.range (k + 1)).sup fun j => cellN X (o + r.val) (j * 128 + l.val) := by
  induction k with
  | zero =>
    show k0_pay10 (slice (F := Ideal) arg1 (harg1.unread X) off0 h0) (ix2 r l) = _
    have e : k0_pay10 (slice (F := Ideal) arg1 (harg1.unread X) off0 h0) (ix2 r l) = slice (F := Ideal) arg1 (harg1.unread X) off0 h0 (ix2 r l) := by
      pointwise [k0_pay10]
    rw [e, slice_apply arg1 harg1 X o 0 off0 hoff0]
    simp
  | succ k ih =>
    have hs := fold_succ n (fun k a => k0_pay11 (F := Ideal) a (slice arg1 (harg1.unread X) (off k) (h k)))
      (k0_pay10 (slice arg1 (harg1.unread X) off0 h0)) (⟨k, hk⟩ : Fin n)
    refine (congrFun hs _).trans ?_
    have e : ∀ (m : FVec Ideal S16x128 .bf16) (x : Vec Ideal S16x128 .bf16), k0_pay11 m x (ix2 r l) = max (m (ix2 r l)) (x (ix2 r l)) := by
      intro m x; pointwise [k0_pay11]
    rw [e, ih (by omega), slice_apply arg1 harg1 X o ((k + 1) * 128) (off ⟨k, hk⟩) (hoff ⟨k, hk⟩), Finset.range_add_one (n := k + 1), Finset.sup_insert]
    exact max_comm _ _

/-- The sum carried after `k` trips. -/
theorem fold_sum (m : FVec Ideal S16x1 .f32) (o n : ℕ) (off : Fin n → Fin 2 → ℕ) (hoff : ∀ k, off k = ![o, k.val * 128])
    (h : ∀ k a, off k a + S16x128.size a ≤ S128x20480.size a)
    (k : ℕ) (hk : k ≤ n) (r : Fin 16) (l : Fin 128) :
    fold n (fun k a => k0_pay22 (F := Ideal) m a (slice arg1 (harg1.unread X) (off k) (h k))) k0_pay13 k (ix2 r l)
      = ∑ j ∈ Finset.range k, ker_exp (cellN X (o + r.val) (j * 128 + l.val) - m (ix2 r 0)) := by
  induction k with
  | zero =>
    show k0_pay13 (F := Ideal) (ix2 r l) = _
    rw [Finset.range_zero, Finset.sum_empty]
    pointwise [k0_pay13]
  | succ k ih =>
    have hs := fold_succ n (fun k a => k0_pay22 (F := Ideal) m a (slice arg1 (harg1.unread X) (off k) (h k))) k0_pay13 (⟨k, hk⟩ : Fin n)
    refine (congrFun hs _).trans ?_
    have e : ∀ (s : FVec Ideal S16x128 .f32) (x : Vec Ideal S16x128 .bf16),
        k0_pay22 m s x (ix2 r l) = s (ix2 r l) + ker_exp (x (ix2 r l) - m (ix2 r 0)) := by
      intro s x; pointwise [k0_pay22]; rfl
    rw [e, ih (by omega), slice_apply arg1 harg1 X o (k * 128) (off ⟨k, hk⟩) (hoff ⟨k, hk⟩), Finset.sum_range_succ]

/-- Maximum over the lanes of the maxima over the 160 column groups: the row's maximum. -/
theorem sup_lanes (p : ℕ) (hp : p < 128) :
    Finset.fold max (⊥ : EReal) (fun l : Fin 128 => (Finset.range 160).sup fun j => cellN X p (j * 128 + l.val)) Finset.univ
      = rowMax X ⟨p, hp⟩ := by
  show Finset.univ.sup (fun l : Fin 128 => (Finset.range 160).sup fun j => cellN X p (j * 128 + l.val)) = _
  unfold rowMax
  apply le_antisymm
  · refine Finset.sup_le fun l _ => Finset.sup_le fun j hj => ?_
    have hj := Finset.mem_range.mp hj
    have hv : j * 128 + l.val < 20480 := by omega
    unfold cellN
    rw [dif_pos ⟨hp, hv⟩]
    exact Finset.le_sup (f := fun v : Fin 20480 => X (ix2 (⟨p, hp⟩ : Fin 128) v)) (Finset.mem_univ (⟨_, hv⟩ : Fin 20480))
  · refine Finset.sup_le fun v _ => ?_
    have hv := v.isLt
    refine le_trans ?_ (Finset.le_sup (f := fun l : Fin 128 => (Finset.range 160).sup fun j => cellN X p (j * 128 + l.val))
      (Finset.mem_univ (⟨v.val % 128, Nat.mod_lt _ (by norm_num)⟩ : Fin 128)))
    refine le_trans (le_of_eq ?_) (Finset.le_sup (f := fun j => cellN X p (j * 128 + v.val % 128))
      (Finset.mem_range.mpr (show v.val / 128 < 160 by omega)))
    have hv' : v.val / 128 * 128 + v.val % 128 = v.val := by omega
    simp only [hv']
    unfold cellN
    rw [dif_pos ⟨hp, hv⟩]

/-- Sum over the lanes of the sums over the 160 column groups: the sum over the row. -/
theorem sum_lanes (p : ℕ) (hp : p < 128) (f : EReal → EReal) :
    ∑ l : Fin 128, ∑ j ∈ Finset.range 160, f (cellN X p (j * 128 + l.val)) = ∑ v : Fin 20480, f (X (ix2 (⟨p, hp⟩ : Fin 128) v)) := by
  rw [Idealize.ShloMosaic.Fin.sum_univ_tiles 160 128 rfl, Finset.sum_comm, Finset.sum_range]
  refine Finset.sum_congr rfl fun j _ => Finset.sum_congr rfl fun l _ => ?_
  have : j.val * 128 + l.val < 20480 := by omega
  unfold cellN
  rw [dif_pos ⟨hp, this⟩]

section Group

variable (o n1 : ℕ) (ho : o + 16 ≤ 128) (off1 : Fin n1 → Fin 2 → ℕ) (hoff1 : ∀ k, off1 k = ![o, (k.val + 1) * 128])
    (h1 : ∀ k a, off1 k a + S16x128.size a ≤ S128x20480.size a)
    (off0 : Fin 2 → ℕ) (hoff0 : off0 = ![o, 0]) (h0 : ∀ a, off0 a + S16x128.size a ≤ S128x20480.size a)
    (K1 : ℕ) (hK1 : K1 = 159) (hn1 : n1 = 159)

include hoff1 hoff0 hK1 hn1 in
/-- The row maxima of one group of 16 rows. -/
theorem grp_max (r : Fin 16) (a : Fin 1) :
    k0_pay12 (F := Ideal) (fold n1 (fun k a => k0_pay11 a (slice arg1 (harg1.unread X) (off1 k) (h1 k)))
      (k0_pay10 (slice arg1 (harg1.unread X) off0 h0)) K1) (ix2 r a) = rowMax X ⟨o + r.val, by omega⟩ := by
  have e : ∀ M : FVec Ideal S16x128 .bf16, k0_pay12 M (ix2 r a)
      = Finset.fold max (Ideal.ofBits FTy.f32 0xFF800000#32) (fun x => M (ix2 r x)) Finset.univ := by
    intro M; pointwise [k0_pay12]
  rw [e, bot_bits, ← sup_lanes X (o + r.val)]
  refine Finset.fold_congr fun l _ => ?_
  rw [fold_max arg1 harg1 X o n1 off1 hoff1 h1 off0 hoff0 h0 K1 (by omega), hK1]

variable (n2 : ℕ) (off2 : Fin n2 → Fin 2 → ℕ) (hoff2 : ∀ k, off2 k = ![o, k.val * 128])
    (h2 : ∀ k a, off2 k a + S16x128.size a ≤ S128x20480.size a) (K2 : ℕ) (hK2 : K2 = 160) (hn2 : n2 = 160)
    (inb0 : ∀ a, (![0, o] : Fin 2 → ℕ) a + (![1, 16] : Fin 2 → ℕ) a ≤ S2x128.size a)
    (inb1 : ∀ a, (![1, o] : Fin 2 → ℕ) a + (![1, 16] : Fin 2 → ℕ) a ≤ S2x128.size a)

include ho hoff1 hoff0 hK1 hn1 in
/-- The store of one group's maxima. -/
theorem grp_row0 (s : FVec Ideal S16x128 .f32) (x : S1x16.Idx) :
    k0_pay24 (F := Ideal) (k0_pay12 (fold n1 (fun k a => k0_pay11 a (slice arg1 (harg1.unread X) (off1 k) (h1 k)))
      (k0_pay10 (slice arg1 (harg1.unread X) off0 h0)) K1)) s x
      = statsG X ((Rect.unit (s := S2x128) ![0, o] ![1, 16] inb0).emb x) := by
  have hx : x = ix2 (x 0) (x 1) := by idx_ext
  have e : ∀ (m : FVec Ideal S16x1 .f32), k0_pay24 m s x = m (ix2 (x 1) 0) := by
    intro m; rw [hx]; pointwise [k0_pay24, k0_pay23]
  refine (e _).trans ((grp_max arg1 harg1 X o n1 ho off1 hoff1 h1 off0 hoff0 h0 K1 hK1 hn1 (x 1) 0).trans ?_)
  unfold statsG
  have hx0 : (x 0).val < 1 := (x 0).isLt
  have hy : ((Rect.unit (s := S2x128) ![0, o] ![1, 16] inb0).emb x 0).val = 0 + 1 * (x 0).val := rfl
  rw [if_pos (by rw [hy]; omega)]
  refine congrArg (rowMax X) (Fin.ext ?_)
  show o + (x 1).val = o + 1 * (x 1).val
  omega

include ho hoff1 hoff0 hK1 hn1 hoff2 hK2 hn2 in
/-- The store of one group's inverted sums. -/
theorem grp_row1 (x : S1x16.Idx) :
    k0_pay25 (F := Ideal) (k0_pay12 (fold n1 (fun k a => k0_pay11 a (slice arg1 (harg1.unread X) (off1 k) (h1 k)))
      (k0_pay10 (slice arg1 (harg1.unread X) off0 h0)) K1))
      (fold n2 (fun k a => k0_pay22 (k0_pay12 (fold n1 (fun k a => k0_pay11 a (slice arg1 (harg1.unread X) (off1 k) (h1 k)))
      (k0_pay10 (slice arg1 (harg1.unread X) off0 h0)) K1)) a (slice arg1 (harg1.unread X) (off2 k) (h2 k))) k0_pay13 K2) x
      = statsG X ((Rect.unit (s := S2x128) ![1, o] ![1, 16] inb1).emb x) := by
  have hx : x = ix2 (x 0) (x 1) := by idx_ext
  have e : ∀ (m : FVec Ideal S16x1 .f32) (s : FVec Ideal S16x128 .f32), k0_pay25 m s x = Ideal.div 1 (∑ l, s (ix2 (x 1) l)) := by
    intro m s; rw [hx]; pointwise [k0_pay25, k0_pay23]
  refine (e _ _).trans ?_
  unfold statsG
  have hy : ((Rect.unit (s := S2x128) ![1, o] ![1, 16] inb1).emb x 0).val = 1 + 1 * (x 0).val := rfl
  rw [if_neg (by rw [hy]; omega)]
  refine congrArg (Ideal.div 1) ?_
  have hx1 : (x 1).val < 16 := (x 1).isLt
  have hm := grp_max arg1 harg1 X o n1 ho off1 hoff1 h1 off0 hoff0 h0 K1 hK1 hn1 (x 1) 0
  refine (Finset.sum_congr rfl fun l _ => fold_sum arg1 harg1 X _ o n2 off2 hoff2 h2 K2 (by omega) (x 1) l).trans ?_
  rw [hK2, hm]
  have hp : o + (x 1).val < 128 := by omega
  refine (sum_lanes X (o + (x 1).val) hp fun z => ker_exp (z - rowMax X ⟨o + (x 1).val, hp⟩)).trans ?_
  refine congrArg (rowSum X) (Fin.ext ?_ : (⟨o + (x 1).val, hp⟩ : Fin 128) = (Rect.unit (s := S2x128) ![1, o] ![1, 16] inb1).emb x 1)
  show o + (x 1).val = o + 1 * (x 1).val
  omega

end Group

/-! ## The sixteen stores -/

theorem trips_odd : Scf.trips (1#32) (Scalar.addi 1#32 159#32) 1#32 = 159 := by decide +kernel
theorem trips_even : Scf.trips (0#32) (Scalar.addi 0#32 160#32) 1#32 = 160 := by decide +kernel

theorem off1_eq : ∀ k : Fin k0_t1_loop.trips, k0_off1 k = ![0, (k.val + 1) * 128] := by decide +kernel
theorem off2_eq : ∀ k : Fin k0_t2_loop.trips, k0_off2 k = ![0, k.val * 128] := by decide +kernel
theorem off3_eq : ∀ k : Fin k0_t3_loop.trips, k0_off3 k = ![16, (k.val + 1) * 128] := by decide +kernel
theorem off4_eq : ∀ k : Fin k0_t4_loop.trips, k0_off4 k = ![16, k.val * 128] := by decide +kernel
theorem off5_eq : ∀ k : Fin k0_t5_loop.trips, k0_off5 k = ![32, (k.val + 1) * 128] := by decide +kernel
theorem off6_eq : ∀ k : Fin k0_t6_loop.trips, k0_off6 k = ![32, k.val * 128] := by decide +kernel
theorem off7_eq : ∀ k : Fin k0_t7_loop.trips, k0_off7 k = ![48, (k.val + 1) * 128] := by decide +kernel
theorem off8_eq : ∀ k : Fin k0_t8_loop.trips, k0_off8 k = ![48, k.val * 128] := by decide +kernel
theorem off9_eq : ∀ k : Fin k0_t9_loop.trips, k0_off9 k = ![64, (k.val + 1) * 128] := by decide +kernel
theorem off10_eq : ∀ k : Fin k0_t10_loop.trips, k0_off10 k = ![64, k.val * 128] := by decide +kernel
theorem off11_eq : ∀ k : Fin k0_t11_loop.trips, k0_off11 k = ![80, (k.val + 1) * 128] := by decide +kernel
theorem off12_eq : ∀ k : Fin k0_t12_loop.trips, k0_off12 k = ![80, k.val * 128] := by decide +kernel
theorem off13_eq : ∀ k : Fin k0_t13_loop.trips, k0_off13 k = ![96, (k.val + 1) * 128] := by decide +kernel
theorem off14_eq : ∀ k : Fin k0_t14_loop.trips, k0_off14 k = ![96, k.val * 128] := by decide +kernel
theorem off15_eq : ∀ k : Fin k0_t15_loop.trips, k0_off15 k = ![112, (k.val + 1) * 128] := by decide +kernel
theorem off16_eq : ∀ k : Fin k0_t16_loop.trips, k0_off16 k = ![112, k.val * 128] := by decide +kernel

set_option maxHeartbeats 4000000 in
/-- Every store of the body holds the statistics of the rows it names. -/
theorem stats_pieces (c : Dev nD) (i : grid0.Coords) (arg2 : Memref sig .tc .vmem S2x128 .f32) (harg2 : arg2.IsWhole) :
    ∀ p ∈ (statsRun (F := Ideal) c i arg1 harg1 arg2 harg2 X).1, ∀ x : p.1.shape.Idx, p.2 x = statsG X (p.1.emb x) := by
  unfold statsRun
  dsimp only
  refine List.forall_mem_cons.mpr ⟨fun x => grp_row1 arg1 harg1 X 112 k0_t15_loop.trips (by decide) k0_off15 off15_eq k0_off15_inb ![112, 0] rfl inb_S128x20480_S16x128_112_0
    _ trips_odd trips_odd k0_t16_loop.trips k0_off16 off16_eq k0_off16_inb _ trips_even trips_even inb_S2x128_S1x16_1_112 x, ?_⟩
  refine List.forall_mem_cons.mpr ⟨fun x => grp_row0 arg1 harg1 X 112 k0_t15_loop.trips (by decide) k0_off15 off15_eq k0_off15_inb ![112, 0] rfl inb_S128x20480_S16x128_112_0
    _ trips_odd trips_odd inb_S2x128_S1x16_0_112 _ x, ?_⟩
  refine List.forall_mem_cons.mpr ⟨fun x => grp_row1 arg1 harg1 X 96 k0_t13_loop.trips (by decide) k0_off13 off13_eq k0_off13_inb ![96, 0] rfl inb_S128x20480_S16x128_96_0
    _ trips_odd trips_odd k0_t14_loop.trips k0_off14 off14_eq k0_off14_inb _ trips_even trips_even inb_S2x128_S1x16_1_96 x, ?_⟩
  refine List.forall_mem_cons.mpr ⟨fun x => grp_row0 arg1 harg1 X 96 k0_t13_loop.trips (by decide) k0_off13 off13_eq k0_off13_inb ![96, 0] rfl inb_S128x20480_S16x128_96_0
    _ trips_odd trips_odd inb_S2x128_S1x16_0_96 _ x, ?_⟩
  refine List.forall_mem_cons.mpr ⟨fun x => grp_row1 arg1 harg1 X 80 k0_t11_loop.trips (by decide) k0_off11 off11_eq k0_off11_inb ![80, 0] rfl inb_S128x20480_S16x128_80_0
    _ trips_odd trips_odd k0_t12_loop.trips k0_off12 off12_eq k0_off12_inb _ trips_even trips_even inb_S2x128_S1x16_1_80 x, ?_⟩
  refine List.forall_mem_cons.mpr ⟨fun x => grp_row0 arg1 harg1 X 80 k0_t11_loop.trips (by decide) k0_off11 off11_eq k0_off11_inb ![80, 0] rfl inb_S128x20480_S16x128_80_0
    _ trips_odd trips_odd inb_S2x128_S1x16_0_80 _ x, ?_⟩
  refine List.forall_mem_cons.mpr ⟨fun x => grp_row1 arg1 harg1 X 64 k0_t9_loop.trips (by decide) k0_off9 off9_eq k0_off9_inb ![64, 0] rfl inb_S128x20480_S16x128_64_0
    _ trips_odd trips_odd k0_t10_loop.trips k0_off10 off10_eq k0_off10_inb _ trips_even trips_even inb_S2x128_S1x16_1_64 x, ?_⟩
  refine List.forall_mem_cons.mpr ⟨fun x => grp_row0 arg1 harg1 X 64 k0_t9_loop.trips (by decide) k0_off9 off9_eq k0_off9_inb ![64, 0] rfl inb_S128x20480_S16x128_64_0
    _ trips_odd trips_odd inb_S2x128_S1x16_0_64 _ x, ?_⟩
  refine List.forall_mem_cons.mpr ⟨fun x => grp_row1 arg1 harg1 X 48 k0_t7_loop.trips (by decide) k0_off7 off7_eq k0_off7_inb ![48, 0] rfl inb_S128x20480_S16x128_48_0
    _ trips_odd trips_odd k0_t8_loop.trips k0_off8 off8_eq k0_off8_inb _ trips_even trips_even inb_S2x128_S1x16_1_48 x, ?_⟩
  refine List.forall_mem_cons.mpr ⟨fun x => grp_row0 arg1 harg1 X 48 k0_t7_loop.trips (by decide) k0_off7 off7_eq k0_off7_inb ![48, 0] rfl inb_S128x20480_S16x128_48_0
    _ trips_odd trips_odd inb_S2x128_S1x16_0_48 _ x, ?_⟩
  refine List.forall_mem_cons.mpr ⟨fun x => grp_row1 arg1 harg1 X 32 k0_t5_loop.trips (by decide) k0_off5 off5_eq k0_off5_inb ![32, 0] rfl inb_S128x20480_S16x128_32_0
    _ trips_odd trips_odd k0_t6_loop.trips k0_off6 off6_eq k0_off6_inb _ trips_even trips_even inb_S2x128_S1x16_1_32 x, ?_⟩
  refine List.forall_mem_cons.mpr ⟨fun x => grp_row0 arg1 harg1 X 32 k0_t5_loop.trips (by decide) k0_off5 off5_eq k0_off5_inb ![32, 0] rfl inb_S128x20480_S16x128_32_0
    _ trips_odd trips_odd inb_S2x128_S1x16_0_32 _ x, ?_⟩
  refine List.forall_mem_cons.mpr ⟨fun x => grp_row1 arg1 harg1 X 16 k0_t3_loop.trips (by decide) k0_off3 off3_eq k0_off3_inb ![16, 0] rfl inb_S128x20480_S16x128_16_0
    _ trips_odd trips_odd k0_t4_loop.trips k0_off4 off4_eq k0_off4_inb _ trips_even trips_even inb_S2x128_S1x16_1_16 x, ?_⟩
  refine List.forall_mem_cons.mpr ⟨fun x => grp_row0 arg1 harg1 X 16 k0_t3_loop.trips (by decide) k0_off3 off3_eq k0_off3_inb ![16, 0] rfl inb_S128x20480_S16x128_16_0
    _ trips_odd trips_odd inb_S2x128_S1x16_0_16 _ x, ?_⟩
  refine List.forall_mem_cons.mpr ⟨fun x => grp_row1 arg1 harg1 X 0 k0_t1_loop.trips (by decide) k0_off1 off1_eq k0_off1_inb ![0, 0] rfl inb_S128x20480_S16x128_0_0
    _ trips_odd trips_odd k0_t2_loop.trips k0_off2 off2_eq k0_off2_inb _ trips_even trips_even inb_S2x128_S1x16_1_0 x, ?_⟩
  refine List.forall_mem_cons.mpr ⟨fun x => grp_row0 arg1 harg1 X 0 k0_t1_loop.trips (by decide) k0_off1 off1_eq k0_off1_inb ![0, 0] rfl inb_S128x20480_S16x128_0_0
    _ trips_odd trips_odd inb_S2x128_S1x16_0_0 _ x, ?_⟩
  exact fun p hp => absurd hp List.not_mem_nil

/-- What the body leaves in the block of statistics: the statistics of the block of logits. -/
theorem stats_out (c : Dev nD) (i : grid0.Coords) (arg2 : Memref sig .tc .vmem S2x128 .f32) (harg2 : arg2.IsWhole) :
    out0_A_1 (F := Ideal) c i arg1 harg1 arg2 harg2 X = statsG X := by
  unfold out0_A_1
  rw [View.read_writes_junk_eq_canon]
  funext y
  exact View.canon_apply_of_pieces _ _ (stats_pieces arg1 harg1 X c i arg2 harg2) y (cover0_A_1 c i arg1 harg1 arg2 harg2 X y)
-- ==== Proof.StatsArray.lean ====
/-
  The statistics array after the first call over the extended reals: column `n` holds the maximum of row `n` of the
  logits, and one over the sum of that row's exponentials.
-/
module

public import proofs.«01_k».proof.Proof.StatsValue
public import proofs.«01_k».proof.Proof.Whole
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pointwise

/-- The largest logit of row `n`. -/
def rMax (L : S16384x20480.Idx → EReal) (n : Fin 16384) : EReal := Finset.univ.sup fun v : Fin 20480 => L (ix2 n v)

/-- The sum of the exponentials of row `n`, each taken below the row's largest logit. -/
def rSum (L : S16384x20480.Idx → EReal) (n : Fin 16384) : EReal := ∑ v : Fin 20480, ker_exp (L (ix2 n v) - rMax L n)

/-- The statistics of all rows. -/
def statsAll (L : S16384x20480.Idx → EReal) (y : S2x16384.Idx) : EReal :=
  if (y 0).val = 0 then rMax L (y 1) else Ideal.div 1 (rSum L (y 1))

variable (m : (ℓ : Loc nD τ sig) → Buf (Elt Ideal) ℓ)

theorem idx0_0 : ∀ t : Fin grid0.N, (cfg0.win 0).index t = ![t.val, 0] := by decide +kernel
theorem idx0_1 : ∀ t : Fin grid0.N, (cfg0.win 1).index t = ![0, t.val] := by decide +kernel

/-- A block of logits at a row and a column. -/
theorem iblk0_apply (V : Dev nD → (b : Ref sig .tc) → b.ty.Contents (Elt Ideal)) (c : Dev nD) (t : Fin cfg0.N) (p : Fin 128) (v : Fin 20480) (h : t.val * 128 + p.val < 16384) :
    (iblk0 V c 0 t : Vec Ideal S128x20480 .bf16) (ix2 p v) = (V c main_v0 : Vec Ideal S16384x20480 .bf16) (ix2 (⟨t.val * 128 + p.val, h⟩ : Fin 16384) v) := by
  blk_ext [iblk0, idx0_0 t]

theorem out1_eq (c : Dev nD) : out1 m c = (statsAll (E1 m c main_v0) : Vec Ideal S2x16384 .f32) := by
  unfold out1
  refine (dat0 (E1 m) c).arrAt_eq_of_covers 1 _ (by decide +kernel) fun t hf y => ?_
  blk_simp
  show (out0_A_1 c (grid0.coords t) (ms0_0 t) (hs0_0 t) (ms0_1 t) (hs0_1 t) (iblk0 (E1 m) c 0 t) : Vec Ideal S2x128 .f32) y = _
  rw [stats_out]
  have ht : t.val < 128 := t.isLt
  have hrow : ∀ (p : Fin 128) (q : Fin 16384) (hq : q.val = t.val * 128 + p.val) (v : Fin 20480),
      (iblk0 (E1 m) c 0 t : Vec Ideal S128x20480 .bf16) (ix2 p v) = (E1 m c main_v0 : Vec Ideal S16384x20480 .bf16) (ix2 q v) := by
    intro p q hq v
    rw [iblk0_apply (E1 m) c t p v (by omega)]
    exact congrArg _ (congrArg (fun q : Fin 16384 => ix2 q v) (Fin.ext hq.symm))
  have hmax : ∀ (p : Fin 128) (q : Fin 16384) (hq : q.val = t.val * 128 + p.val), rowMax (iblk0 (E1 m) c 0 t) p = rMax (E1 m c main_v0) q := by
    intro p q hq
    unfold rowMax rMax
    exact Finset.sup_congr rfl fun v _ => hrow p q hq v
  have hsum : ∀ (p : Fin 128) (q : Fin 16384) (hq : q.val = t.val * 128 + p.val), rowSum (iblk0 (E1 m) c 0 t) p = rSum (E1 m c main_v0) q := by
    intro p q hq
    unfold rowSum rSum
    exact Finset.sum_congr rfl fun v _ => by rw [hrow p q hq v, hmax p q hq]
  have e0 : ((win0_1.blk t).view.emb y 0).val = (y 0).val := by blk_simp [idx0_1 t]
  have e1 : ((win0_1.blk t).view.emb y 1).val = t.val * 128 + (y 1).val := by blk_simp [idx0_1 t]
  unfold statsG statsAll
  rw [e0, hmax (y 1) _ e1, hsum (y 1) _ e1]

end Cert.KernelIdeal.Hand
-- ==== Proof.MainHost.lean ====
/-
  What the main kernel is handed: the arguments at their positions, reshaped by the host, and the statistics the first
  call left.
-/
module

public import proofs.«01_k».proof.Proof.StatsArray
public import proofs.«01_k».proof.Proof.Table
public import Idealize.ShloMosaic.Lib.StableHlo.RunRead
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pointwise

variable (m : (ℓ : Loc nD τ sig) → Buf (Elt Ideal) ℓ)

/-- The token of row `s` of batch `b`. -/
def tok (b : Fin 8) (s : Fin 2048) : Fin 16384 := ⟨b.val * 2048 + s.val, by omega⟩

/-- A reshaped array at an index is the array at the index of the same row-major position. -/
theorem cast_read {s t : Shape} {α : Type} (x : s.Idx → α) (h : s.ShapeCasts t) (j : t.Idx) (y : s.Idx) (A B : Nat)
    (hA : (s.rowMajor y : Nat) = A) (hB : (t.rowMajor j : Nat) = B) (hAB : A = B) : shapeCast t x h j = x y :=
  congrArg x (Shape.reshapeEquiv_eq_of_vals h j y A B hA hB hAB)

theorem W2_arg (c : Dev nD) (r : Ref sig .tc) (h : r ≠ main_v1) (h' : r ≠ main_v0) (hr : V1 m c (Proc.devRef .tc r) = m ((c : Thread nD τ).loc r)) :
    W2 m c (Proc.devRef .tc r) = m ((c : Thread nD τ).loc r) :=
  (W2_of m c _ (StableHlo.devRef_ne_of_ne h)).trans hr

theorem E1_v0 (c : Dev nD) : E1 m c main_v0 = (shapeCast S16384x20480 (m ((c : Thread nD τ).loc main_arg0) : Vec Ideal S8x2048x20480 .bf16) shapeCasts_S8x2048x20480_S16384x20480 : Vec Ideal S16384x20480 .bf16) := by
  show StableHlo.after hostOps0 _ (Proc.devRef .tc main_v0) = _
  after_reads_simp
  rfl

theorem E3_v0 (c : Dev nD) : E3 m c main_v0 = E1 m c main_v0 := by
  show StableHlo.after hostOps1 (W2 m c) (Proc.devRef .tc main_v0) = _
  have e : W2 m c (Proc.devRef .tc main_v0) = E1 m c main_v0 := W2_of m c _ (StableHlo.devRef_ne_of_ne (by decide))
  rw [← e]
  after_reads_simp

theorem E3_v1 (c : Dev nD) : E3 m c main_v1 = out1 m c := by
  show StableHlo.after hostOps1 (W2 m c) (Proc.devRef .tc main_v1) = _
  rw [← W2_at m c]
  after_reads_simp

theorem E3_arg4 (c : Dev nD) : E3 m c main_arg4 = m ((c : Thread nD τ).loc main_arg4) := by
  show StableHlo.after hostOps1 (W2 m c) (Proc.devRef .tc main_arg4) = _
  rw [← W2_arg m c main_arg4 (by decide) (by decide) (V1_of m c main_arg4 (by decide))]
  after_reads_simp

theorem E3_v12 (c : Dev nD) : E3 m c main_v12 = (shapeCast S1x16384 (m ((c : Thread nD τ).loc main_arg1) : Vec Ideal S8x2048 .i32) shapeCasts_S8x2048_S1x16384 : Vec Ideal S1x16384 .i32) := by
  show StableHlo.after hostOps1 (W2 m c) (Proc.devRef .tc main_v12) = _
  rw [← W2_arg m c main_arg1 (by decide) (by decide) (V1_of m c main_arg1 (by decide))]
  after_reads_simp
  rfl

theorem E3_v13 (c : Dev nD) : E3 m c main_v13 = (shapeCast S1x16384 (m ((c : Thread nD τ).loc main_arg3) : Vec Ideal S8x2048 .f32) shapeCasts_S8x2048_S1x16384 : Vec Ideal S1x16384 .f32) := by
  show StableHlo.after hostOps1 (W2 m c) (Proc.devRef .tc main_v13) = _
  rw [← W2_arg m c main_arg3 (by decide) (by decide) (V1_of m c main_arg3 (by decide))]
  after_reads_simp
  rfl

theorem E3_v14 (c : Dev nD) : E3 m c main_v14 = (shapeCast S16384x4096 (m ((c : Thread nD τ).loc main_arg2) : Vec Ideal S8x2048x4096 .fp8e4m3) shapeCasts_S8x2048x4096_S16384x4096 : Vec Ideal S16384x4096 .fp8e4m3) := by
  show StableHlo.after hostOps1 (W2 m c) (Proc.devRef .tc main_v14) = _
  rw [← W2_arg m c main_arg2 (by decide) (by decide) (V1_of m c main_arg2 (by decide))]
  after_reads_simp
  rfl

theorem E3_v15 (c : Dev nD) : E3 m c main_v15 = (shapeCast S64x1x256 (m ((c : Thread nD τ).loc main_arg6) : Vec Ideal S16384 .i32) shapeCasts_S16384_S64x1x256 : Vec Ideal S64x1x256 .i32) := by
  show StableHlo.after hostOps1 (W2 m c) (Proc.devRef .tc main_v15) = _
  rw [← W2_arg m c main_arg6 (by decide) (by decide) (V1_of m c main_arg6 (by decide))]
  after_reads_simp
  rfl

theorem E3_v16 (c : Dev nD) : E3 m c main_v16 = (shapeCast S64x1x256 (m ((c : Thread nD τ).loc main_arg5) : Vec Ideal S16384 .f32) shapeCasts_S16384_S64x1x256 : Vec Ideal S64x1x256 .f32) := by
  show StableHlo.after hostOps1 (W2 m c) (Proc.devRef .tc main_v16) = _
  rw [← W2_arg m c main_arg5 (by decide) (by decide) (V1_of m c main_arg5 (by decide))]
  after_reads_simp
  rfl

/-! ## At an index -/

theorem v0_at (c : Dev nD) (b : Fin 8) (s : Fin 2048) (v : Fin 20480) :
    (E1 m c main_v0 : Vec Ideal S16384x20480 .bf16) (ix2 (tok b s) v) = (m ((c : Thread nD τ).loc main_arg0) : Vec Ideal S8x2048x20480 .bf16) (ix3 b s v) := by
  rw [E1_v0]
  refine cast_read _ _ _ _ _ _ (rowMajor_val3 _ 41943040 20480 rfl rfl) (rowMajor_val2 _ 20480 rfl) ?_
  show b.val * 41943040 + s.val * 20480 + v.val = (b.val * 2048 + s.val) * 20480 + v.val
  omega

theorem v12_at (c : Dev nD) (b : Fin 8) (s : Fin 2048) :
    (E3 m c main_v12 : Vec Ideal S1x16384 .i32) (ix2 (0 : Fin 1) (tok b s)) = (m ((c : Thread nD τ).loc main_arg1) : Vec Ideal S8x2048 .i32) (ix2 b s) := by
  rw [E3_v12]
  refine cast_read _ _ _ _ _ _ (rowMajor_val2 _ 2048 rfl) (rowMajor_val2 _ 16384 rfl) ?_
  show b.val * 2048 + s.val = 0 * 16384 + (b.val * 2048 + s.val)
  omega

theorem v13_at (c : Dev nD) (b : Fin 8) (s : Fin 2048) :
    (E3 m c main_v13 : Vec Ideal S1x16384 .f32) (ix2 (0 : Fin 1) (tok b s)) = (m ((c : Thread nD τ).loc main_arg3) : Vec Ideal S8x2048 .f32) (ix2 b s) := by
  rw [E3_v13]
  refine cast_read _ _ _ _ _ _ (rowMajor_val2 _ 2048 rfl) (rowMajor_val2 _ 16384 rfl) ?_
  show b.val * 2048 + s.val = 0 * 16384 + (b.val * 2048 + s.val)
  omega

theorem v14_at (c : Dev nD) (b : Fin 8) (s : Fin 2048) (d : Fin 4096) :
    (E3 m c main_v14 : Vec Ideal S16384x4096 .fp8e4m3) (ix2 (tok b s) d) = (m ((c : Thread nD τ).loc main_arg2) : Vec Ideal S8x2048x4096 .fp8e4m3) (ix3 b s d) := by
  rw [E3_v14]
  refine cast_read _ _ _ _ _ _ (rowMajor_val3 _ 8388608 4096 rfl rfl) (rowMajor_val2 _ 4096 rfl) ?_
  show b.val * 8388608 + s.val * 4096 + d.val = (b.val * 2048 + s.val) * 4096 + d.val
  omega

theorem v15_at (c : Dev nD) (B : Fin 64) (x : Fin 256) (i : Fin 16384) (hi : i.val = B.val * 256 + x.val) :
    (E3 m c main_v15 : Vec Ideal S64x1x256 .i32) (ix3 B (0 : Fin 1) x) = (m ((c : Thread nD τ).loc main_arg6) : Vec Ideal S16384 .i32) (Idealize.ShloMosaic.ix1 i) := by
  rw [E3_v15]
  refine cast_read _ _ _ _ _ _ (rowMajor_val1 _) (rowMajor_val3 _ 256 256 rfl rfl) ?_
  show i.val = B.val * 256 + 0 * 256 + x.val
  omega

theorem v16_at (c : Dev nD) (B : Fin 64) (x : Fin 256) (i : Fin 16384) (hi : i.val = B.val * 256 + x.val) :
    (E3 m c main_v16 : Vec Ideal S64x1x256 .f32) (ix3 B (0 : Fin 1) x) = (m ((c : Thread nD τ).loc main_arg5) : Vec Ideal S16384 .f32) (Idealize.ShloMosaic.ix1 i) := by
  rw [E3_v16]
  refine cast_read _ _ _ _ _ _ (rowMajor_val1 _) (rowMajor_val3 _ 256 256 rfl rfl) ?_
  show i.val = B.val * 256 + 0 * 256 + x.val
  omega

end Cert.KernelIdeal.Hand
-- ==== Proof.MainPoint.lean ====
/-
  What the main kernel's body adds at one grid point, over the extended reals.
-/
module

public import proofs.«01_k».proof.Proof.MainRegion
public import proofs.«01_k».proof.Proof.StatsValue
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pointwise

/-- One product of a one-hot row with scaled embedding rows, added to what stands: the kernel's payload at an index. -/
theorem pay3_apply (v0 : BitVec 32) (I : Vec Ideal S1x1x256 .i32) (Sc : Vec Ideal S1x1x256 .f32) (Zt : Vec Ideal S1024x512 .f32) (Wt : Vec Ideal S256x512 .fp8e5m2) (r : Fin 1024) (l : Fin 512) :
    k1_pay3 (F := Ideal) v0 I Sc Zt Wt (ix2 r l) = Zt (ix2 r l) + ∑ x : Fin 256,
        Scalar.select (IntOp.cmpi .eq (IntOp.addi (BitVec.ofNat 32 r.val) v0) (I (ix3 0 0 x))) (Sc (ix3 0 0 x) * Wt (ix2 x l)) 0 := by
  pointwise [k1_pay3, k1_pay2]

/-- One product of the gradient block with the activations, added to what stands. -/
theorem pay31_apply (Zt : Vec Ideal S1024x512 .f32) (g : Vec Ideal S1024x512 .bf16) (Wt : Vec Ideal S512x512 .fp8e4m3) (r : Fin 1024) (l : Fin 512) :
    k1_pay31 (F := Ideal) Zt g Wt (ix2 r l) = Zt (ix2 r l) + ∑ x : Fin 512, g (ix2 r x) * Wt (ix2 x l) := by
  pointwise [k1_pay31]

/-- The gradient of one logit `z` of a token with statistics `mx`, `si`, label `lab` and scale `xs`, for the vocabulary word `vid`. -/
def gradAt (z mx si xs : EReal) (lab vid : BitVec 32) : EReal :=
  Scalar.select (IntOp.cmpi .sge lab 0#32) (ker_exp (z - mx) * (si * xs)) 0
    - Scalar.select (IntOp.cmpi .eq vid lab) (Scalar.select (IntOp.cmpi .sge lab 0#32) xs 0) 0

/-- The vocabulary word of row `r` of block `j`. -/
def vocab (j r : ℕ) : BitVec 32 := IntOp.addi (BitVec.ofNat 32 r) (Scalar.muli (BitVec.ofNat 32 j) 1024#32)

theorem pay26_apply (i : grid1.Coords) (X : Vec Ideal S128x1024 .bf16) (M : Vec Ideal S1x128 .f32) (L : Vec Ideal S1x128 .i32) (xs : Vec Ideal S1x128 .f32) (si : Vec Ideal S1x128 .f32) (r : Fin 1024) (l : Fin 128) :
    k1_pay26 (F := Ideal) (k1_pay23 i) X M L xs si (ix2 r l) = gradAt (X (ix2 l r)) (M (ix2 0 l)) (si (ix2 0 l)) (xs (ix2 0 l)) (L (ix2 0 l)) (vocab (i 0).val r.val) := by
  unfold gradAt vocab ker_exp log2e
  pointwise [k1_pay26, k1_pay23]

/-- The gradient block of a grid point. -/
def gradG (j : ℕ) (x0 : S512x1024.Idx → EReal) (x1 : S2x512.Idx → EReal) (x2 : S1x512.Idx → BitVec 32) (x3 : S1x512.Idx → EReal) (y : S1024x512.Idx) : EReal :=
  gradAt (x0 (ix2 (y 1) (y 0))) (x1 (ix2 0 (y 1))) (x1 (ix2 1 (y 1))) (x3 (ix2 0 (y 1))) (x2 (ix2 0 (y 1))) (vocab j (y 0).val)

/-- What stands plus the product of the gradient block with the activations. -/
def accG (Z : S1024x4096.Idx → EReal) (g : S1024x512.Idx → EReal) (W : S512x4096.Idx → EReal) (y : S1024x4096.Idx) : EReal :=
  Z y + ∑ t : Fin 512, g (ix2 (y 0) t) * W (ix2 t (y 1))

theorem prod_piece {o : ℕ} (ho : o + 512 ≤ 4096) (inb1 : ∀ a, (![0, o] : Fin 2 → ℕ) a + S1024x512.size a ≤ S1024x4096.size a) (inb2 : ∀ a, (![0, o] : Fin 2 → ℕ) a + S512x512.size a ≤ S512x4096.size a)
    (Z : S1024x4096.Idx → EReal) (W : S512x4096.Idx → EReal) (g : Vec Ideal S1024x512 .bf16) (x : S1024x512.Idx) :
    k1_pay31 (F := Ideal) (View.ld (Val := Elt Ideal) (e' := .f32) Z (Rect.unit (s := S1024x4096) ![0, o] S1024x512.size inb1)) g (View.ld (Val := Elt Ideal) (e' := .fp8e4m3) W (Rect.unit (s := S512x4096) ![0, o] S512x512.size inb2)) x
      = accG Z g W ((Rect.unit (s := S1024x4096) ![0, o] S1024x512.size inb1).emb x) := by
  have hx : x = ix2 (x 0) (x 1) := by idx_ext
  rw [hx]
  refine (pay31_apply _ _ _ _ _).trans ?_
  unfold accG
  refine congrArg₂ (· + ·) rfl (Finset.sum_congr rfl fun t _ => ?_)
  refine congrArg₂ (· * ·) (congrArg g ?_) (congrArg W ?_)
  · idx_ext
  · idx_ext

theorem grad_piece {o : ℕ} (ho : o + 128 ≤ 512) (i : grid1.Coords) (inb : ∀ a, (![0, o] : Fin 2 → ℕ) a + S1024x128.size a ≤ S1024x512.size a)
   (i0 : ∀ a, (![o, 0] : Fin 2 → ℕ) a + S128x1024.size a ≤ S512x1024.size a) (i1 : ∀ a, (![0, o] : Fin 2 → ℕ) a + S1x128.size a ≤ S2x512.size a)
   (i1' : ∀ a, (![1, o] : Fin 2 → ℕ) a + S1x128.size a ≤ S2x512.size a) (i2 : ∀ a, (![0, o] : Fin 2 → ℕ) a + S1x128.size a ≤ S1x512.size a)
   (x0 : S512x1024.Idx → EReal) (x1 : S2x512.Idx → EReal) (x2 : S1x512.Idx → BitVec 32) (x3 : S1x512.Idx → EReal) (x : S1024x128.Idx) :
   k1_pay26 (F := Ideal) (k1_pay23 i) (View.ld (Val := Elt Ideal) (e' := .bf16) x0 (Rect.unit (s := S512x1024) ![o, 0] S128x1024.size i0)) (View.ld (Val := Elt Ideal) (e' := .f32) x1 (Rect.unit (s := S2x512) ![0, o] S1x128.size i1))
     (View.ld (Val := Elt Ideal) (e' := .i32) x2 (Rect.unit (s := S1x512) ![0, o] S1x128.size i2)) (View.ld (Val := Elt Ideal) (e' := .f32) x3 (Rect.unit (s := S1x512) ![0, o] S1x128.size i2)) (View.ld (Val := Elt Ideal) (e' := .f32) x1 (Rect.unit (s := S2x512) ![1, o] S1x128.size i1')) x
    = gradG (i 0).val x0 x1 x2 x3 ((Rect.unit (s := S1024x512) ![0, o] S1024x128.size inb).emb x) := by
  have hx : x = ix2 (x 0) (x 1) := by idx_ext
  rw [hx]
  refine (pay26_apply _ _ _ _ _ _ _ _).trans ?_
  unfold gradG
  congr 1
  · refine congrArg x0 ?_; idx_ext
  · refine congrArg x1 ?_; idx_ext
  · refine congrArg x1 ?_; idx_ext
  · refine congrArg x3 ?_; idx_ext
  · refine congrArg x2 ?_; idx_ext
  · congr 1; show _ = 0 + 1 * (x 0).val; omega

set_option maxHeartbeats 1000000 in
/-- A later reduction step's gradient block, as it is read back. -/
theorem gradB (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : ¬condM i)
    (x0 : Vec Ideal S512x1024 .bf16) (x1 : Vec Ideal S2x512 .f32) (x2 : Vec Ideal S1x512 .i32) (x3 : Vec Ideal S1x512 .f32) (x4 : Vec Ideal S512x4096 .fp8e4m3) (x5 : Vec Ideal S64x1x256 .i32) (x6 : Vec Ideal S64x1x256 .f32) (xo7 : Vec Ideal S1024x4096 .f32) (fh0 : HbBuf (F := Ideal) c hbM) (ft : HbBuf (F := Ideal) c tbM) :
    mainRunB.sl.v149 (F := Ideal) c i arg3 harg3 arg4 harg4 arg5 harg5 arg6 harg6 arg12 x0 x1 x2 x3 = gradG (i 0).val x0 x1 x2 x3 := by
  unfold mainRunB.sl.v149
  rw [View.readCov_eq_canon']
  funext y
  have hy : (Rect.unit (s := S1024x512) ![0, 0] S1024x512.size inb_S1024x512_S1024x512_0_0).toLoadRect.idx y = y := by idx_ext
  rw [hy]
  refine View.canon_apply_of_pieces (gradG (i 0).val x0 x1 x2 x3) _ ?_ y (View.cover_of_tiledL (mainRunB.sl.HS0_4 (F := Ideal) c i arg3 harg3 arg4 harg4 arg5 harg5 arg6 harg6 x0 x1 x2 x3) S1024x128.size (by sl_kernel_rfl) y)
  sl_unfold_words
  simp only [View.readAt_eq_ld, harg3.read_unread, harg4.read_unread, harg5.read_unread, harg6.read_unread]
  refine List.forall_mem_cons.mpr ⟨fun x => grad_piece (o := 384) (by decide) i inb_S1024x512_S1024x128_0_384 inb_S512x1024_S128x1024_384_0 inb_S2x512_S1x128_0_384 inb_S2x512_S1x128_1_384 inb_S1x512_S1x128_0_384 x0 x1 x2 x3 x, ?_⟩
  refine List.forall_mem_cons.mpr ⟨fun x => grad_piece (o := 256) (by decide) i inb_S1024x512_S1024x128_0_256 inb_S512x1024_S128x1024_256_0 inb_S2x512_S1x128_0_256 inb_S2x512_S1x128_1_256 inb_S1x512_S1x128_0_256 x0 x1 x2 x3 x, ?_⟩
  refine List.forall_mem_cons.mpr ⟨fun x => grad_piece (o := 128) (by decide) i inb_S1024x512_S1024x128_0_128 inb_S512x1024_S128x1024_128_0 inb_S2x512_S1x128_0_128 inb_S2x512_S1x128_1_128 inb_S1x512_S1x128_0_128 x0 x1 x2 x3 x, ?_⟩
  refine List.forall_mem_cons.mpr ⟨fun x => grad_piece (o := 0) (by decide) i inb_S1024x512_S1024x128_0_0 inb_S512x1024_S128x1024_0_0 inb_S2x512_S1x128_0_0 inb_S2x512_S1x128_1_0 inb_S1x512_S1x128_0_0 x0 x1 x2 x3 x, ?_⟩
  intro p hp; exact absurd hp List.not_mem_nil

theorem prod_of {o : ℕ} (ho : o + 512 ≤ 4096) (inb1 : ∀ a, (![0, o] : Fin 2 → ℕ) a + S1024x512.size a ≤ S1024x4096.size a) (inb2 : ∀ a, (![0, o] : Fin 2 → ℕ) a + S512x512.size a ≤ S512x4096.size a)
    (Z : S1024x4096.Idx → EReal) (W : S512x4096.Idx → EReal) (g : S1024x512.Idx → EReal)
    (Zt : Vec Ideal S1024x512 .f32) (gt : Vec Ideal S1024x512 .bf16) (Wt : Vec Ideal S512x512 .fp8e4m3) (P : Vec Ideal S1024x512 .f32)
    (hP : P = k1_pay31 (F := Ideal) Zt gt Wt) (hZ : Zt = View.ld (Val := Elt Ideal) (e' := .f32) Z (Rect.unit (s := S1024x4096) ![0, o] S1024x512.size inb1)) (hg : gt = g)
    (hW : Wt = View.ld (Val := Elt Ideal) (e' := .fp8e4m3) W (Rect.unit (s := S512x4096) ![0, o] S512x512.size inb2)) (x : S1024x512.Idx) :
    P x = accG Z g W ((Rect.unit (s := S1024x4096) ![0, o] S1024x512.size inb1).emb x) := by
  subst hP hZ hg hW
  exact prod_piece ho inb1 inb2 Z W gt x

set_option maxHeartbeats 1000000 in
/-- A later reduction step adds its product to what stands. -/
theorem out1_B_eq (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : ¬condM i)
    (x0 : Vec Ideal S512x1024 .bf16) (x1 : Vec Ideal S2x512 .f32) (x2 : Vec Ideal S1x512 .i32) (x3 : Vec Ideal S1x512 .f32) (x4 : Vec Ideal S512x4096 .fp8e4m3) (x5 : Vec Ideal S64x1x256 .i32) (x6 : Vec Ideal S64x1x256 .f32) (xo7 : Vec Ideal S1024x4096 .f32) (fh0 : HbBuf (F := Ideal) c hbM) (ft : HbBuf (F := Ideal) c tbM) :
    out1_B_7 (F := Ideal) c i arg3 harg3 arg4 harg4 arg5 harg5 arg6 harg6 arg7 harg7 arg8 harg8 arg9 harg9 arg11 harg11 arg12 harg12 arg13 harg13 hc0 x0 x1 x2 x3 x4 x5 x6 xo7 fh0 ft = accG xo7 (gradG (i 0).val x0 x1 x2 x3) x4 := by
  unfold out1_B_7
  rw [View.read_writes_junk_eq_canon]
  funext y
  refine View.canon_apply_of_pieces (accG xo7 (gradG (i 0).val x0 x1 x2 x3) x4) _ ?_ y (cover1_B_7 c i arg3 harg3 arg4 harg4 arg5 harg5 arg6 harg6 arg7 harg7 arg8 harg8 arg9 harg9 arg11 harg11 arg12 harg12 arg13 harg13 hc0 x0 x1 x2 x3 x4 x5 x6 xo7 fh0 ft y)
  unfold mainRunB
  dsimp only
  refine List.forall_mem_cons.mpr ⟨prod_of (o := 3584) (by decide) inb_S1024x4096_S1024x512_0_3584 inb_S512x4096_S512x512_0_3584 xo7 x4 (gradG (i 0).val x0 x1 x2 x3)
    (View.readAt (Elt Ideal) arg11.view (Rect.unit (s := S1024x4096) ![0, 3584] S1024x512.size inb_S1024x4096_S1024x512_0_3584).toLoadRect (harg11.unread xo7))
    (mainRunB.sl.v149 (F := Ideal) c i arg3 harg3 arg4 harg4 arg5 harg5 arg6 harg6 arg12 x0 x1 x2 x3)
    (View.readAt (Elt Ideal) arg7.view (Rect.unit (s := S512x4096) ![0, 3584] S512x512.size inb_S512x4096_S512x512_0_3584).toLoadRect (harg7.unread x4))
    _ rfl (by rw [View.readAt_eq_ld, harg11.read_unread]) (gradB c i arg3 harg3 arg4 harg4 arg5 harg5 arg6 harg6 arg7 harg7 arg8 harg8 arg9 harg9 arg11 harg11 arg12 harg12 arg13 harg13 hc0 x0 x1 x2 x3 x4 x5 x6 xo7 fh0 ft) (by rw [View.readAt_eq_ld, harg7.read_unread]), ?_⟩
  refine List.forall_mem_cons.mpr ⟨prod_of (o := 3072) (by decide) inb_S1024x4096_S1024x512_0_3072 inb_S512x4096_S512x512_0_3072 xo7 x4 (gradG (i 0).val x0 x1 x2 x3)
    (View.readAt (Elt Ideal) arg11.view (Rect.unit (s := S1024x4096) ![0, 3072] S1024x512.size inb_S1024x4096_S1024x512_0_3072).toLoadRect (harg11.unread xo7))
    (mainRunB.sl.v149 (F := Ideal) c i arg3 harg3 arg4 harg4 arg5 harg5 arg6 harg6 arg12 x0 x1 x2 x3)
    (View.readAt (Elt Ideal) arg7.view (Rect.unit (s := S512x4096) ![0, 3072] S512x512.size inb_S512x4096_S512x512_0_3072).toLoadRect (harg7.unread x4))
    _ rfl (by rw [View.readAt_eq_ld, harg11.read_unread]) (gradB c i arg3 harg3 arg4 harg4 arg5 harg5 arg6 harg6 arg7 harg7 arg8 harg8 arg9 harg9 arg11 harg11 arg12 harg12 arg13 harg13 hc0 x0 x1 x2 x3 x4 x5 x6 xo7 fh0 ft) (by rw [View.readAt_eq_ld, harg7.read_unread]), ?_⟩
  refine List.forall_mem_cons.mpr ⟨prod_of (o := 2560) (by decide) inb_S1024x4096_S1024x512_0_2560 inb_S512x4096_S512x512_0_2560 xo7 x4 (gradG (i 0).val x0 x1 x2 x3)
    (View.readAt (Elt Ideal) arg11.view (Rect.unit (s := S1024x4096) ![0, 2560] S1024x512.size inb_S1024x4096_S1024x512_0_2560).toLoadRect (harg11.unread xo7))
    (mainRunB.sl.v149 (F := Ideal) c i arg3 harg3 arg4 harg4 arg5 harg5 arg6 harg6 arg12 x0 x1 x2 x3)
    (View.readAt (Elt Ideal) arg7.view (Rect.unit (s := S512x4096) ![0, 2560] S512x512.size inb_S512x4096_S512x512_0_2560).toLoadRect (harg7.unread x4))
    _ rfl (by rw [View.readAt_eq_ld, harg11.read_unread]) (gradB c i arg3 harg3 arg4 harg4 arg5 harg5 arg6 harg6 arg7 harg7 arg8 harg8 arg9 harg9 arg11 harg11 arg12 harg12 arg13 harg13 hc0 x0 x1 x2 x3 x4 x5 x6 xo7 fh0 ft) (by rw [View.readAt_eq_ld, harg7.read_unread]), ?_⟩
  refine List.forall_mem_cons.mpr ⟨prod_of (o := 2048) (by decide) inb_S1024x4096_S1024x512_0_2048 inb_S512x4096_S512x512_0_2048 xo7 x4 (gradG (i 0).val x0 x1 x2 x3)
    (View.readAt (Elt Ideal) arg11.view (Rect.unit (s := S1024x4096) ![0, 2048] S1024x512.size inb_S1024x4096_S1024x512_0_2048).toLoadRect (harg11.unread xo7))
    (mainRunB.sl.v149 (F := Ideal) c i arg3 harg3 arg4 harg4 arg5 harg5 arg6 harg6 arg12 x0 x1 x2 x3)
    (View.readAt (Elt Ideal) arg7.view (Rect.unit (s := S512x4096) ![0, 2048] S512x512.size inb_S512x4096_S512x512_0_2048).toLoadRect (harg7.unread x4))
    _ rfl (by rw [View.readAt_eq_ld, harg11.read_unread]) (gradB c i arg3 harg3 arg4 harg4 arg5 harg5 arg6 harg6 arg7 harg7 arg8 harg8 arg9 harg9 arg11 harg11 arg12 harg12 arg13 harg13 hc0 x0 x1 x2 x3 x4 x5 x6 xo7 fh0 ft) (by rw [View.readAt_eq_ld, harg7.read_unread]), ?_⟩
  refine List.forall_mem_cons.mpr ⟨prod_of (o := 1536) (by decide) inb_S1024x4096_S1024x512_0_1536 inb_S512x4096_S512x512_0_1536 xo7 x4 (gradG (i 0).val x0 x1 x2 x3)
    (View.readAt (Elt Ideal) arg11.view (Rect.unit (s := S1024x4096) ![0, 1536] S1024x512.size inb_S1024x4096_S1024x512_0_1536).toLoadRect (harg11.unread xo7))
    (mainRunB.sl.v149 (F := Ideal) c i arg3 harg3 arg4 harg4 arg5 harg5 arg6 harg6 arg12 x0 x1 x2 x3)
    (View.readAt (Elt Ideal) arg7.view (Rect.unit (s := S512x4096) ![0, 1536] S512x512.size inb_S512x4096_S512x512_0_1536).toLoadRect (harg7.unread x4))
    _ rfl (by rw [View.readAt_eq_ld, harg11.read_unread]) (gradB c i arg3 harg3 arg4 harg4 arg5 harg5 arg6 harg6 arg7 harg7 arg8 harg8 arg9 harg9 arg11 harg11 arg12 harg12 arg13 harg13 hc0 x0 x1 x2 x3 x4 x5 x6 xo7 fh0 ft) (by rw [View.readAt_eq_ld, harg7.read_unread]), ?_⟩
  refine List.forall_mem_cons.mpr ⟨prod_of (o := 1024) (by decide) inb_S1024x4096_S1024x512_0_1024 inb_S512x4096_S512x512_0_1024 xo7 x4 (gradG (i 0).val x0 x1 x2 x3)
    (View.readAt (Elt Ideal) arg11.view (Rect.unit (s := S1024x4096) ![0, 1024] S1024x512.size inb_S1024x4096_S1024x512_0_1024).toLoadRect (harg11.unread xo7))
    (mainRunB.sl.v149 (F := Ideal) c i arg3 harg3 arg4 harg4 arg5 harg5 arg6 harg6 arg12 x0 x1 x2 x3)
    (View.readAt (Elt Ideal) arg7.view (Rect.unit (s := S512x4096) ![0, 1024] S512x512.size inb_S512x4096_S512x512_0_1024).toLoadRect (harg7.unread x4))
    _ rfl (by rw [View.readAt_eq_ld, harg11.read_unread]) (gradB c i arg3 harg3 arg4 harg4 arg5 harg5 arg6 harg6 arg7 harg7 arg8 harg8 arg9 harg9 arg11 harg11 arg12 harg12 arg13 harg13 hc0 x0 x1 x2 x3 x4 x5 x6 xo7 fh0 ft) (by rw [View.readAt_eq_ld, harg7.read_unread]), ?_⟩
  refine List.forall_mem_cons.mpr ⟨prod_of (o := 512) (by decide) inb_S1024x4096_S1024x512_0_512 inb_S512x4096_S512x512_0_512 xo7 x4 (gradG (i 0).val x0 x1 x2 x3)
    (View.readAt (Elt Ideal) arg11.view (Rect.unit (s := S1024x4096) ![0, 512] S1024x512.size inb_S1024x4096_S1024x512_0_512).toLoadRect (harg11.unread xo7))
    (mainRunB.sl.v149 (F := Ideal) c i arg3 harg3 arg4 harg4 arg5 harg5 arg6 harg6 arg12 x0 x1 x2 x3)
    (View.readAt (Elt Ideal) arg7.view (Rect.unit (s := S512x4096) ![0, 512] S512x512.size inb_S512x4096_S512x512_0_512).toLoadRect (harg7.unread x4))
    _ rfl (by rw [View.readAt_eq_ld, harg11.read_unread]) (gradB c i arg3 harg3 arg4 harg4 arg5 harg5 arg6 harg6 arg7 harg7 arg8 harg8 arg9 harg9 arg11 harg11 arg12 harg12 arg13 harg13 hc0 x0 x1 x2 x3 x4 x5 x6 xo7 fh0 ft) (by rw [View.readAt_eq_ld, harg7.read_unread]), ?_⟩
  refine List.forall_mem_cons.mpr ⟨prod_of (o := 0) (by decide) inb_S1024x4096_S1024x512_0_0 inb_S512x4096_S512x512_0_0 xo7 x4 (gradG (i 0).val x0 x1 x2 x3)
    (View.readAt (Elt Ideal) arg11.view (Rect.unit (s := S1024x4096) ![0, 0] S1024x512.size inb_S1024x4096_S1024x512_0_0).toLoadRect (harg11.unread xo7))
    (mainRunB.sl.v149 (F := Ideal) c i arg3 harg3 arg4 harg4 arg5 harg5 arg6 harg6 arg12 x0 x1 x2 x3)
    (View.readAt (Elt Ideal) arg7.view (Rect.unit (s := S512x4096) ![0, 0] S512x512.size inb_S512x4096_S512x512_0_0).toLoadRect (harg7.unread x4))
    _ rfl (by rw [View.readAt_eq_ld, harg11.read_unread]) (gradB c i arg3 harg3 arg4 harg4 arg5 harg5 arg6 harg6 arg7 harg7 arg8 harg8 arg9 harg9 arg11 harg11 arg12 harg12 arg13 harg13 hc0 x0 x1 x2 x3 x4 x5 x6 xo7 fh0 ft) (by rw [View.readAt_eq_ld, harg7.read_unread]), ?_⟩
  intro p hp; exact absurd hp List.not_mem_nil

end Cert.KernelIdeal.Hand
-- ==== Proof.MainEmb.lean ====
/-
  What one trip of the main kernel's loop over embedding blocks adds, over the extended reals.
-/
module

public import proofs.«01_k».proof.Proof.MainPoint

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pointwise

/-- What a block of 256 embedding rows adds to a block of the result: at row `y 0` the scaled rows whose id is that vocabulary word. -/
def embAdd (v0 : BitVec 32) (I : S1x1x256.Idx → BitVec 32) (Sc : S1x1x256.Idx → EReal) (W : S256x4096.Idx → EReal) (y : S1024x4096.Idx) : EReal :=
  ∑ x : Fin 256, Scalar.select (IntOp.cmpi .eq (IntOp.addi (BitVec.ofNat 32 (y 0).val) v0) (I (ix3 0 0 x))) (Sc (ix3 0 0 x) * W (ix2 x (y 1))) 0

theorem emb_of {o : ℕ} (ho : o + 512 ≤ 4096) (inb1 : ∀ a, (![0, o] : Fin 2 → ℕ) a + S1024x512.size a ≤ S1024x4096.size a) (inb2 : ∀ a, (![0, o] : Fin 2 → ℕ) a + S256x512.size a ≤ S256x4096.size a)
    (v0 : BitVec 32) (I : Vec Ideal S1x1x256 .i32) (Sc : Vec Ideal S1x1x256 .f32) (Z : S1024x4096.Idx → EReal) (W : S256x4096.Idx → EReal)
    (Zt : Vec Ideal S1024x512 .f32) (Wt : Vec Ideal S256x512 .fp8e5m2) (P : Vec Ideal S1024x512 .f32)
    (hP : P = k1_pay3 (F := Ideal) v0 I Sc Zt Wt) (hZ : Zt = View.ld (Val := Elt Ideal) (e' := .f32) Z (Rect.unit (s := S1024x4096) ![0, o] S1024x512.size inb1))
    (hW : Wt = View.ld (Val := Elt Ideal) (e' := .fp8e5m2) W (Rect.unit (s := S256x4096) ![0, o] S256x512.size inb2)) (x : S1024x512.Idx) :
    P x = (fun y => Z y + embAdd v0 I Sc W y) ((Rect.unit (s := S1024x4096) ![0, o] S1024x512.size inb1).emb x) := by
  subst hP hZ hW
  have hx : x = ix2 (x 0) (x 1) := by idx_ext
  rw [hx]
  refine (pay3_apply _ _ _ _ _ _ _).trans ?_
  unfold embAdd
  refine congrArg₂ (· + ·) rfl (Finset.sum_congr rfl fun t _ => ?_)
  have e0 : (((Rect.unit (s := S1024x4096) ![0, o] S1024x512.size inb1).emb (ix2 (x 0) (x 1))) 0).val = (x 0).val := by show 0 + 1 * (x 0).val = _; omega
  refine congrArg₂ (fun n z => Scalar.select (IntOp.cmpi .eq (IntOp.addi (BitVec.ofNat 32 n) v0) (I (ix3 0 0 t))) (Sc (ix3 0 0 t) * z) 0) e0.symm (congrArg W ?_)
  idx_ext

theorem readCov_whole {Val : EltTy → Type} [∀ e, Nonempty (Val e)] {κ : Kind} {sp : Space} {s : Shape} {e : EltTy} (v : View sig κ sp s e) (w : s.Idx → Val e) (R : Rect s) :
    v.readCov [⟨Rect.whole s, w⟩] R.toLoadRect = View.ld w R :=
  View.readCov_fill v (off := fun _ => 0) _ w [] R fun _ => rfl

set_option maxHeartbeats 1000000 in
/-- After one trip, over whatever stood: the block's rows are added. -/
theorem trip_eq (𝒱 : Variants) (c : Dev nD) (bd : Option 𝒱.V) (i : grid1.Coords) (arg2 : Memref sig .tc .smem S21 .i32) (harg2 : arg2.IsWhole) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg10 : Memref sig .tc .hbm S16384x4096 .fp8e5m2) (harg10 : arg10.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (arg14 : DmaSems sig S_) (v0 : BitVec 32) (k1_h1 : k1_cond1 i = 1#1) (v214 : Elt Ideal .i32) (v217 : Elt Ideal .i32) (k1_hw1 : k1_chk1 i v214 v217) (v234 : BitVec 32) (X_arg8 : BufTy.Contents (Elt Ideal) arg8.view.ty) (X_arg9 : BufTy.Contents (Elt Ideal) arg9.view.ty) (X_arg10 : BufTy.Contents (Elt Ideal) arg10.view.ty) (k : Fin (k1_t1_loop v214 v217).trips) (f_arg11 : BufTy.Contents (Elt Ideal) arg11.view.ty) (L' : List (View.Piece (Elt Ideal) S1024x4096 .f32)) (y : S1024x4096.Idx) :
    View.canon (tripL_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 v0 k1_h1 v214 v217 k1_hw1 v234 X_arg8 X_arg9 X_arg10  k f_arg11 ++ L') y
      = View.read (Elt Ideal) arg11.view f_arg11 y + embAdd v0
        (View.ld (View.read (Elt Ideal) arg8.view X_arg8) (Rect.unit (s := S64x1x256) (k1_off4 v214 v217 k) S1x1x256.size (k1_off4_inb i v214 v217 k1_hw1 k k1_h1)))
        (View.ld (View.read (Elt Ideal) arg9.view X_arg9) (Rect.unit (s := S64x1x256) (k1_off4 v214 v217 k) S1x1x256.size (k1_off4_inb i v214 v217 k1_hw1 k k1_h1)))
        (View.ld (View.read (Elt Ideal) arg10.view X_arg10) (Rect.unit (s := S16384x4096) (k1_off3 v214 v217 k) S256x4096.size (k1_off3_inb i v214 v217 k1_hw1 k k1_h1))) y := by
  refine (View.canon_append_of_pieces (fun y => View.read (Elt Ideal) arg11.view f_arg11 y + embAdd v0
        (View.ld (View.read (Elt Ideal) arg8.view X_arg8) (Rect.unit (s := S64x1x256) (k1_off4 v214 v217 k) S1x1x256.size (k1_off4_inb i v214 v217 k1_hw1 k k1_h1)))
        (View.ld (View.read (Elt Ideal) arg9.view X_arg9) (Rect.unit (s := S64x1x256) (k1_off4 v214 v217 k) S1x1x256.size (k1_off4_inb i v214 v217 k1_hw1 k k1_h1)))
        (View.ld (View.read (Elt Ideal) arg10.view X_arg10) (Rect.unit (s := S16384x4096) (k1_off3 v214 v217 k) S256x4096.size (k1_off3_inb i v214 v217 k1_hw1 k k1_h1))) y) L' (tripL_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 v0 k1_h1 v214 v217 k1_hw1 v234 X_arg8 X_arg9 X_arg10  k f_arg11) ?_ y (View.cover_of_tiledL (tripL_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 v0 k1_h1 v214 v217 k1_hw1 v234 X_arg8 X_arg9 X_arg10  k f_arg11) S1024x512.size (by sl_kernel_rfl) y))
  unfold tripL_k1_t1 trip_k1_t1
  dsimp only
  refine List.forall_mem_cons.mpr ⟨emb_of (o := 3584) (by decide) inb_S1024x4096_S1024x512_0_3584 inb_S256x4096_S256x512_0_3584 v0 _ _ (View.read (Elt Ideal) arg11.view f_arg11) _
    (View.readAt (Elt Ideal) arg11.view (Rect.unit (s := S1024x4096) ![0, 3584] S1024x512.size inb_S1024x4096_S1024x512_0_3584).toLoadRect f_arg11)
    (trip_k1_t1.sl.v307 (F := Ideal) i arg10 arg13 k1_h1 v214 v217 k1_hw1 X_arg10 k)
    _ rfl (by rw [View.readAt_eq_ld]) (readCov_whole _ _ _), ?_⟩
  refine List.forall_mem_cons.mpr ⟨emb_of (o := 3072) (by decide) inb_S1024x4096_S1024x512_0_3072 inb_S256x4096_S256x512_0_3072 v0 _ _ (View.read (Elt Ideal) arg11.view f_arg11) _
    (View.readAt (Elt Ideal) arg11.view (Rect.unit (s := S1024x4096) ![0, 3072] S1024x512.size inb_S1024x4096_S1024x512_0_3072).toLoadRect f_arg11)
    (trip_k1_t1.sl.v301 (F := Ideal) i arg10 arg13 k1_h1 v214 v217 k1_hw1 X_arg10 k)
    _ rfl (by rw [View.readAt_eq_ld]) (readCov_whole _ _ _), ?_⟩
  refine List.forall_mem_cons.mpr ⟨emb_of (o := 2560) (by decide) inb_S1024x4096_S1024x512_0_2560 inb_S256x4096_S256x512_0_2560 v0 _ _ (View.read (Elt Ideal) arg11.view f_arg11) _
    (View.readAt (Elt Ideal) arg11.view (Rect.unit (s := S1024x4096) ![0, 2560] S1024x512.size inb_S1024x4096_S1024x512_0_2560).toLoadRect f_arg11)
    (trip_k1_t1.sl.v295 (F := Ideal) i arg10 arg13 k1_h1 v214 v217 k1_hw1 X_arg10 k)
    _ rfl (by rw [View.readAt_eq_ld]) (readCov_whole _ _ _), ?_⟩
  refine List.forall_mem_cons.mpr ⟨emb_of (o := 2048) (by decide) inb_S1024x4096_S1024x512_0_2048 inb_S256x4096_S256x512_0_2048 v0 _ _ (View.read (Elt Ideal) arg11.view f_arg11) _
    (View.readAt (Elt Ideal) arg11.view (Rect.unit (s := S1024x4096) ![0, 2048] S1024x512.size inb_S1024x4096_S1024x512_0_2048).toLoadRect f_arg11)
    (trip_k1_t1.sl.v289 (F := Ideal) i arg10 arg13 k1_h1 v214 v217 k1_hw1 X_arg10 k)
    _ rfl (by rw [View.readAt_eq_ld]) (readCov_whole _ _ _), ?_⟩
  refine List.forall_mem_cons.mpr ⟨emb_of (o := 1536) (by decide) inb_S1024x4096_S1024x512_0_1536 inb_S256x4096_S256x512_0_1536 v0 _ _ (View.read (Elt Ideal) arg11.view f_arg11) _
    (View.readAt (Elt Ideal) arg11.view (Rect.unit (s := S1024x4096) ![0, 1536] S1024x512.size inb_S1024x4096_S1024x512_0_1536).toLoadRect f_arg11)
    (trip_k1_t1.sl.v283 (F := Ideal) i arg10 arg13 k1_h1 v214 v217 k1_hw1 X_arg10 k)
    _ rfl (by rw [View.readAt_eq_ld]) (readCov_whole _ _ _), ?_⟩
  refine List.forall_mem_cons.mpr ⟨emb_of (o := 1024) (by decide) inb_S1024x4096_S1024x512_0_1024 inb_S256x4096_S256x512_0_1024 v0 _ _ (View.read (Elt Ideal) arg11.view f_arg11) _
    (View.readAt (Elt Ideal) arg11.view (Rect.unit (s := S1024x4096) ![0, 1024] S1024x512.size inb_S1024x4096_S1024x512_0_1024).toLoadRect f_arg11)
    (trip_k1_t1.sl.v277 (F := Ideal) i arg10 arg13 k1_h1 v214 v217 k1_hw1 X_arg10 k)
    _ rfl (by rw [View.readAt_eq_ld]) (readCov_whole _ _ _), ?_⟩
  refine List.forall_mem_cons.mpr ⟨emb_of (o := 512) (by decide) inb_S1024x4096_S1024x512_0_512 inb_S256x4096_S256x512_0_512 v0 _ _ (View.read (Elt Ideal) arg11.view f_arg11) _
    (View.readAt (Elt Ideal) arg11.view (Rect.unit (s := S1024x4096) ![0, 512] S1024x512.size inb_S1024x4096_S1024x512_0_512).toLoadRect f_arg11)
    (trip_k1_t1.sl.v271 (F := Ideal) i arg10 arg13 k1_h1 v214 v217 k1_hw1 X_arg10 k)
    _ rfl (by rw [View.readAt_eq_ld]) (readCov_whole _ _ _), ?_⟩
  refine List.forall_mem_cons.mpr ⟨emb_of (o := 0) (by decide) inb_S1024x4096_S1024x512_0_0 inb_S256x4096_S256x512_0_0 v0 _ _ (View.read (Elt Ideal) arg11.view f_arg11) _
    (View.readAt (Elt Ideal) arg11.view (Rect.unit (s := S1024x4096) ![0, 0] S1024x512.size inb_S1024x4096_S1024x512_0_0).toLoadRect f_arg11)
    (trip_k1_t1.sl.v265 (F := Ideal) i arg10 arg13 k1_h1 v214 v217 k1_hw1 X_arg10 k)
    _ rfl (by rw [View.readAt_eq_ld]) (readCov_whole _ _ _), ?_⟩
  intro p hp; exact absurd hp List.not_mem_nil

/-- After the trips before `k`, over the contents at the loop's entry: the blocks' rows are added one after the other. -/
theorem loop_eq (𝒱 : Variants) (c : Dev nD) (bd : Option 𝒱.V) (i : grid1.Coords) (arg2 : Memref sig .tc .smem S21 .i32) (harg2 : arg2.IsWhole) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg10 : Memref sig .tc .hbm S16384x4096 .fp8e5m2) (harg10 : arg10.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (arg14 : DmaSems sig S_) (v0 : BitVec 32) (k1_h1 : k1_cond1 i = 1#1) (v214 : Elt Ideal .i32) (v217 : Elt Ideal .i32) (k1_hw1 : k1_chk1 i v214 v217) (v234 : BitVec 32) (X_arg8 : BufTy.Contents (Elt Ideal) arg8.view.ty) (X_arg9 : BufTy.Contents (Elt Ideal) arg9.view.ty) (X_arg10 : BufTy.Contents (Elt Ideal) arg10.view.ty) (L0 : List (View.Piece (Elt Ideal) S1024x4096 .f32)) (T : ℕ → S1024x4096.Idx → EReal)
    (hT : ∀ (k : Fin (k1_t1_loop v214 v217).trips) (y : S1024x4096.Idx), embAdd v0
        (View.ld (View.read (Elt Ideal) arg8.view X_arg8) (Rect.unit (s := S64x1x256) (k1_off4 v214 v217 k) S1x1x256.size (k1_off4_inb i v214 v217 k1_hw1 k k1_h1)))
        (View.ld (View.read (Elt Ideal) arg9.view X_arg9) (Rect.unit (s := S64x1x256) (k1_off4 v214 v217 k) S1x1x256.size (k1_off4_inb i v214 v217 k1_hw1 k k1_h1)))
        (View.ld (View.read (Elt Ideal) arg10.view X_arg10) (Rect.unit (s := S16384x4096) (k1_off3 v214 v217 k) S256x4096.size (k1_off3_inb i v214 v217 k1_hw1 k k1_h1))) y = T k.val y) :
    ∀ (n : ℕ) (hn : n ≤ (k1_t1_loop v214 v217).trips) (y : S1024x4096.Idx),
    View.canon (pb_k1_t1 (F := Ideal) 𝒱 c bd i arg2 harg2 arg3 harg3 arg4 harg4 arg5 harg5 arg6 harg6 arg7 harg7 arg8 harg8 arg9 harg9 arg10 harg10 arg11 harg11 arg12 harg12 arg13 harg13 arg14 v0 k1_h1 v214 v217 k1_hw1 v234 X_arg8 X_arg9 X_arg10 (arg11.view.writes (Elt Ideal) arg11.view.junk L0) n ++ L0) y = View.canon L0 y + ∑ s ∈ Finset.range n, T s y := by
  intro n
  induction n with
  | zero => intro hn y; rw [Finset.range_zero, Finset.sum_empty, add_zero, pb_k1_t1.eq_1, List.nil_append]
  | succ n ih =>
    intro hn y
    rw [Finset.sum_range_succ, ← add_assoc, ← ih (by omega) y, ← hT ⟨n, hn⟩ y]
    rw [pb_k1_t1_succ 𝒱 c bd i arg2 harg2 arg3 harg3 arg4 harg4 arg5 harg5 arg6 harg6 arg7 harg7 arg8 harg8 arg9 harg9 arg10 harg10 arg11 harg11 arg12 harg12 arg13 harg13 arg14 v0 k1_h1 v214 v217 k1_hw1 v234 X_arg8 X_arg9 X_arg10 (arg11.view.writes (Elt Ideal) arg11.view.junk L0) ⟨n, hn⟩]
    rw [List.append_assoc]
    refine (trip_eq 𝒱 c bd i arg2 harg2 arg3 harg3 arg4 harg4 arg5 harg5 arg6 harg6 arg7 harg7 arg8 harg8 arg9 harg9 arg10 harg10 arg11 harg11 arg12 harg12 arg13 harg13 arg14 v0 k1_h1 v214 v217 k1_hw1 v234 X_arg8 X_arg9 X_arg10 ⟨n, hn⟩ _ _ y).trans ?_
    rw [← View.writes_append, View.read_writes_junk_eq_canon]

end Cert.KernelIdeal.Hand
-- ==== Proof.MainFirst.lean ====
/-
  What the first reduction step of a block of the result leaves, over the extended reals: the embedding blocks' rows, then
  the step's own product.
-/
module

public import proofs.«01_k».proof.Proof.MainEmb
public import proofs.«01_k».proof.Proof.Table

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pointwise

set_option maxHeartbeats 1000000 in
/-- The first reduction step's gradient block, as it is read back. -/
theorem gradA (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec Ideal S512x1024 .bf16) (x1 : Vec Ideal S2x512 .f32) (x2 : Vec Ideal S1x512 .i32) (x3 : Vec Ideal S1x512 .f32) (x4 : Vec Ideal S512x4096 .fp8e4m3) (x5 : Vec Ideal S64x1x256 .i32) (x6 : Vec Ideal S64x1x256 .f32) (fh0 : HbBuf (F := Ideal) c hbM) (ft : HbBuf (F := Ideal) c tbM) (hchk : k1_chk1 i (tblLo c i hc0 ft) (tblHi c i hc0 ft)) :
    mainRunA.sl.v149 (F := Ideal) c i arg3 harg3 arg4 harg4 arg5 harg5 arg6 harg6 arg12 x0 x1 x2 x3 = gradG (i 0).val x0 x1 x2 x3 := by
  unfold mainRunA.sl.v149
  rw [View.readCov_eq_canon']
  funext y
  have hy : (Rect.unit (s := S1024x512) ![0, 0] S1024x512.size inb_S1024x512_S1024x512_0_0).toLoadRect.idx y = y := by idx_ext
  rw [hy]
  refine View.canon_apply_of_pieces (gradG (i 0).val x0 x1 x2 x3) _ ?_ y (View.cover_of_tiledL (mainRunA.sl.HS0_4 (F := Ideal) c i arg3 harg3 arg4 harg4 arg5 harg5 arg6 harg6 x0 x1 x2 x3) S1024x128.size (by sl_kernel_rfl) y)
  sl_unfold_words
  simp only [View.readAt_eq_ld, harg3.read_unread, harg4.read_unread, harg5.read_unread, harg6.read_unread]
  refine List.forall_mem_cons.mpr ⟨fun x => grad_piece (o := 384) (by decide) i inb_S1024x512_S1024x128_0_384 inb_S512x1024_S128x1024_384_0 inb_S2x512_S1x128_0_384 inb_S2x512_S1x128_1_384 inb_S1x512_S1x128_0_384 x0 x1 x2 x3 x, ?_⟩
  refine List.forall_mem_cons.mpr ⟨fun x => grad_piece (o := 256) (by decide) i inb_S1024x512_S1024x128_0_256 inb_S512x1024_S128x1024_256_0 inb_S2x512_S1x128_0_256 inb_S2x512_S1x128_1_256 inb_S1x512_S1x128_0_256 x0 x1 x2 x3 x, ?_⟩
  refine List.forall_mem_cons.mpr ⟨fun x => grad_piece (o := 128) (by decide) i inb_S1024x512_S1024x128_0_128 inb_S512x1024_S128x1024_128_0 inb_S2x512_S1x128_0_128 inb_S2x512_S1x128_1_128 inb_S1x512_S1x128_0_128 x0 x1 x2 x3 x, ?_⟩
  refine List.forall_mem_cons.mpr ⟨fun x => grad_piece (o := 0) (by decide) i inb_S1024x512_S1024x128_0_0 inb_S512x1024_S128x1024_0_0 inb_S2x512_S1x128_0_0 inb_S2x512_S1x128_1_0 inb_S1x512_S1x128_0_0 x0 x1 x2 x3 x, ?_⟩
  intro p hp; exact absurd hp List.not_mem_nil

theorem t2_none (a b : BitVec 32) : Scf.trips (k1_t2_loop a b).lb (k1_t2_loop a b).ub (k1_t2_loop a b).st = 0 :=
  Nat.eq_zero_of_not_pos fun h => Scf.rem_no_trip _ _ ⟨0, h⟩

/-- The embedding blocks' rows, as the products find them. -/
theorem baseA (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec Ideal S512x1024 .bf16) (x1 : Vec Ideal S2x512 .f32) (x2 : Vec Ideal S1x512 .i32) (x3 : Vec Ideal S1x512 .f32) (x4 : Vec Ideal S512x4096 .fp8e4m3) (x5 : Vec Ideal S64x1x256 .i32) (x6 : Vec Ideal S64x1x256 .f32) (fh0 : HbBuf (F := Ideal) c hbM) (ft : HbBuf (F := Ideal) c tbM) (hchk : k1_chk1 i (tblLo c i hc0 ft) (tblHi c i hc0 ft)) (T : ℕ → S1024x4096.Idx → EReal)
    (hT : ∀ (k : Fin (k1_t1_loop (tblLo (F := Ideal) c i hc0 ft) (tblHi (F := Ideal) c i hc0 ft)).trips) (y : S1024x4096.Idx), embAdd (Scalar.muli (BitVec.ofNat 32 (i 0).val) 1024#32)
        (View.ld (Val := Elt Ideal) (e' := .i32) x5 (Rect.unit (s := S64x1x256) (k1_off4 (tblLo (F := Ideal) c i hc0 ft) (tblHi (F := Ideal) c i hc0 ft) k) S1x1x256.size (k1_off4_inb i _ _ hchk k hc0)))
        (View.ld (Val := Elt Ideal) (e' := .f32) x6 (Rect.unit (s := S64x1x256) (k1_off4 (tblLo (F := Ideal) c i hc0 ft) (tblHi (F := Ideal) c i hc0 ft) k) S1x1x256.size (k1_off4_inb i _ _ hchk k hc0)))
        (View.ld (Val := Elt Ideal) (e' := .fp8e5m2) fh0 (Rect.unit (s := S16384x4096) (k1_off3 (tblLo (F := Ideal) c i hc0 ft) (tblHi (F := Ideal) c i hc0 ft) k) S256x4096.size (k1_off3_inb i _ _ hchk k hc0))) y = T k.val y) (y : S1024x4096.Idx) :
    (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) y = ∑ s ∈ Finset.range (k1_t1_loop (tblLo (F := Ideal) c i hc0 ft) (tblHi (F := Ideal) c i hc0 ft)).trips, T s y := by
  unfold mainRunA.sl.H7_1_1
  rw [List.tail_cons, t2_none, pb_k1_t2.eq_1, List.nil_append]
  refine (loop_eq (v214 := tblLo (F := Ideal) c i hc0 ft) (v217 := tblHi (F := Ideal) c i hc0 ft) (k1_hw1 := hchk) (L0 := mainRunA.sl.H7_1 (F := Ideal)) (T := T) (hT := ?_) (hn := le_rfl) (y := y) ..).trans ?_
  · intro k y
    rw [harg8.read_unread, harg9.read_unread]
    exact hT k y
  · have e : View.canon (mainRunA.sl.H7_1 (F := Ideal)) y = (0 : EReal) := by
      unfold mainRunA.sl.H7_1
      rw [View.canon_unit_zero (by decide)]
      show Ideal.ofBits .f32 0x00000000#32 = 0
      exact Ideal.ofBits_zero .f32
    rw [e, zero_add]

theorem readA_0 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec Ideal S512x1024 .bf16) (x1 : Vec Ideal S2x512 .f32) (x2 : Vec Ideal S1x512 .i32) (x3 : Vec Ideal S1x512 .f32) (x4 : Vec Ideal S512x4096 .fp8e4m3) (x5 : Vec Ideal S64x1x256 .i32) (x6 : Vec Ideal S64x1x256 .f32) (fh0 : HbBuf (F := Ideal) c hbM) (ft : HbBuf (F := Ideal) c tbM) (hchk : k1_chk1 i (tblLo c i hc0 ft) (tblHi c i hc0 ft)) :
    mainRunA.sl.v147 (F := Ideal) c i arg3 harg3 arg4 harg4 arg5 harg5 arg6 harg6 arg7 harg7 arg8 harg8 arg9 harg9 arg11 harg11 arg12 harg12 arg13 harg13 hc0 x5 x6 fh0 ft hchk = View.ld (Val := Elt Ideal) (e' := .f32) (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) (Rect.unit (s := S1024x4096) ![0, 0] S1024x512.size inb_S1024x4096_S1024x512_0_0) := by
  unfold mainRunA.sl.v147
  simp (disch := decide) only [↓ View.readCov_skip]
  rw [View.readCov_eq_canon']
  rfl

theorem readA_512 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec Ideal S512x1024 .bf16) (x1 : Vec Ideal S2x512 .f32) (x2 : Vec Ideal S1x512 .i32) (x3 : Vec Ideal S1x512 .f32) (x4 : Vec Ideal S512x4096 .fp8e4m3) (x5 : Vec Ideal S64x1x256 .i32) (x6 : Vec Ideal S64x1x256 .f32) (fh0 : HbBuf (F := Ideal) c hbM) (ft : HbBuf (F := Ideal) c tbM) (hchk : k1_chk1 i (tblLo c i hc0 ft) (tblHi c i hc0 ft)) :
    mainRunA.sl.v155 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk = View.ld (Val := Elt Ideal) (e' := .f32) (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) (Rect.unit (s := S1024x4096) ![0, 512] S1024x512.size inb_S1024x4096_S1024x512_0_512) := by
  unfold mainRunA.sl.v155 mainRunA.sl.H7_1_1
  simp (disch := decide) only [↓ View.readCov_skip]
  rw [View.readCov_eq_canon']
  rfl

theorem readA_1024 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec Ideal S512x1024 .bf16) (x1 : Vec Ideal S2x512 .f32) (x2 : Vec Ideal S1x512 .i32) (x3 : Vec Ideal S1x512 .f32) (x4 : Vec Ideal S512x4096 .fp8e4m3) (x5 : Vec Ideal S64x1x256 .i32) (x6 : Vec Ideal S64x1x256 .f32) (fh0 : HbBuf (F := Ideal) c hbM) (ft : HbBuf (F := Ideal) c tbM) (hchk : k1_chk1 i (tblLo c i hc0 ft) (tblHi c i hc0 ft)) :
    mainRunA.sl.v163 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk = View.ld (Val := Elt Ideal) (e' := .f32) (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) (Rect.unit (s := S1024x4096) ![0, 1024] S1024x512.size inb_S1024x4096_S1024x512_0_1024) := by
  unfold mainRunA.sl.v163 mainRunA.sl.H7_2 mainRunA.sl.H7_1_1
  simp (disch := decide) only [↓ View.readCov_skip]
  rw [View.readCov_eq_canon']
  rfl

theorem readA_1536 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec Ideal S512x1024 .bf16) (x1 : Vec Ideal S2x512 .f32) (x2 : Vec Ideal S1x512 .i32) (x3 : Vec Ideal S1x512 .f32) (x4 : Vec Ideal S512x4096 .fp8e4m3) (x5 : Vec Ideal S64x1x256 .i32) (x6 : Vec Ideal S64x1x256 .f32) (fh0 : HbBuf (F := Ideal) c hbM) (ft : HbBuf (F := Ideal) c tbM) (hchk : k1_chk1 i (tblLo c i hc0 ft) (tblHi c i hc0 ft)) :
    mainRunA.sl.v171 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk = View.ld (Val := Elt Ideal) (e' := .f32) (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) (Rect.unit (s := S1024x4096) ![0, 1536] S1024x512.size inb_S1024x4096_S1024x512_0_1536) := by
  unfold mainRunA.sl.v171 mainRunA.sl.H7_3 mainRunA.sl.H7_2 mainRunA.sl.H7_1_1
  simp (disch := decide) only [↓ View.readCov_skip]
  rw [View.readCov_eq_canon']
  rfl

theorem readA_2048 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec Ideal S512x1024 .bf16) (x1 : Vec Ideal S2x512 .f32) (x2 : Vec Ideal S1x512 .i32) (x3 : Vec Ideal S1x512 .f32) (x4 : Vec Ideal S512x4096 .fp8e4m3) (x5 : Vec Ideal S64x1x256 .i32) (x6 : Vec Ideal S64x1x256 .f32) (fh0 : HbBuf (F := Ideal) c hbM) (ft : HbBuf (F := Ideal) c tbM) (hchk : k1_chk1 i (tblLo c i hc0 ft) (tblHi c i hc0 ft)) :
    mainRunA.sl.v179 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk = View.ld (Val := Elt Ideal) (e' := .f32) (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) (Rect.unit (s := S1024x4096) ![0, 2048] S1024x512.size inb_S1024x4096_S1024x512_0_2048) := by
  unfold mainRunA.sl.v179 mainRunA.sl.H7_4 mainRunA.sl.H7_3 mainRunA.sl.H7_2 mainRunA.sl.H7_1_1
  simp (disch := decide) only [↓ View.readCov_skip]
  rw [View.readCov_eq_canon']
  rfl

theorem readA_2560 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec Ideal S512x1024 .bf16) (x1 : Vec Ideal S2x512 .f32) (x2 : Vec Ideal S1x512 .i32) (x3 : Vec Ideal S1x512 .f32) (x4 : Vec Ideal S512x4096 .fp8e4m3) (x5 : Vec Ideal S64x1x256 .i32) (x6 : Vec Ideal S64x1x256 .f32) (fh0 : HbBuf (F := Ideal) c hbM) (ft : HbBuf (F := Ideal) c tbM) (hchk : k1_chk1 i (tblLo c i hc0 ft) (tblHi c i hc0 ft)) :
    mainRunA.sl.v187 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk = View.ld (Val := Elt Ideal) (e' := .f32) (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) (Rect.unit (s := S1024x4096) ![0, 2560] S1024x512.size inb_S1024x4096_S1024x512_0_2560) := by
  unfold mainRunA.sl.v187 mainRunA.sl.H7_5 mainRunA.sl.H7_4 mainRunA.sl.H7_3 mainRunA.sl.H7_2 mainRunA.sl.H7_1_1
  simp (disch := decide) only [↓ View.readCov_skip]
  rw [View.readCov_eq_canon']
  rfl

theorem readA_3072 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec Ideal S512x1024 .bf16) (x1 : Vec Ideal S2x512 .f32) (x2 : Vec Ideal S1x512 .i32) (x3 : Vec Ideal S1x512 .f32) (x4 : Vec Ideal S512x4096 .fp8e4m3) (x5 : Vec Ideal S64x1x256 .i32) (x6 : Vec Ideal S64x1x256 .f32) (fh0 : HbBuf (F := Ideal) c hbM) (ft : HbBuf (F := Ideal) c tbM) (hchk : k1_chk1 i (tblLo c i hc0 ft) (tblHi c i hc0 ft)) :
    mainRunA.sl.v195 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk = View.ld (Val := Elt Ideal) (e' := .f32) (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) (Rect.unit (s := S1024x4096) ![0, 3072] S1024x512.size inb_S1024x4096_S1024x512_0_3072) := by
  unfold mainRunA.sl.v195 mainRunA.sl.H7_6 mainRunA.sl.H7_5 mainRunA.sl.H7_4 mainRunA.sl.H7_3 mainRunA.sl.H7_2 mainRunA.sl.H7_1_1
  simp (disch := decide) only [↓ View.readCov_skip]
  rw [View.readCov_eq_canon']
  rfl

theorem readA_3584 (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec Ideal S512x1024 .bf16) (x1 : Vec Ideal S2x512 .f32) (x2 : Vec Ideal S1x512 .i32) (x3 : Vec Ideal S1x512 .f32) (x4 : Vec Ideal S512x4096 .fp8e4m3) (x5 : Vec Ideal S64x1x256 .i32) (x6 : Vec Ideal S64x1x256 .f32) (fh0 : HbBuf (F := Ideal) c hbM) (ft : HbBuf (F := Ideal) c tbM) (hchk : k1_chk1 i (tblLo c i hc0 ft) (tblHi c i hc0 ft)) :
    mainRunA.sl.v203 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk = View.ld (Val := Elt Ideal) (e' := .f32) (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) (Rect.unit (s := S1024x4096) ![0, 3584] S1024x512.size inb_S1024x4096_S1024x512_0_3584) := by
  unfold mainRunA.sl.v203 mainRunA.sl.H7_7 mainRunA.sl.H7_6 mainRunA.sl.H7_5 mainRunA.sl.H7_4 mainRunA.sl.H7_3 mainRunA.sl.H7_2 mainRunA.sl.H7_1_1
  simp (disch := decide) only [↓ View.readCov_skip]
  rw [View.readCov_eq_canon']
  rfl

set_option maxHeartbeats 1000000 in
/-- The first reduction step: the embedding blocks' rows plus the step's product. -/
theorem out1_A_eq (c : Dev nD) (i : grid1.Coords) (arg3 : Memref sig .tc .vmem S512x1024 .bf16) (harg3 : arg3.IsWhole) (arg4 : Memref sig .tc .vmem S2x512 .f32) (harg4 : arg4.IsWhole) (arg5 : Memref sig .tc .vmem S1x512 .i32) (harg5 : arg5.IsWhole) (arg6 : Memref sig .tc .vmem S1x512 .f32) (harg6 : arg6.IsWhole) (arg7 : Memref sig .tc .vmem S512x4096 .fp8e4m3) (harg7 : arg7.IsWhole) (arg8 : Memref sig .tc .vmem S64x1x256 .i32) (harg8 : arg8.IsWhole) (arg9 : Memref sig .tc .vmem S64x1x256 .f32) (harg9 : arg9.IsWhole) (arg11 : Memref sig .tc .vmem S1024x4096 .f32) (harg11 : arg11.IsWhole) (arg12 : Memref sig .tc .vmem S1024x512 .bf16) (harg12 : arg12.IsWhole) (arg13 : Memref sig .tc .vmem S256x4096 .fp8e5m2) (harg13 : arg13.IsWhole) (hc0 : condM i)
    (x0 : Vec Ideal S512x1024 .bf16) (x1 : Vec Ideal S2x512 .f32) (x2 : Vec Ideal S1x512 .i32) (x3 : Vec Ideal S1x512 .f32) (x4 : Vec Ideal S512x4096 .fp8e4m3) (x5 : Vec Ideal S64x1x256 .i32) (x6 : Vec Ideal S64x1x256 .f32) (fh0 : HbBuf (F := Ideal) c hbM) (ft : HbBuf (F := Ideal) c tbM) (hchk : k1_chk1 i (tblLo c i hc0 ft) (tblHi c i hc0 ft)) :
    out1_A_7 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk = accG (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) (gradG (i 0).val x0 x1 x2 x3) x4 := by
  unfold out1_A_7
  rw [View.read_writes_junk_eq_canon]
  funext y
  have hc := View.cover_of_tiledL ((mainRunA (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).1.take 8) S1024x512.size (by sl_kernel_rfl) y
  refine (congrFun (congrArg View.canon (List.take_append_drop 8 (mainRunA (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).1).symm) y).trans ?_
  refine View.canon_append_of_pieces (accG (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) (gradG (i 0).val x0 x1 x2 x3) x4) _ _ ?_ y hc
  unfold mainRunA
  dsimp only
  show ∀ p ∈ (_ :: _ :: _ :: _ :: _ :: _ :: _ :: _ :: []), _
  refine List.forall_mem_cons.mpr ⟨prod_of (o := 3584) (by decide) inb_S1024x4096_S1024x512_0_3584 inb_S512x4096_S512x512_0_3584 (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) x4 (gradG (i 0).val x0 x1 x2 x3)
    _
    (mainRunA.sl.v149 (F := Ideal) c i arg3 harg3 arg4 harg4 arg5 harg5 arg6 harg6 arg12 x0 x1 x2 x3)
    (View.readAt (Elt Ideal) arg7.view (Rect.unit (s := S512x4096) ![0, 3584] S512x512.size inb_S512x4096_S512x512_0_3584).toLoadRect (harg7.unread x4))
    _ rfl (readA_3584 c i arg3 harg3 arg4 harg4 arg5 harg5 arg6 harg6 arg7 harg7 arg8 harg8 arg9 harg9 arg11 harg11 arg12 harg12 arg13 harg13 hc0 x0 x1 x2 x3 x4 x5 x6 fh0 ft hchk) (gradA c i arg3 harg3 arg4 harg4 arg5 harg5 arg6 harg6 arg7 harg7 arg8 harg8 arg9 harg9 arg11 harg11 arg12 harg12 arg13 harg13 hc0 x0 x1 x2 x3 x4 x5 x6 fh0 ft hchk) (by rw [View.readAt_eq_ld, harg7.read_unread]), ?_⟩
  refine List.forall_mem_cons.mpr ⟨prod_of (o := 3072) (by decide) inb_S1024x4096_S1024x512_0_3072 inb_S512x4096_S512x512_0_3072 (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) x4 (gradG (i 0).val x0 x1 x2 x3)
    _
    (mainRunA.sl.v149 (F := Ideal) c i arg3 harg3 arg4 harg4 arg5 harg5 arg6 harg6 arg12 x0 x1 x2 x3)
    (View.readAt (Elt Ideal) arg7.view (Rect.unit (s := S512x4096) ![0, 3072] S512x512.size inb_S512x4096_S512x512_0_3072).toLoadRect (harg7.unread x4))
    _ rfl (readA_3072 c i arg3 harg3 arg4 harg4 arg5 harg5 arg6 harg6 arg7 harg7 arg8 harg8 arg9 harg9 arg11 harg11 arg12 harg12 arg13 harg13 hc0 x0 x1 x2 x3 x4 x5 x6 fh0 ft hchk) (gradA c i arg3 harg3 arg4 harg4 arg5 harg5 arg6 harg6 arg7 harg7 arg8 harg8 arg9 harg9 arg11 harg11 arg12 harg12 arg13 harg13 hc0 x0 x1 x2 x3 x4 x5 x6 fh0 ft hchk) (by rw [View.readAt_eq_ld, harg7.read_unread]), ?_⟩
  refine List.forall_mem_cons.mpr ⟨prod_of (o := 2560) (by decide) inb_S1024x4096_S1024x512_0_2560 inb_S512x4096_S512x512_0_2560 (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) x4 (gradG (i 0).val x0 x1 x2 x3)
    _
    (mainRunA.sl.v149 (F := Ideal) c i arg3 harg3 arg4 harg4 arg5 harg5 arg6 harg6 arg12 x0 x1 x2 x3)
    (View.readAt (Elt Ideal) arg7.view (Rect.unit (s := S512x4096) ![0, 2560] S512x512.size inb_S512x4096_S512x512_0_2560).toLoadRect (harg7.unread x4))
    _ rfl (readA_2560 c i arg3 harg3 arg4 harg4 arg5 harg5 arg6 harg6 arg7 harg7 arg8 harg8 arg9 harg9 arg11 harg11 arg12 harg12 arg13 harg13 hc0 x0 x1 x2 x3 x4 x5 x6 fh0 ft hchk) (gradA c i arg3 harg3 arg4 harg4 arg5 harg5 arg6 harg6 arg7 harg7 arg8 harg8 arg9 harg9 arg11 harg11 arg12 harg12 arg13 harg13 hc0 x0 x1 x2 x3 x4 x5 x6 fh0 ft hchk) (by rw [View.readAt_eq_ld, harg7.read_unread]), ?_⟩
  refine List.forall_mem_cons.mpr ⟨prod_of (o := 2048) (by decide) inb_S1024x4096_S1024x512_0_2048 inb_S512x4096_S512x512_0_2048 (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) x4 (gradG (i 0).val x0 x1 x2 x3)
    _
    (mainRunA.sl.v149 (F := Ideal) c i arg3 harg3 arg4 harg4 arg5 harg5 arg6 harg6 arg12 x0 x1 x2 x3)
    (View.readAt (Elt Ideal) arg7.view (Rect.unit (s := S512x4096) ![0, 2048] S512x512.size inb_S512x4096_S512x512_0_2048).toLoadRect (harg7.unread x4))
    _ rfl (readA_2048 c i arg3 harg3 arg4 harg4 arg5 harg5 arg6 harg6 arg7 harg7 arg8 harg8 arg9 harg9 arg11 harg11 arg12 harg12 arg13 harg13 hc0 x0 x1 x2 x3 x4 x5 x6 fh0 ft hchk) (gradA c i arg3 harg3 arg4 harg4 arg5 harg5 arg6 harg6 arg7 harg7 arg8 harg8 arg9 harg9 arg11 harg11 arg12 harg12 arg13 harg13 hc0 x0 x1 x2 x3 x4 x5 x6 fh0 ft hchk) (by rw [View.readAt_eq_ld, harg7.read_unread]), ?_⟩
  refine List.forall_mem_cons.mpr ⟨prod_of (o := 1536) (by decide) inb_S1024x4096_S1024x512_0_1536 inb_S512x4096_S512x512_0_1536 (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) x4 (gradG (i 0).val x0 x1 x2 x3)
    _
    (mainRunA.sl.v149 (F := Ideal) c i arg3 harg3 arg4 harg4 arg5 harg5 arg6 harg6 arg12 x0 x1 x2 x3)
    (View.readAt (Elt Ideal) arg7.view (Rect.unit (s := S512x4096) ![0, 1536] S512x512.size inb_S512x4096_S512x512_0_1536).toLoadRect (harg7.unread x4))
    _ rfl (readA_1536 c i arg3 harg3 arg4 harg4 arg5 harg5 arg6 harg6 arg7 harg7 arg8 harg8 arg9 harg9 arg11 harg11 arg12 harg12 arg13 harg13 hc0 x0 x1 x2 x3 x4 x5 x6 fh0 ft hchk) (gradA c i arg3 harg3 arg4 harg4 arg5 harg5 arg6 harg6 arg7 harg7 arg8 harg8 arg9 harg9 arg11 harg11 arg12 harg12 arg13 harg13 hc0 x0 x1 x2 x3 x4 x5 x6 fh0 ft hchk) (by rw [View.readAt_eq_ld, harg7.read_unread]), ?_⟩
  refine List.forall_mem_cons.mpr ⟨prod_of (o := 1024) (by decide) inb_S1024x4096_S1024x512_0_1024 inb_S512x4096_S512x512_0_1024 (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) x4 (gradG (i 0).val x0 x1 x2 x3)
    _
    (mainRunA.sl.v149 (F := Ideal) c i arg3 harg3 arg4 harg4 arg5 harg5 arg6 harg6 arg12 x0 x1 x2 x3)
    (View.readAt (Elt Ideal) arg7.view (Rect.unit (s := S512x4096) ![0, 1024] S512x512.size inb_S512x4096_S512x512_0_1024).toLoadRect (harg7.unread x4))
    _ rfl (readA_1024 c i arg3 harg3 arg4 harg4 arg5 harg5 arg6 harg6 arg7 harg7 arg8 harg8 arg9 harg9 arg11 harg11 arg12 harg12 arg13 harg13 hc0 x0 x1 x2 x3 x4 x5 x6 fh0 ft hchk) (gradA c i arg3 harg3 arg4 harg4 arg5 harg5 arg6 harg6 arg7 harg7 arg8 harg8 arg9 harg9 arg11 harg11 arg12 harg12 arg13 harg13 hc0 x0 x1 x2 x3 x4 x5 x6 fh0 ft hchk) (by rw [View.readAt_eq_ld, harg7.read_unread]), ?_⟩
  refine List.forall_mem_cons.mpr ⟨prod_of (o := 512) (by decide) inb_S1024x4096_S1024x512_0_512 inb_S512x4096_S512x512_0_512 (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) x4 (gradG (i 0).val x0 x1 x2 x3)
    _
    (mainRunA.sl.v149 (F := Ideal) c i arg3 harg3 arg4 harg4 arg5 harg5 arg6 harg6 arg12 x0 x1 x2 x3)
    (View.readAt (Elt Ideal) arg7.view (Rect.unit (s := S512x4096) ![0, 512] S512x512.size inb_S512x4096_S512x512_0_512).toLoadRect (harg7.unread x4))
    _ rfl (readA_512 c i arg3 harg3 arg4 harg4 arg5 harg5 arg6 harg6 arg7 harg7 arg8 harg8 arg9 harg9 arg11 harg11 arg12 harg12 arg13 harg13 hc0 x0 x1 x2 x3 x4 x5 x6 fh0 ft hchk) (gradA c i arg3 harg3 arg4 harg4 arg5 harg5 arg6 harg6 arg7 harg7 arg8 harg8 arg9 harg9 arg11 harg11 arg12 harg12 arg13 harg13 hc0 x0 x1 x2 x3 x4 x5 x6 fh0 ft hchk) (by rw [View.readAt_eq_ld, harg7.read_unread]), ?_⟩
  refine List.forall_mem_cons.mpr ⟨prod_of (o := 0) (by decide) inb_S1024x4096_S1024x512_0_0 inb_S512x4096_S512x512_0_0 (View.canon (mainRunA.sl.H7_1_1 (F := Ideal) c i arg3 harg3 arg4 harg4 arg5 harg5 arg6 harg6 arg7 harg7 arg8 harg8 arg9 harg9 arg11 harg11 arg12 harg12 arg13 harg13 hc0 x0 x1 x2 x3 x4 x5 x6 fh0 ft hchk).tail) x4 (gradG (i 0).val x0 x1 x2 x3)
    _
    (mainRunA.sl.v149 (F := Ideal) c i arg3 harg3 arg4 harg4 arg5 harg5 arg6 harg6 arg12 x0 x1 x2 x3)
    (View.readAt (Elt Ideal) arg7.view (Rect.unit (s := S512x4096) ![0, 0] S512x512.size inb_S512x4096_S512x512_0_0).toLoadRect (harg7.unread x4))
    _ rfl (readA_0 c i arg3 harg3 arg4 harg4 arg5 harg5 arg6 harg6 arg7 harg7 arg8 harg8 arg9 harg9 arg11 harg11 arg12 harg12 arg13 harg13 hc0 x0 x1 x2 x3 x4 x5 x6 fh0 ft hchk) (gradA c i arg3 harg3 arg4 harg4 arg5 harg5 arg6 harg6 arg7 harg7 arg8 harg8 arg9 harg9 arg11 harg11 arg12 harg12 arg13 harg13 hc0 x0 x1 x2 x3 x4 x5 x6 fh0 ft hchk) (by rw [View.readAt_eq_ld, harg7.read_unread]), ?_⟩
  intro p hp; exact absurd hp List.not_mem_nil

end Cert.KernelIdeal.Hand
-- ==== Proof.MainBlocks.lean ====
/-
  The blocks of the second call as reads of the arrays: what each window shows at point `t`, and the two table words.
-/
module

public import proofs.«01_k».proof.Proof.Table
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pointwise

theorem at1_0 : ∀ t : Fin grid1.N, cc1_transform_0 (grid1.coords t) = ![t.val % 32, t.val / 32] := by decide +kernel
theorem at1_1 : ∀ t : Fin grid1.N, cc1_transform_1 (grid1.coords t) = ![0, t.val % 32] := by decide +kernel
theorem at1_2 : ∀ t : Fin grid1.N, cc1_transform_2 (grid1.coords t) = ![0, t.val % 32] := by decide +kernel
theorem at1_3 : ∀ t : Fin grid1.N, cc1_transform_3 (grid1.coords t) = ![0, t.val % 32] := by decide +kernel
theorem at1_4 : ∀ t : Fin grid1.N, cc1_transform_4 (grid1.coords t) = ![t.val % 32, 0] := by decide +kernel
theorem at1_5 : ∀ t : Fin grid1.N, cc1_transform_5 (grid1.coords t) = ![0, 0, 0] := by decide +kernel
theorem at1_6 : ∀ t : Fin grid1.N, cc1_transform_6 (grid1.coords t) = ![0, 0, 0] := by decide +kernel
theorem at1_7 : ∀ t : Fin grid1.N, cc1_transform_8 (grid1.coords t) = ![t.val / 32, 0] := by decide +kernel

variable (V : (c : Dev nD) → (b : Ref sig .tc) → b.ty.Contents (Elt Ideal)) (a : (pcfg1 (F := Ideal)).Adm)

theorem idx1_0 (t : Fin grid1.N) : ((cfg1 a).win 0).index t = ![t.val % 32, t.val / 32] := at1_0 t
theorem idx1_1 (t : Fin grid1.N) : ((cfg1 a).win 1).index t = ![0, t.val % 32] := at1_1 t
theorem idx1_2 (t : Fin grid1.N) : ((cfg1 a).win 2).index t = ![0, t.val % 32] := at1_2 t
theorem idx1_3 (t : Fin grid1.N) : ((cfg1 a).win 3).index t = ![0, t.val % 32] := at1_3 t
theorem idx1_4 (t : Fin grid1.N) : ((cfg1 a).win 4).index t = ![t.val % 32, 0] := at1_4 t
theorem idx1_5 (t : Fin grid1.N) : ((cfg1 a).win 5).index t = ![0, 0, 0] := at1_5 t
theorem idx1_6 (t : Fin grid1.N) : ((cfg1 a).win 6).index t = ![0, 0, 0] := at1_6 t
theorem idx1_7 (t : Fin grid1.N) : ((cfg1 a).win 7).index t = ![t.val / 32, 0] := at1_7 t

/-- A block of logits at a row and a column. -/
theorem iblk1_0_apply (c : Dev nD) (t : Fin grid1.N) (p : Fin 512) (r : Fin 1024) (h : t.val % 32 * 512 + p.val < 16384) (h' : t.val / 32 * 1024 + r.val < 20480) :
    (iblk1 V a c 0 t : Vec Ideal S512x1024 .bf16) (ix2 p r) = (V c main_v0 : Vec Ideal S16384x20480 .bf16) (ix2 (⟨t.val % 32 * 512 + p.val, h⟩ : Fin 16384) (⟨t.val / 32 * 1024 + r.val, h'⟩ : Fin 20480)) := by
  have hx : (pcfg1.win a 0).index t = ![t.val % 32, t.val / 32] := at1_0 t
  blk_ext [iblk1, hx]

/-- A block of statistics. -/
theorem iblk1_1_apply (c : Dev nD) (t : Fin grid1.N) (q : Fin 2) (p : Fin 512) (h : t.val % 32 * 512 + p.val < 16384) :
    (iblk1 V a c 1 t : Vec Ideal S2x512 .f32) (ix2 q p) = (V c main_v1 : Vec Ideal S2x16384 .f32) (ix2 q (⟨t.val % 32 * 512 + p.val, h⟩ : Fin 16384)) := by
  have hx : (pcfg1.win a 1).index t = ![0, t.val % 32] := at1_1 t
  blk_ext [iblk1, hx]

/-- A block of labels. -/
theorem iblk1_2_apply (c : Dev nD) (t : Fin grid1.N) (p : Fin 512) (h : t.val % 32 * 512 + p.val < 16384) :
    (iblk1 V a c 2 t : Vec Ideal S1x512 .i32) (ix2 (0 : Fin 1) p) = (V c main_v12 : Vec Ideal S1x16384 .i32) (ix2 (0 : Fin 1) (⟨t.val % 32 * 512 + p.val, h⟩ : Fin 16384)) := by
  have hx : (pcfg1.win a 2).index t = ![0, t.val % 32] := at1_2 t
  blk_ext [iblk1, hx]

/-- A block of row scales. -/
theorem iblk1_3_apply (c : Dev nD) (t : Fin grid1.N) (p : Fin 512) (h : t.val % 32 * 512 + p.val < 16384) :
    (iblk1 V a c 3 t : Vec Ideal S1x512 .f32) (ix2 (0 : Fin 1) p) = (V c main_v13 : Vec Ideal S1x16384 .f32) (ix2 (0 : Fin 1) (⟨t.val % 32 * 512 + p.val, h⟩ : Fin 16384)) := by
  have hx : (pcfg1.win a 3).index t = ![0, t.val % 32] := at1_3 t
  blk_ext [iblk1, hx]

/-- A block of activations. -/
theorem iblk1_4_apply (c : Dev nD) (t : Fin grid1.N) (p : Fin 512) (d : Fin 4096) (h : t.val % 32 * 512 + p.val < 16384) :
    (iblk1 V a c 4 t : Vec Ideal S512x4096 .fp8e4m3) (ix2 p d) = (V c main_v14 : Vec Ideal S16384x4096 .fp8e4m3) (ix2 (⟨t.val % 32 * 512 + p.val, h⟩ : Fin 16384) d) := by
  have hx : (pcfg1.win a 4).index t = ![t.val % 32, 0] := at1_4 t
  blk_ext [iblk1, hx]

/-- The identifiers, whole. -/
theorem iblk1_5_eq (c : Dev nD) (t : Fin grid1.N) :
    (iblk1 V a c 5 t : Vec Ideal S64x1x256 .i32) = (V c main_v15 : Vec Ideal S64x1x256 .i32) := by
  funext y
  have hx : (pcfg1.win a 5).index t = ![0, 0, 0] := at1_5 t
  blk_ext [iblk1, hx]

/-- The embedding scales, whole. -/
theorem iblk1_6_eq (c : Dev nD) (t : Fin grid1.N) :
    (iblk1 V a c 6 t : Vec Ideal S64x1x256 .f32) = (V c main_v16 : Vec Ideal S64x1x256 .f32) := by
  funext y
  have hx : (pcfg1.win a 6).index t = ![0, 0, 0] := at1_6 t
  blk_ext [iblk1, hx]

theorem first_zero (h : 0 < S1.numel) : (Shape.Idx.first h (0 : Fin 1)).val = 0 := by
  have := (Shape.Idx.first h (0 : Fin 1)).isLt
  have e : S1.size 0 = 1 := rfl
  omega

/-- The lower table word is the entry of the vocabulary block. -/
theorem tblLo_eq (c : Dev nD) (i : grid1.Coords) (h : condM i) (ft : HbBuf (F := Ideal) c tbM) (j : Fin 21) (hj : j.val = (i 0).val) :
    tblLo c i h ft = (ft : Vec Ideal S21 .i32) (Idealize.ShloMosaic.ix1 j) := by
  unfold tblLo
  refine congrArg (ft : Vec Ideal S21 .i32) ?_
  have := (i 0).isLt
  funext x
  fin_cases x
  apply Fin.ext
  show k1_off1 i 0 + 1 * (Shape.Idx.first (s := S1) (numel1_S1.symm ▸ Nat.one_pos) (0 : Fin 1)).val = j.val
  rw [first_zero, show k1_off1 i 0 = (BitVec.ofNat 32 (i 0).val).toNat from rfl, BitVec.toNat_ofNat, hj]
  have : (i 0).val < 20 := (i 0).isLt
  omega

/-- The upper table word is the next entry. -/
theorem tblHi_eq (c : Dev nD) (i : grid1.Coords) (h : condM i) (ft : HbBuf (F := Ideal) c tbM) (j : Fin 21) (hj : j.val = (i 0).val + 1) :
    tblHi c i h ft = (ft : Vec Ideal S21 .i32) (Idealize.ShloMosaic.ix1 j) := by
  unfold tblHi
  refine congrArg (ft : Vec Ideal S21 .i32) ?_
  funext x
  fin_cases x
  apply Fin.ext
  show k1_off2 i 0 + 1 * (Shape.Idx.first (s := S1) (numel1_S1.symm ▸ Nat.one_pos) (0 : Fin 1)).val = j.val
  have : (i 0).val < 20 := (i 0).isLt
  have e : Scalar.addi (BitVec.ofNat 32 (i 0).val) 1#32 = BitVec.ofNat 32 ((i 0).val + 1) := (BitVec.ofNat_add _ 1).symm
  rw [first_zero, show k1_off2 i 0 = (Scalar.addi (BitVec.ofNat 32 (i 0).val) 1#32).toNat from rfl, e, BitVec.toNat_ofNat, hj]
  omega

end Cert.KernelIdeal.Hand
-- ==== Proof.MainArray.lean ====
/-
  The result array after the main kernel over the extended reals: the selected embedding blocks' rows, then the product of
  the gradient with the activations over all tokens.
-/
module

public import proofs.«01_k».proof.Proof.MainFirst
public import proofs.«01_k».proof.Proof.MainBlocks

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pointwise

/-! ## One embedding block -/

/-- What embedding block `B` adds to row `r` of a vocabulary block whose first word is `v0`. -/
def embBlk (v0 : BitVec 32) (I : S64x1x256.Idx → BitVec 32) (Sc : S64x1x256.Idx → EReal) (W : S16384x4096.Idx → EReal) (B : ℕ) (y : S1024x4096.Idx) : EReal :=
  if h : B < 64 then ∑ x : Fin 256, Scalar.select (IntOp.cmpi .eq (IntOp.addi (BitVec.ofNat 32 (y 0).val) v0) (I (ix3 (⟨B, h⟩ : Fin 64) (0 : Fin 1) x)))
    (Sc (ix3 (⟨B, h⟩ : Fin 64) (0 : Fin 1) x) * W (ix2 (⟨B * 256 + x.val, by omega⟩ : Fin 16384) (y 1))) 0 else 0

theorem ld_blk {e' : EltTy} (X : S64x1x256.Idx → Elt Ideal e') (off : Fin 3 → ℕ) (B : ℕ) (hB : B < 64) (ho : off = ![B, 0, 0]) (inb : ∀ a, off a + S1x1x256.size a ≤ S64x1x256.size a) (x : Fin 256) :
    View.ld (Val := Elt Ideal) (e' := e') X (Rect.unit (s := S64x1x256) off S1x1x256.size inb) (ix3 (0 : Fin 1) (0 : Fin 1) x) = X (ix3 (⟨B, hB⟩ : Fin 64) (0 : Fin 1) x) := by
  subst ho
  refine congrArg X ?_
  idx_ext

theorem ld_rows {e' : EltTy} (X : S16384x4096.Idx → Elt Ideal e') (off : Fin 2 → ℕ) (B : ℕ) (hB : B < 64) (ho : off = ![B * 256, 0]) (inb : ∀ a, off a + S256x4096.size a ≤ S16384x4096.size a) (x : Fin 256) (d : Fin 4096) :
    View.ld (Val := Elt Ideal) (e' := e') X (Rect.unit (s := S16384x4096) off S256x4096.size inb) (ix2 x d) = X (ix2 (⟨B * 256 + x.val, by omega⟩ : Fin 16384) d) := by
  subst ho
  refine congrArg X ?_
  idx_ext

theorem emb_trip {w1 w2 : BitVec 32} {a b : ℕ} (ha : a ≤ 16384) (hb : b ≤ 16384) (e1 : w1 = BitVec.ofNat 32 a) (e2 : w2 = BitVec.ofNat 32 b)
    (v0 : BitVec 32) (I : S64x1x256.Idx → BitVec 32) (Sc : S64x1x256.Idx → EReal) (W : S16384x4096.Idx → EReal) (k : Fin (k1_t1_loop w1 w2).trips)
    (inb4 : ∀ x, k1_off4 w1 w2 k x + S1x1x256.size x ≤ S64x1x256.size x) (inb3 : ∀ x, k1_off3 w1 w2 k x + S256x4096.size x ≤ S16384x4096.size x) (y : S1024x4096.Idx) :
    embAdd v0 (View.ld (Val := Elt Ideal) (e' := .i32) I (Rect.unit (s := S64x1x256) (k1_off4 w1 w2 k) S1x1x256.size inb4))
      (View.ld (Val := Elt Ideal) (e' := .f32) Sc (Rect.unit (s := S64x1x256) (k1_off4 w1 w2 k) S1x1x256.size inb4))
      (View.ld (Val := Elt Ideal) (e' := .fp8e5m2) W (Rect.unit (s := S16384x4096) (k1_off3 w1 w2 k) S256x4096.size inb3)) y = embBlk v0 I Sc W (a / 256 + k.val) y := by
  subst e1 e2
  have h := (t1_iv ha hb k).2
  unfold embAdd embBlk
  rw [dif_pos h]
  refine Finset.sum_congr rfl fun x _ => ?_
  have e1 := ld_blk (e' := .i32) I _ _ h (blkOff_eq ha hb k) inb4 x
  have e2 := ld_blk (e' := .f32) Sc _ _ h (blkOff_eq ha hb k) inb4 x
  have e3 := ld_rows (e' := .fp8e5m2) W _ _ h (rowsOff_eq ha hb k) inb3 x (y 1)
  exact congr (congrArg₂ (fun p q => Scalar.select (IntOp.cmpi .eq (IntOp.addi (BitVec.ofNat 32 (y 0).val) v0) p) q) e1 (congrArg₂ (· * ·) e2 e3)) rfl

/-! ## The point's coordinates -/

theorem at1_c : ∀ t : Fin grid1.N, (grid1.coords t 0).val = t.val / 32 := by decide +kernel

variable (V : (c : Dev nD) → (b : Ref sig .tc) → b.ty.Contents (Elt Ideal)) (a : (pcfg1 (F := Ideal)).Adm)

/-- Table word `j`. -/
def tblW (c : Dev nD) (j : ℕ) : ℕ := if h : j < 21 then ((V c main_v11 : Vec Ideal S21 .i32) (Idealize.ShloMosaic.ix1 (⟨j, h⟩ : Fin 21))).toNat else 0

/-- What the selected embedding blocks add to a vocabulary block. -/
def baseT (c : Dev nD) (j : ℕ) (y : S1024x4096.Idx) : EReal :=
  ∑ s ∈ Finset.range (blkEnd (tblW V c j) (tblW V c (j + 1)) - tblW V c j / 256),
    embBlk (Scalar.muli (BitVec.ofNat 32 j) 1024#32) (V c main_v15 : Vec Ideal S64x1x256 .i32) (V c main_v16 : Vec Ideal S64x1x256 .f32) (V c main_arg4 : Vec Ideal S16384x4096 .fp8e5m2) (tblW V c j / 256 + s) y

/-- What token `n` adds at vocabulary word `v` (as the word `vid`) and feature `d`. -/
def tokT (c : Dev nD) (vid : BitVec 32) (v : Fin 20480) (n : Fin 16384) (d : Fin 4096) : EReal :=
  gradAt ((V c main_v0 : Vec Ideal S16384x20480 .bf16) (ix2 n v)) ((V c main_v1 : Vec Ideal S2x16384 .f32) (ix2 (0 : Fin 2) n)) ((V c main_v1 : Vec Ideal S2x16384 .f32) (ix2 (1 : Fin 2) n))
    ((V c main_v13 : Vec Ideal S1x16384 .f32) (ix2 (0 : Fin 1) n)) ((V c main_v12 : Vec Ideal S1x16384 .i32) (ix2 (0 : Fin 1) n)) vid * (V c main_v14 : Vec Ideal S16384x4096 .fp8e4m3) (ix2 n d)

/-- What reduction step `k` adds to vocabulary block `j`. -/
def stepT (c : Dev nD) (j k : ℕ) (y : S1024x4096.Idx) : EReal :=
  if h : j < 20 ∧ k < 32 then ∑ p : Fin 512, tokT V c (vocab j (y 0).val) (⟨j * 1024 + (y 0).val, by have : (y 0).val < 1024 := (y 0).isLt; omega⟩ : Fin 20480) (⟨k * 512 + p.val, by omega⟩ : Fin 16384) (y 1) else 0

theorem acc_step (c : Dev nD) (t : Fin grid1.N) (Z : S1024x4096.Idx → EReal) (y : S1024x4096.Idx) :
    accG Z (gradG (grid1.coords t 0).val (iblk1 V a c 0 t) (iblk1 V a c 1 t) (iblk1 V a c 2 t) (iblk1 V a c 3 t)) (iblk1 V a c 4 t) y
      = Z y + stepT V c (t.val / 32) (t.val % 32) y := by
  have hN : t.val < 640 := lt_of_lt_of_eq t.isLt (show grid1.N = 640 from N_1)
  have hy : (y 0).val < 1024 := (y 0).isLt
  unfold accG stepT
  rw [dif_pos ⟨by omega, by omega⟩]
  refine congrArg (Z y + ·) (Finset.sum_congr rfl fun p _ => ?_)
  have h : t.val % 32 * 512 + p.val < 16384 := by omega
  have h' : t.val / 32 * 1024 + (y 0).val < 20480 := by omega
  unfold tokT
  refine congrArg₂ (· * ·) ?_ (iblk1_4_apply V a c t p (y 1) h)
  unfold gradG
  rw [at1_c t]
  have e0 := iblk1_0_apply V a c t p (y 0) h h'
  have e1 := iblk1_1_apply V a c t 0 p h
  have e1' := iblk1_1_apply V a c t 1 p h
  have e2 := iblk1_2_apply V a c t p h
  have e3 := iblk1_3_apply V a c t p h
  show gradAt ((iblk1 V a c 0 t : Vec Ideal S512x1024 .bf16) (ix2 p (y 0))) ((iblk1 V a c 1 t : Vec Ideal S2x512 .f32) (ix2 0 p)) ((iblk1 V a c 1 t : Vec Ideal S2x512 .f32) (ix2 1 p))
    ((iblk1 V a c 3 t : Vec Ideal S1x512 .f32) (ix2 0 p)) ((iblk1 V a c 2 t : Vec Ideal S1x512 .i32) (ix2 0 p)) (vocab (t.val / 32) (y 0).val) = _
  rw [e0, e1, e1', e2, e3]

variable (hchk : ∀ (c : Dev nD) (i : grid1.Coords) (h : condM i), k1_chk1 i (tblLo c i h (V c main_v11)) (tblHi c i h (V c main_v11)))
variable (hle : ∀ (c : Dev nD) (j : Fin 21), ((V c main_v11 : Vec Ideal S21 .i32) (Idealize.ShloMosaic.ix1 j)).toNat ≤ 16384)

include hle in
theorem outs_first (c : Dev nD) (t : Fin grid1.N) (h0 : t.val % 32 = 0) (y : S1024x4096.Idx) :
    outsAt1 V a hchk c t.val t.isLt y = baseT V c (t.val / 32) y + stepT V c (t.val / 32) (t.val % 32) y := by
  have hN : t.val < 640 := lt_of_lt_of_eq t.isLt (show grid1.N = 640 from N_1)
  rw [outsAt1_A V a hchk c t h0, out1_A_eq, acc_step]
  refine congrArg (· + _) ?_
  have hc := at1_c t
  have hj : t.val / 32 < 21 := by omega
  have hj' : t.val / 32 + 1 < 21 := by omega
  have el : tblLo (F := Ideal) c (grid1.coords t) ((hcondM t).mpr h0) (V c main_v11) = BitVec.ofNat 32 (tblW V c (t.val / 32)) := by
    rw [tblLo_eq c _ _ _ ⟨t.val / 32, hj⟩ hc.symm]; unfold tblW
    rw [dif_pos hj, BitVec.ofNat_toNat, BitVec.setWidth_eq]
  have eh : tblHi (F := Ideal) c (grid1.coords t) ((hcondM t).mpr h0) (V c main_v11) = BitVec.ofNat 32 (tblW V c (t.val / 32 + 1)) := by
    rw [tblHi_eq c _ _ _ ⟨t.val / 32 + 1, hj'⟩ (by rw [hc])]; unfold tblW
    rw [dif_pos hj', BitVec.ofNat_toNat, BitVec.setWidth_eq]
  have hl : tblW V c (t.val / 32) ≤ 16384 := by unfold tblW; rw [dif_pos hj]; exact hle c _
  have hh : tblW V c (t.val / 32 + 1) ≤ 16384 := by unfold tblW; rw [dif_pos hj']; exact hle c _
  have key := baseA c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) scMg (Memref.isWhole_whole _) scMe (Memref.isWhole_whole _) ((hcondM t).mpr h0)
    (iblk1 V a c 0 t) (iblk1 V a c 1 t) (iblk1 V a c 2 t) (iblk1 V a c 3 t) (iblk1 V a c 4 t) (iblk1 V a c 5 t) (iblk1 V a c 6 t) (V c main_arg4) (V c main_v11) (hchk c _ ((hcondM t).mpr h0))
    (fun s => embBlk (Scalar.muli (BitVec.ofNat 32 (grid1.coords t 0).val) 1024#32) (iblk1 V a c 5 t) (iblk1 V a c 6 t) (V c main_arg4) (tblW V c (t.val / 32) / 256 + s))
    (fun k y => emb_trip hl hh el eh _ _ _ _ k _ _ y) y
  refine key.trans ?_
  have etr : (k1_t1_loop (tblLo (F := Ideal) c (grid1.coords t) ((hcondM t).mpr h0) (V c main_v11)) (tblHi (F := Ideal) c (grid1.coords t) ((hcondM t).mpr h0) (V c main_v11))).trips
      = blkEnd (tblW V c (t.val / 32)) (tblW V c (t.val / 32 + 1)) - tblW V c (t.val / 32) / 256 := by
    rw [el, eh]; exact t1_trips hl hh
  rw [etr]
  unfold baseT
  rw [iblk1_5_eq, iblk1_6_eq, hc]

theorem outs_next (c : Dev nD) (t : Fin grid1.N) (h0 : ¬ t.val % 32 = 0) (y : S1024x4096.Idx) :
    outsAt1 V a hchk c t.val t.isLt y = outsAt1 V a hchk c (t.val - 1) (Nat.lt_of_le_of_lt (Nat.sub_le _ _) t.isLt) y + stepT V c (t.val / 32) (t.val % 32) y := by
  rw [outsAt1_B V a hchk c t h0, out1_B_eq, acc_step]

include hle in
theorem outs_eq (c : Dev nD) : ∀ (n : ℕ) (hn : n < grid1.N) (y : S1024x4096.Idx),
    outsAt1 V a hchk c n hn y = baseT V c (n / 32) y + ∑ k ∈ Finset.range (n % 32 + 1), stepT V c (n / 32) k y := by
  intro n
  induction n with
  | zero =>
    intro hn y
    refine (outs_first V a hchk hle c ⟨0, hn⟩ rfl y).trans ?_
    show baseT V c (0 / 32) y + stepT V c (0 / 32) (0 % 32) y = _
    rw [Nat.zero_mod, Finset.sum_range_one]
  | succ n ih =>
    intro hn y
    by_cases h0 : (n + 1) % 32 = 0
    · refine (outs_first V a hchk hle c ⟨n + 1, hn⟩ h0 y).trans ?_
      show baseT V c ((n + 1) / 32) y + stepT V c ((n + 1) / 32) ((n + 1) % 32) y = _
      rw [h0, Finset.sum_range_one]
    · refine (outs_next V a hchk c ⟨n + 1, hn⟩ h0 y).trans ?_
      show outsAt1 V a hchk c n _ y + stepT V c ((n + 1) / 32) ((n + 1) % 32) y = _
      have hd : n / 32 = (n + 1) / 32 := by omega
      have hm : (n + 1) % 32 = n % 32 + 1 := by omega
      rw [ih (Nat.lt_of_succ_lt hn) y, hm, Finset.sum_range_succ _ (n % 32 + 1), hd, add_assoc]

/-- The result: the embedding rows, then every token's product. -/
def resG (c : Dev nD) (y : S20480x4096.Idx) : EReal :=
  baseT V c ((y 0).val / 1024) (ix2 (⟨(y 0).val % 1024, Nat.mod_lt _ (by decide)⟩ : Fin 1024) (y 1))
    + ∑ n : Fin 16384, tokT V c (vocab ((y 0).val / 1024) ((y 0).val % 1024)) (y 0) n (y 1)

theorem steps_eq (c : Dev nD) (j r : ℕ) (y : S1024x4096.Idx) (v : Fin 20480) (hr : (y 0).val = r) (hv : v.val = j * 1024 + r) :
    ∑ k ∈ Finset.range 32, stepT V c j k y = ∑ n : Fin 16384, tokT V c (vocab j r) v n (y 1) := by
  have hy : (y 0).val < 1024 := (y 0).isLt
  have hj : j < 20 := by have := v.isLt; omega
  rw [Finset.sum_range, Fin.sum_univ_tiles 32 512 rfl]
  refine Finset.sum_congr rfl fun k _ => ?_
  unfold stepT
  rw [dif_pos ⟨hj, k.isLt⟩]
  refine Finset.sum_congr rfl fun p _ => ?_
  subst hr
  have e : (⟨j * 1024 + (y 0).val, by omega⟩ : Fin 20480) = v := Fin.ext hv.symm
  exact congrArg (fun v => tokT V c (vocab j (y 0).val) v _ (y 1)) e

/-- Every block of the result is written at the last step of its row of steps. -/
theorem covers1_7 : ((cfg1 a).win 7).Covers := by
  refine ⟨fun (b : Fin 2) => ?_, fun β => ?_⟩
  · match b with
    | 0 => exact (by decide : 0 < 1024)
    | 1 => exact (by decide : 0 < 4096)
  · have h0 : (β (0 : Fin 2)).val < 20 := lt_of_lt_of_eq (β (0 : Fin 2)).isLt (show (20480 + 1024 - 1) / 1024 = 20 by norm_num)
    have h1 : (β (1 : Fin 2)).val < 1 := lt_of_lt_of_eq (β (1 : Fin 2)).isLt (show (4096 + 4096 - 1) / 4096 = 1 by norm_num)
    have hN : grid1.N = 640 := N_1
    refine ⟨⟨(β (0 : Fin 2)).val * 32 + 31, by rw [hN]; omega⟩, (flush1_7 a _).mpr (by show ((β (0 : Fin 2)).val * 32 + 31) % 32 = 31; omega), fun (b : Fin 2) => ?_⟩
    rw [idx1_7]
    match b with
    | 0 => exact ⟨(by show ((β (0 : Fin 2)).val * 32 + 31) / 32 = (β (0 : Fin 2)).val; omega), Or.inl rfl⟩
    | 1 => exact ⟨(by show 0 = (β (1 : Fin 2)).val; omega), Or.inl rfl⟩

include hle in
theorem arr_eq (c : Dev nD) : (dat1 V a hchk c).arrAt 7 grid1.N = (resG V c : Vec Ideal S20480x4096 .f32) := by
  refine (dat1 V a hchk c).arrAt_eq_of_covers 7 _ (covers1_7 a) fun t hf => ?_
  intro (y : S1024x4096.Idx)
  have hN : t.val < 640 := lt_of_lt_of_eq t.isLt (show grid1.N = 640 from N_1)
  have h31 : t.val % 32 = 31 := (flush1_7 a t).mp hf
  blk_simp
  show (outsAt1 V a hchk c t.val t.isLt : Vec Ideal S1024x4096 .f32) y = _
  rw [outs_eq V a hchk hle c t.val t.isLt y, h31]
  have hx : (pcfg1.win a 7).index t = ![t.val / 32, 0] := at1_7 t
  have hy : (y (0 : Fin 2)).val < 1024 := (y (0 : Fin 2)).isLt
  have e0 : (((pcfg1.win a 7).blk t).view.emb y (0 : Fin 2)).val = t.val / 32 * 1024 + (y (0 : Fin 2)).val := by blk_simp [hx]
  have e1 : ((pcfg1.win a 7).blk t).view.emb y (1 : Fin 2) = y (1 : Fin 2) := Fin.ext (by blk_simp [hx])
  have hd : (((pcfg1.win a 7).blk t).view.emb y (0 : Fin 2)).val / 1024 = t.val / 32 := by rw [e0]; omega
  have hm : (((pcfg1.win a 7).blk t).view.emb y (0 : Fin 2)).val % 1024 = (y (0 : Fin 2)).val := by rw [e0]; omega
  show _ = resG V c (((pcfg1.win a 7).blk t).view.emb y)
  refine (congrArg (_ + ·) (steps_eq V c (t.val / 32) (y (0 : Fin 2)).val y (((pcfg1.win a 7).blk t).view.emb y (0 : Fin 2)) rfl e0)).trans ?_
  unfold resG
  rw [hd, e1]
  refine congrArg₂ (· + ·) (congrArg (baseT V c (t.val / 32)) ?_) (by rw [hm])
  funext (b : Fin 2)
  match b with
  | 0 => exact Fin.ext hm.symm
  | 1 => rfl

end Cert.KernelIdeal.Hand
-- ==== Proof.HeadEq.lean ====
/-
  One token's part of the result, over the extended reals: what the kernel adds is what the reference adds, when the token's
  logits and its scale are real numbers.
-/
module

public import proofs.«01_k».proof.Proof.MainPoint
public import Idealize.ShloMosaic.Lib.WordCmp

@[expose] public section

noncomputable section

namespace Cert.KernelIdeal.Hand

open Idealize.ShloMosaic Idealize.ShloMosaic.WordCmp

/-- The kernel's exponential of a real number. -/
theorem ker_exp_coe (z : ℝ) : ker_exp (z : EReal) = ((Real.exp z : ℝ) : EReal) := by
  unfold ker_exp
  have e : log2e = (((Real.log 2)⁻¹ : ℝ) : EReal) := rfl
  rw [e, ← EReal.coe_mul]
  show Ideal.exp2 _ = _
  rw [Ideal.exp2_coe]
  refine congrArg _ ?_
  show (2 : ℝ) ^ (z * (Real.log 2)⁻¹) = _
  rw [Real.rpow_def_of_pos (by norm_num)]
  refine congrArg Real.exp ?_
  have : Real.log 2 ≠ 0 := (Real.log_pos (by norm_num)).ne'
  field_simp

/-- A sum of real numbers, over the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem bit_cases (b : BitVec 1) : b = 0#1 ∨ b = 1#1 := by
  revert b; decide

theorem token_eq {N : ℕ} [NeZero N] (l : Fin N → EReal) (hl : ∀ v, ∃ r : ℝ, l v = r) (xs : EReal) (hx : ∃ r : ℝ, xs = r) (lab vid : BitVec 32) (v : Fin N) (X B : EReal) (hB : B = ⊥) :
    gradAt (l v) (Finset.univ.sup l) (Ideal.div 1 (∑ u, ker_exp (l u - Finset.univ.sup l))) xs lab vid * X
      = ((Ideal.div (Ideal.exp (l v - max B (Finset.univ.sup l))) (∑ u, Ideal.exp (l u - max B (Finset.univ.sup l)))
          - (((IntOp.cmpi .eq lab vid).toNat : ℝ) : EReal)) * (((IntOp.cmpi .sge lab 0#32).toNat : ℝ) : EReal)) * (X * xs) := by
  obtain ⟨x, rfl⟩ := hx
  obtain ⟨i, -, hi⟩ := Finset.exists_mem_eq_sup Finset.univ Finset.univ_nonempty l
  rw [hi, hB, max_eq_right bot_le]
  choose g hg using hl
  simp only [hg, ← EReal.coe_sub, ker_exp_coe, Ideal.exp_coe, coe_sum]
  generalize hS : ∑ u, Real.exp (g u - g i) = S
  have hSp : 0 < S := by rw [← hS]; exact Finset.sum_pos (fun u _ => Real.exp_pos _) Finset.univ_nonempty
  have hS0 : ((S : ℝ) : EReal) ≠ 0 := by
    intro h; exact hSp.ne' (EReal.coe_eq_zero.mp h)
  have hd : ∀ y : EReal, Ideal.div y (S : EReal) = y * ((S⁻¹ : ℝ) : EReal) := by
    intro y
    unfold Ideal.div
    rw [if_neg hS0, EReal.coe_inv]
  rw [hd, hd, one_mul]
  have hsym : IntOp.cmpi .eq vid lab = IntOp.cmpi .eq lab vid := by
    rw [cmpi_eq_eq, cmpi_eq_eq]; simp only [eq_comm]
  unfold gradAt
  rw [hsym, ← EReal.coe_sub, ker_exp_coe]
  rcases bit_cases (IntOp.cmpi .sge lab 0#32) with h1 | h1 <;> rcases bit_cases (IntOp.cmpi .eq lab vid) with h2 | h2 <;> rw [h1, h2]
  · simp [Scalar.select]
  · simp [Scalar.select]
  · have e : (Scalar.select 1#1 (((Real.exp (g v - g i) : ℝ) : EReal) * (((S⁻¹ : ℝ) : EReal) * (x : EReal))) 0 - Scalar.select 0#1 (Scalar.select 1#1 (x : EReal) 0) 0) = ((Real.exp (g v - g i) * S⁻¹ * x : ℝ) : EReal) := by
      simp [Scalar.select, mul_assoc]
    rw [e]
    simp only [EReal.coe_mul]
    simp
    ac_rfl
  · have e : (Scalar.select 1#1 (((Real.exp (g v - g i) : ℝ) : EReal) * (((S⁻¹ : ℝ) : EReal) * (x : EReal))) 0 - Scalar.select 1#1 (Scalar.select 1#1 (x : EReal) 0) 0) = (((Real.exp (g v - g i) * S⁻¹ - 1) * x : ℝ) : EReal) := by
      show ((Real.exp (g v - g i) : ℝ) : EReal) * (((S⁻¹ : ℝ) : EReal) * (x : EReal)) - (x : EReal) = _
      rw [← EReal.coe_mul, ← EReal.coe_mul, ← EReal.coe_sub]
      congr 1; ring
    have e' : ((((Real.exp (g v - g i) : ℝ) : EReal) * ((S⁻¹ : ℝ) : EReal) - (((1#1 : BitVec 1).toNat : ℝ) : EReal)) * (((1#1 : BitVec 1).toNat : ℝ) : EReal)) = ((Real.exp (g v - g i) * S⁻¹ - 1 : ℝ) : EReal) := by
      rw [← EReal.coe_mul, ← EReal.coe_sub, ← EReal.coe_mul]
      congr 1; simp
    rw [e, e', EReal.coe_mul]
    ac_rfl

end Cert.KernelIdeal.Hand
-- ==== Proof.EmbEq.lean ====
/-
  The embedding part of one entry of the result: with the ids in ascending order, the blocks the kernel visits hold every
  position of the entry's id.
-/
module

public import proofs.«01_k».proof.Proof.MainArray
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.ShloMosaic.Pointwise Idealize.ShloMosaic.WordCmp

/-- How many ids are below `n`. -/
def below (ids : Fin 16384 → BitVec 32) (n : ℤ) : ℕ := (Finset.univ.filter fun i => (ids i).toInt < n).card

theorem below_le_pos (ids : Fin 16384 → BitVec 32) (hs : ∀ i j, i ≤ j → (ids i).toInt ≤ (ids j).toInt) (n : ℤ) (i : Fin 16384) (hi : n ≤ (ids i).toInt) : below ids n ≤ i.val := by
  unfold below
  calc _ ≤ (Finset.Iio i).card := Finset.card_le_card fun k hk => by
        rw [Finset.mem_Iio]
        by_contra h
        have h1 := hs i k (not_lt.mp h)
        have h2 := (Finset.mem_filter.mp hk).2
        omega
    _ = i.val := Fin.card_Iio i

theorem pos_lt_below (ids : Fin 16384 → BitVec 32) (hs : ∀ i j, i ≤ j → (ids i).toInt ≤ (ids j).toInt) (n : ℤ) (i : Fin 16384) (hi : (ids i).toInt < n) : i.val < below ids n := by
  unfold below
  refine Nat.lt_of_succ_le ?_
  calc i.val + 1 = (Finset.Iic i).card := (Fin.card_Iic i).symm
    _ ≤ _ := Finset.card_le_card fun k hk => by
        rw [Finset.mem_filter]
        refine ⟨Finset.mem_univ _, lt_of_le_of_lt (hs k i (Finset.mem_Iic.mp hk)) hi⟩

/-- A sum block by block is the sum over the positions the blocks hold. -/
theorem sum_blocks (f : ℕ → EReal) (p K : ℕ) : ∑ s ∈ Finset.range K, ∑ x : Fin 256, f ((p + s) * 256 + x.val) = ∑ i ∈ Finset.Ico (p * 256) ((p + K) * 256), f i := by
  induction K with
  | zero => simp
  | succ K ih =>
    rw [Finset.sum_range_succ, ih, show (p + (K + 1)) * 256 = (p + K) * 256 + 256 by ring,
      ← Finset.sum_Ico_consecutive f (show p * 256 ≤ (p + K) * 256 by gcongr; omega) (show (p + K) * 256 ≤ (p + K) * 256 + 256 by omega)]
    refine congrArg (_ + ·) ?_
    rw [Finset.sum_Ico_eq_sum_range, Nat.add_sub_cancel_left, Finset.sum_range]

/-- The word of a vocabulary entry. -/
theorem vocab_eq (j r : ℕ) : vocab j r = BitVec.ofNat 32 (j * 1024 + r) := by
  unfold vocab
  show BitVec.ofNat 32 r + BitVec.ofNat 32 j * 1024#32 = _
  rw [BitVec.add_comm, BitVec.ofNat_add, BitVec.ofNat_mul]

theorem word_eq_iff (n : ℕ) (hn : n < 20480) (w : BitVec 32) : BitVec.ofNat 32 n = w ↔ w.toInt = (n : ℤ) := by
  have e : (BitVec.ofNat 32 n).toInt = (n : ℤ) := by
    rw [BitVec.toInt_eq_toNat_of_lt (by rw [BitVec.toNat_ofNat]; omega), BitVec.toNat_ofNat]
    omega
  rw [← e, eq_comm, BitVec.toInt_inj]

theorem emb_eq (ids : Fin 16384 → BitVec 32) (hs : ∀ i j, i ≤ j → (ids i).toInt ≤ (ids j).toInt)
    (I : S64x1x256.Idx → BitVec 32) (Sc : S64x1x256.Idx → EReal) (W : S16384x4096.Idx → EReal) (sc : Fin 16384 → EReal)
    (hI : ∀ (B : Fin 64) (x : Fin 256) (i : Fin 16384), i.val = B.val * 256 + x.val → I (ix3 B (0 : Fin 1) x) = ids i)
    (hSc : ∀ (B : Fin 64) (x : Fin 256) (i : Fin 16384), i.val = B.val * 256 + x.val → Sc (ix3 B (0 : Fin 1) x) = sc i)
    (j r : ℕ) (v : Fin 20480) (hv : v.val = j * 1024 + r) (hr : r < 1024) (y : S1024x4096.Idx) (hy : (y 0).val = r)
    (a b : ℕ) (ha : a = below ids (j * 1024 : ℕ)) (hb : b = below ids ((j + 1) * 1024 : ℕ)) :
    ∑ s ∈ Finset.range (blkEnd a b - a / 256), embBlk (Scalar.muli (BitVec.ofNat 32 j) 1024#32) I Sc W (a / 256 + s) y
      = ∑ i : Fin 16384, if (ids i).toInt = (v.val : Int) then W (ix2 i (y 1)) * sc i else 0 := by
  have ha' : a ≤ 16384 := by rw [ha]; unfold below; exact (Finset.card_le_univ _).trans (by simp)
  have hb' : b ≤ 16384 := by rw [hb]; unfold below; exact (Finset.card_le_univ _).trans (by simp)
  have hbd := blkEnd_bounds ha' hb'
  have hvv := v.isLt
  let f : ℕ → EReal := fun i => if h : i < 16384 then (if (ids ⟨i, h⟩).toInt = (v.val : Int) then W (ix2 (⟨i, h⟩ : Fin 16384) (y 1)) * sc ⟨i, h⟩ else 0) else 0
  have e1 : ∀ s ∈ Finset.range (blkEnd a b - a / 256), embBlk (Scalar.muli (BitVec.ofNat 32 j) 1024#32) I Sc W (a / 256 + s) y = ∑ x : Fin 256, f ((a / 256 + s) * 256 + x.val) := by
    intro s hsr
    have hs' : a / 256 + s < 64 := by have := Finset.mem_range.mp hsr; omega
    unfold embBlk
    rw [dif_pos hs']
    refine Finset.sum_congr rfl fun x _ => ?_
    have hx : (a / 256 + s) * 256 + x.val < 16384 := by omega
    show _ = dite _ _ _
    rw [dif_pos hx, hI ⟨_, hs'⟩ x ⟨_, hx⟩ rfl, hSc ⟨_, hs'⟩ x ⟨_, hx⟩ rfl]
    have ew : IntOp.addi (BitVec.ofNat 32 (y 0).val) (Scalar.muli (BitVec.ofNat 32 j) 1024#32) = BitVec.ofNat 32 v.val := by
      rw [hy, hv]; exact vocab_eq j r
    rw [ew, cmpi_eq_eq, select_ofBool]
    simp only [decide_eq_true_eq, word_eq_iff _ hvv]
    split_ifs
    · exact mul_comm _ _
    · rfl
  rw [Finset.sum_congr rfl e1, sum_blocks]
  have e2 : (∑ i : Fin 16384, if (ids i).toInt = (v.val : Int) then W (ix2 i (y 1)) * sc i else 0) = ∑ i ∈ Finset.range 16384, f i := by
    rw [Finset.sum_range]
    refine Finset.sum_congr rfl fun i _ => ?_
    show _ = dite _ _ _
    rw [dif_pos i.isLt]
  rw [e2]
  refine Finset.sum_subset ?_ ?_
  · intro i hi
    have := Finset.mem_Ico.mp hi
    rw [Finset.mem_range]
    omega
  · intro i hi hn
    have hi' := Finset.mem_range.mp hi
    show dite _ _ _ = _
    rw [dif_pos hi']
    refine if_neg fun he => hn ?_
    have h1 := below_le_pos ids hs (j * 1024 : ℕ) ⟨i, hi'⟩ (by rw [he, hv]; push_cast; omega)
    have h2 := pos_lt_below ids hs ((j + 1) * 1024 : ℕ) ⟨i, hi'⟩ (by rw [he, hv]; push_cast; omega)
    rw [← ha] at h1
    rw [← hb] at h2
    have h1' : a ≤ i := h1
    have h2' : i < b := h2
    rw [Finset.mem_Ico]
    unfold blkEnd at hbd ⊢
    rw [if_pos (by omega)] at hbd ⊢
    omega

end Cert.KernelIdeal.Hand
-- ==== Proof.RefRun.lean ====
/-
  The reference's result as its operations' composed term over the argument arrays.
-/
module

public import proofs.«01_k».proof.Proof.Gen.ReferenceIdeal.Frame
public import Idealize.ShloMosaic.Lib.StableHlo.RunRead
public import Idealize.ShloMosaic.Lib.Pointwise
public import Idealize.ShloMosaic.Lib.Pipeline.ValueKit

@[expose] public section

set_option maxRecDepth 16384

noncomputable section

namespace Cert.ReferenceIdeal.Hand

open Cert.ReferenceIdeal.Gen
open Idealize.ShloMosaic Idealize.ShloMosaic.TcCoe Idealize.ShloMosaic.Tactic
open Idealize.ShloMosaic.Pointwise

variable (m : (ℓ : Loc nD τ sig) → Buf (Elt Ideal) ℓ)

/-- Each row's largest logit. -/
def maxOf (L : FVec Ideal S8x2048x20480 .bf16) : FVec Ideal S8x2048 .f32 :=
  Host.reduce FloatOps.maximumf (extf .f32 L bitsLt_bf16_f32) (constant S_ .f32 0xFF800000#32) reducesTo_S8x2048x20480_S8x2048_d2 h_S_

/-- The logits less their row's maximum, exponentiated. -/
def expOf (L : FVec Ideal S8x2048x20480 .bf16) : FVec Ideal S8x2048x20480 .f32 :=
  Host.exp (subf (extf .f32 L bitsLt_bf16_f32) (broadcastInDim S8x2048x20480 ![0, 1, 2] bcast_S8x2048x1_S8x2048x20480_0_1_2
    (broadcastInDim S8x2048x1 ![0, 1] bcast_S8x2048_S8x2048x1_0_1
      (maximumf (broadcastInDim S8x2048 ![] bcast_S_S8x2048 (constant S_ .f32 0xFF800000#32)) (maxOf L)))))

/-- The labels as rows with a single one. -/
def hotOf (lab : IVec S8x2048 32) : FVec Ideal S8x2048x20480 .f32 :=
  uitofp .f32 (cmpi .eq (broadcastInDim S8x2048x20480 ![0, 1, 2] bcast_S8x2048x1_S8x2048x20480_0_1_2 (broadcastInDim S8x2048x1 ![0, 1] bcast_S8x2048_S8x2048x1_0_1 lab))
    (broadcastInDim S8x2048x20480 ![0, 1, 2] bcast_S1x1x20480_S8x2048x20480_0_1_2 (iotaInDim S1x1x20480 32 2)))

/-- The probabilities less the labels' ones, zero at a token whose label is negative. -/
def gradOf (L : FVec Ideal S8x2048x20480 .bf16) (lab : IVec S8x2048 32) : FVec Ideal S8x2048x20480 .bf16 :=
  truncf .bf16 (mulf (subf (Host.divf (expOf L) (broadcastInDim S8x2048x20480 ![0, 1, 2] bcast_S8x2048x1_S8x2048x20480_0_1_2
      (broadcastInDim S8x2048x1 ![0, 1] bcast_S8x2048_S8x2048x1_0_1
        (Host.reduceAdd (expOf L) (constant S_ .f32 0#32) reducesTo_S8x2048x20480_S8x2048_d2 h_S_)))) (hotOf lab))
    (broadcastInDim S8x2048x20480 ![0, 1, 2] bcast_S8x2048x1_S8x2048x20480_0_1_2 (uitofp .f32
      (broadcastInDim S8x2048x1 ![0, 1] bcast_S8x2048_S8x2048x1_0_1
        (cmpi .sge lab (broadcastInDim S8x2048 ![] bcast_S_S8x2048 (constantI S_ 32 0#32))))))) bitsLt_bf16_f32

/-- The activations times their scales. -/
def actOf (X : FVec Ideal S8x2048x4096 .bf16) (xs : FVec Ideal S8x2048 .f32) : FVec Ideal S8x2048x4096 .bf16 :=
  mulf X (broadcastInDim S8x2048x4096 ![0, 1, 2] bcast_S8x2048x1_S8x2048x4096_0_1_2
    (broadcastInDim S8x2048x1 ![0, 1] bcast_S8x2048_S8x2048x1_0_1 (truncf .bf16 xs bitsLt_bf16_f32)))

/-- The product over all tokens. -/
def headOf (G : FVec Ideal S8x2048x20480 .bf16) (Y : FVec Ideal S8x2048x4096 .bf16) : FVec Ideal S20480x4096 .f32 :=
  Host.dotGeneral dot_S8x2048x20480_S8x2048x4096_S20480x4096_01_01_2_2_n_n .none G Y

/-- The embedding gradient's rows, each added at its id. -/
def embOf (E : FVec Ideal S16384x4096 .f32) (es : FVec Ideal S16384 .f32) (ids : IVec S16384 32) : FVec Ideal S20480x4096 .f32 :=
  Host.scatterAdd scatter_S20480x4096_S16384x1_S16384x4096_1_0_0_1 (broadcastInDim S20480x4096 ![] bcast_S_S20480x4096 (constant S_ .f32 0#32))
    (broadcastInDim S16384x1 ![0] bcast_S16384_S16384x1_0 ids)
    (mulf E (broadcastInDim S16384x4096 ![0, 1] bcast_S16384x1_S16384x4096_0_1 (broadcastInDim S16384x1 ![0] bcast_S16384_S16384x1_0 es)))

theorem V0_v20 (c : Dev nD) : V0 m c (Proc.devRef .tc main_v20) = gradOf (m ((c : Thread nD τ).loc main_arg0)) (m ((c : Thread nD τ).loc main_arg1)) := by
  unfold V0
  after_reads_simp
  rfl

/-- The first widened array is its operand. -/
theorem out0_2_eq (x0 : Vec Ideal S8x2048x4096 .fp8e4m3) (x1 : Vec Ideal S16384x4096 .fp8e5m2) (y : S8x2048x4096.Idx) : out0_2 x0 x1 y = (x0 y : EReal) := by
  unfold out0_2 r0_0
  rw [View.canon_unit_zero (by decide)]
  unfold k0_pay1
  show x0 _ = x0 y
  exact congrArg x0 (by idx_ext)

/-- The second widened array is its operand. -/
theorem out0_3_eq (x0 : Vec Ideal S8x2048x4096 .fp8e4m3) (x1 : Vec Ideal S16384x4096 .fp8e5m2) (y : S16384x4096.Idx) : out0_3 x0 x1 y = (x1 y : EReal) := by
  unfold out0_3 r0_1
  rw [View.canon_unit_zero (by decide)]
  unfold k0_pay2
  show x1 _ = x1 y
  exact congrArg x1 (by idx_ext)

/-- The widened activations. -/
theorem arr2 (c : Dev nD) : (dats m 0 c).arrAt 2 cfg0.N = (m ((c : Thread nD τ).loc main_arg2) : S8x2048x4096.Idx → EReal) := by
  refine (dats m 0 c).arrAt_eq_of_covers 2 _ (by decide +kernel) fun t hf y => ?_
  blk_simp
  rw [after0_2]
  refine (out0_2_eq _ _ y).trans ?_
  rw [← V_main_arg2 m c]
  blk_ext [iblk] <;> rfl

/-- The widened embedding gradient. -/
theorem arr3 (c : Dev nD) : (dats m 0 c).arrAt 3 cfg0.N = (m ((c : Thread nD τ).loc main_arg4) : S16384x4096.Idx → EReal) := by
  refine (dats m 0 c).arrAt_eq_of_covers 3 _ (by decide +kernel) fun t hf y => ?_
  blk_simp
  rw [after0_3]
  refine (out0_3_eq _ _ y).trans ?_
  rw [← V_main_arg4 m c]
  blk_ext [iblk] <;> rfl

theorem tail_v33 (c : Dev nD) : Pipeline.afterTail₀ cfgs (dats m) 0 (V0 m) [hostOps1] c main_v33 =
    addf (headOf (gradOf (m ((c : Thread nD τ).loc main_arg0)) (m ((c : Thread nD τ).loc main_arg1)))
        (actOf (m ((c : Thread nD τ).loc main_arg2) : S8x2048x4096.Idx → EReal) (m ((c : Thread nD τ).loc main_arg3))))
      (embOf (m ((c : Thread nD τ).loc main_arg4) : S16384x4096.Idx → EReal) (m ((c : Thread nD τ).loc main_arg5)) (m ((c : Thread nD τ).loc main_arg6))) := by
  unfold Pipeline.afterTail₀
  simp only [List.flatten_cons, List.flatten_nil, List.append_nil]
  after_reads_simp
  have e0 : Pipeline.withArrays (cfgs 0).spec c (V0 m c) (fun w => (dats m 0 c).arrAt w (cfgs 0).N) (Proc.devRef .tc main_v21_0) = (m ((c : Thread nD τ).loc main_arg2) : S8x2048x4096.Idx → EReal) :=
    (Pipeline.withArrays_arr spec0 launch0.win.arr_inj c (V0 m c) (fun w => (dats m 0 c).arrAt w cfg0.N) 2).trans (arr2 m c)
  have e1 : Pipeline.withArrays (cfgs 0).spec c (V0 m c) (fun w => (dats m 0 c).arrAt w (cfgs 0).N) (Proc.devRef .tc main_v21_1) = (m ((c : Thread nD τ).loc main_arg4) : S16384x4096.Idx → EReal) :=
    (Pipeline.withArrays_arr spec0 launch0.win.arr_inj c (V0 m c) (fun w => (dats m 0 c).arrAt w cfg0.N) 3).trans (arr3 m c)
  have e20 : Pipeline.withArrays (cfgs 0).spec c (V0 m c) (fun w => (dats m 0 c).arrAt w (cfgs 0).N) (Proc.devRef .tc main_v20) = _ :=
    (Pipeline.withArrays_of_ne spec0 c (V0 m c) (fun w => (dats m 0 c).arrAt w cfg0.N) main_v20 (by decide)).trans (V0_v20 m c)
  have a3 : Pipeline.withArrays (cfgs 0).spec c (V0 m c) (fun w => (dats m 0 c).arrAt w (cfgs 0).N) (Proc.devRef .tc main_arg3) = _ :=
    (Pipeline.withArrays_of_ne spec0 c (V0 m c) (fun w => (dats m 0 c).arrAt w cfg0.N) main_arg3 (by decide)).trans (V_main_arg3 m c)
  have a5 : Pipeline.withArrays (cfgs 0).spec c (V0 m c) (fun w => (dats m 0 c).arrAt w (cfgs 0).N) (Proc.devRef .tc main_arg5) = _ :=
    (Pipeline.withArrays_of_ne spec0 c (V0 m c) (fun w => (dats m 0 c).arrAt w cfg0.N) main_arg5 (by decide)).trans (V_main_arg5 m c)
  have a6 : Pipeline.withArrays (cfgs 0).spec c (V0 m c) (fun w => (dats m 0 c).arrAt w (cfgs 0).N) (Proc.devRef .tc main_arg6) = _ :=
    (Pipeline.withArrays_of_ne spec0 c (V0 m c) (fun w => (dats m 0 c).arrAt w cfg0.N) main_arg6 (by decide)).trans (V_main_arg6 m c)
  rw [e0, e1, e20, a3, a5, a6]
  rfl

end Cert.ReferenceIdeal.Hand
-- ==== Proof.RefValue.lean ====
/-
  The reference's result at an index, over the extended reals.
-/
module

public import proofs.«01_k».proof.Proof.RefRun
public import Idealize.ShloMosaic.Lib.StableHlo.RunRead
public import Idealize.ShloMosaic.Lib.Pointwise
public import Idealize.ShloMosaic.Lib.Routing.OpsPair

@[expose] public section

set_option maxRecDepth 16384

noncomputable section

namespace Cert.ReferenceIdeal.Hand

open Cert.ReferenceIdeal.Gen
open Idealize.ShloMosaic Idealize.ShloMosaic.TcCoe Idealize.ShloMosaic.Tactic
open Idealize.ShloMosaic.Pointwise

/-! ## A scatter of whole rows -/

/-- Entry `(i, b)` of the updates lands at `(r, d)` exactly when row `i`'s index, read signed, is `r` and `b` is `d`. -/
theorem scatter_rows {R C N : ℕ} (D : ScatterDims (⟨2, ![R, C]⟩ : Shape) (⟨2, ![N, 1]⟩ : Shape) (⟨2, ![N, C]⟩ : Shape)) (huw : D.updateWindowDims = [1]) (hiw : D.insertedWindowDims = [0])
    (hsd : D.scatterDimsToOperandDims = [0]) (hivd : D.indexVectorDim = 1) (idx : IVec (⟨2, ![N, 1]⟩ : Shape) 32) (i : Fin N) (b : Fin C) (r : Fin R) (d : Fin C) :
    D.resultIdx? (ix2 i b) idx = some (ix2 r d) ↔ (idx (ix2 i (0 : Fin 1))).toInt = (r.val : Int) ∧ b = d := by
  have hk : D.sKept = [1] := by
    show (⟨2, ![R, C]⟩ : Shape).kept D.insertedWindowDims = _
    rw [hiw]; rfl
  have hu : D.uScatter = [0] := by
    show (⟨2, ![N, C]⟩ : Shape).kept D.updateWindowDims = _
    rw [huw]; rfl
  have e : ∀ (l : List (Fin 2)) (n : ℕ) (h : n < l.length) (q : Fin 2), l = [q] → l[n]'h = q := by
    intro l n h q hl
    subst hl
    have : n = 0 := by simpa using h
    subst this
    rfl
  have hw0 : D.window (ix2 i b) 0 = 0 := by
    unfold ScatterDims.window
    rw [dif_neg (by rw [hk]; show (0 : Fin 2) ∉ ([1] : List (Fin 2)); decide)]
  have hw1 : D.window (ix2 i b) 1 = b.val := by
    unfold ScatterDims.window
    rw [dif_pos (by rw [hk]; show (1 : Fin 2) ∈ ([1] : List (Fin 2)); decide), e _ _ _ 1 huw]
    rfl
  have hm : (0 : Fin 2) ∈ D.scatterDimsToOperandDims := by rw [hsd]; exact List.mem_singleton.2 rfl
  have hs1 : D.start (ix2 i b) idx 1 = 0 := by
    unfold ScatterDims.start
    rw [dif_neg (by rw [hsd]; show (1 : Fin 2) ∉ ([0] : List (Fin 2)); decide)]
  have hs0 : D.start (ix2 i b) idx 0 = (idx (ix2 i (0 : Fin 1))).toInt := by
    unfold ScatterDims.start
    rw [dif_pos hm]
    have hsi : D.siIdx (ix2 i b) ⟨D.scatterDimsToOperandDims.idxOf 0, List.idxOf_lt_length_iff.2 hm⟩ = ix2 i (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        rw [e _ _ _ 0 hu]
        rfl
      | ⟨1, _⟩ =>
        unfold ScatterDims.siIdx
        rw [dif_pos (by rw [hivd])]
        show List.idxOf (0 : Fin 2) D.scatterDimsToOperandDims = 0
        rw [hsd]; simp
    rw [hsi]
  refine (Routing.resultIdx?_ix2 D (ix2 i b) idx r d).trans ?_
  rw [hs0, hs1, hw0, hw1, Fin.ext_iff]
  omega

/-- A scatter of rows with addition, at an entry: the rows whose index is that entry's row. -/
theorem scatterAdd_rows {R C N : ℕ} (D : ScatterDims (⟨2, ![R, C]⟩ : Shape) (⟨2, ![N, 1]⟩ : Shape) (⟨2, ![N, C]⟩ : Shape)) (huw : D.updateWindowDims = [1]) (hiw : D.insertedWindowDims = [0])
    (hsd : D.scatterDimsToOperandDims = [0]) (hivd : D.indexVectorDim = 1) (x : FVec Ideal (⟨2, ![R, C]⟩ : Shape) .f32) (idx : IVec (⟨2, ![N, 1]⟩ : Shape) 32) (u : FVec Ideal (⟨2, ![N, C]⟩ : Shape) .f32)
    (r : Fin R) (d : Fin C) :
    Host.scatterAdd D x idx u (ix2 r d) = x (ix2 r d) + ∑ i : Fin N, if (idx (ix2 i (0 : Fin 1))).toInt = (r.val : Int) then u (ix2 i d) else 0 := by
  show x (ix2 r d) + _ = _
  congr 1
  rw [Finset.sum_filter, sum_idx2]
  refine Finset.sum_congr rfl fun i _ => ?_
  simp only [scatter_rows D huw hiw hsd hivd]
  by_cases h : (idx (ix2 i (0 : Fin 1))).toInt = (r.val : Int)
  · simp [h]
  · simp [h]

/-- A row's fold with the larger of two, at an entry. -/
theorem rowMax_gen {A B C : ℕ} (x : FVec Ideal (⟨3, ![A, B, C]⟩ : Shape) .f32) (init : FVec Ideal (⟨0, ![]⟩ : Shape) .f32) (h : (⟨3, ![A, B, C]⟩ : Shape).ReducesTo [2] (⟨2, ![A, B]⟩ : Shape))
    (hu : 0 < (⟨0, ![]⟩ : Shape).numel) (b : Fin A) (s : Fin B) :
    Host.reduce FloatOps.maximumf x init h hu (ix2 b s) = Finset.univ.fold max (init (Shape.Idx.first hu) : EReal) (fun v : Fin C => x (ix3 b s v)) := by
  pointwise

/-- A row's sum at an entry. -/
theorem rowSum_gen {A B C : ℕ} (x : FVec Ideal (⟨3, ![A, B, C]⟩ : Shape) .f32) (init : FVec Ideal (⟨0, ![]⟩ : Shape) .f32) (h : (⟨3, ![A, B, C]⟩ : Shape).ReducesTo [2] (⟨2, ![A, B]⟩ : Shape))
    (hu : 0 < (⟨0, ![]⟩ : Shape).numel) (b : Fin A) (s : Fin B) :
    Host.reduceAdd x init h hu (ix2 b s) = (init (Shape.Idx.first hu) : EReal) + ∑ v : Fin C, x (ix3 b s v) := by
  pointwise

/-- Folding with the larger of two from below everything is the supremum. -/
theorem fold_sup {n : ℕ} (f : Fin n → EReal) : Finset.univ.fold max (⊥ : EReal) f = Finset.univ.sup f := rfl

theorem maxOf_apply (L : FVec Ideal S8x2048x20480 .bf16) (b : Fin 8) (s : Fin 2048) : maxOf L (ix2 b s) = Finset.univ.sup fun v : Fin 20480 => (L (ix3 b s v) : EReal) := by
  have e : Ideal.ofBits .f32 0xFF800000#32 = (⊥ : EReal) := by simp [Ideal.ofBits, Ideal.ieee]
  unfold maxOf
  refine (rowMax_gen _ _ _ _ b s).trans ?_
  show Finset.univ.fold max (Ideal.ofBits .f32 0xFF800000#32) (fun v : Fin 20480 => (L (ix3 b s v) : EReal)) = _
  rw [e]
  exact fold_sup _

/-- A row's number, repeated along the row. -/
theorem bc_row {α : Type} (Z : S8x2048.Idx → α) (b : Fin 8) (s : Fin 2048) (v : Fin 20480) :
    broadcastInDim S8x2048x20480 ![0, 1, 2] bcast_S8x2048x1_S8x2048x20480_0_1_2 (broadcastInDim S8x2048x1 ![0, 1] bcast_S8x2048_S8x2048x1_0_1 Z) (ix3 b s v) = Z (ix2 b s) := by
  pointwise

theorem exp_at (L Z : FVec Ideal S8x2048x20480 .f32) (i : S8x2048x20480.Idx) : Host.exp (subf L Z) i = Ideal.exp (L i - Z i) := rfl

theorem max_at (M : FVec Ideal S8x2048 .f32) (i : S8x2048.Idx) :
    maximumf (broadcastInDim S8x2048 ![] bcast_S_S8x2048 (constant (F := Ideal) S_ .f32 0xFF800000#32)) M i = max (Ideal.ofBits .f32 0xFF800000#32) (M i) := rfl

/-- A logit less its row's maximum, exponentiated. -/
theorem expOf_apply (L : FVec Ideal S8x2048x20480 .bf16) (b : Fin 8) (s : Fin 2048) (v : Fin 20480) :
    expOf L (ix3 b s v) = Ideal.exp (L (ix3 b s v) - max (Ideal.ofBits .f32 0xFF800000#32) (maxOf L (ix2 b s))) := by
  unfold expOf
  rw [exp_at, bc_row, max_at]
  generalize maxOf L = M
  rfl

/-- The gradient at an index, whatever the exponentials and their sums are. -/
theorem grad_gen (M : FVec Ideal S8x2048x20480 .f32) (D : FVec Ideal S8x2048 .f32) (lab : IVec S8x2048 32) (b : Fin 8) (s : Fin 2048) (v : Fin 20480) :
    truncf .bf16 (mulf (subf (Host.divf M (broadcastInDim S8x2048x20480 ![0, 1, 2] bcast_S8x2048x1_S8x2048x20480_0_1_2
      (broadcastInDim S8x2048x1 ![0, 1] bcast_S8x2048_S8x2048x1_0_1 D))) (hotOf lab))
    (broadcastInDim S8x2048x20480 ![0, 1, 2] bcast_S8x2048x1_S8x2048x20480_0_1_2 (uitofp .f32
      (broadcastInDim S8x2048x1 ![0, 1] bcast_S8x2048_S8x2048x1_0_1
        (cmpi .sge lab (broadcastInDim S8x2048 ![] bcast_S_S8x2048 (constantI S_ 32 0#32))))))) bitsLt_bf16_f32 (ix3 b s v)
      = (Ideal.div (M (ix3 b s v)) (D (ix2 b s)) -
        (((IntOp.cmpi .eq (lab (ix2 b s)) (BitVec.ofNat 32 v.val)).toNat : ℝ) : EReal)) * (((IntOp.cmpi .sge (lab (ix2 b s)) 0#32).toNat : ℝ) : EReal) := by
  unfold hotOf
  pointwise
  rfl

theorem gradOf_apply (L : FVec Ideal S8x2048x20480 .bf16) (lab : IVec S8x2048 32) (b : Fin 8) (s : Fin 2048) (v : Fin 20480) :
    gradOf L lab (ix3 b s v) = (Ideal.div (expOf L (ix3 b s v)) (∑ x : Fin 20480, expOf L (ix3 b s x)) -
        (((IntOp.cmpi .eq (lab (ix2 b s)) (BitVec.ofNat 32 v.val)).toNat : ℝ) : EReal)) * (((IntOp.cmpi .sge (lab (ix2 b s)) 0#32).toNat : ℝ) : EReal) := by
  have hs := rowSum_gen (expOf L) (constant (F := Ideal) S_ .f32 0#32) reducesTo_S8x2048x20480_S8x2048_d2 h_S_ b s
  have e0 : (constant (F := Ideal) S_ .f32 0#32 (Shape.Idx.first h_S_) : EReal) = 0 := Ideal.ofBits_zero .f32
  rw [e0, zero_add] at hs
  rw [← hs]
  unfold gradOf
  exact grad_gen _ _ lab b s v

theorem actOf_apply (X : FVec Ideal S8x2048x4096 .bf16) (xs : FVec Ideal S8x2048 .f32) (b : Fin 8) (s : Fin 2048) (d : Fin 4096) :
    actOf X xs (ix3 b s d) = (X (ix3 b s d) : EReal) * xs (ix2 b s) := by
  unfold actOf
  pointwise

theorem headOf_apply (G : FVec Ideal S8x2048x20480 .bf16) (Y : FVec Ideal S8x2048x4096 .bf16) (v : Fin 20480) (d : Fin 4096) :
    headOf G Y (ix2 v d) = ∑ b : Fin 8, ∑ s : Fin 2048, (G (ix3 b s v) : EReal) * Y (ix3 b s d) := by
  unfold headOf
  pointwise

theorem embOf_apply (E : FVec Ideal S16384x4096 .f32) (es : FVec Ideal S16384 .f32) (ids : IVec S16384 32) (v : Fin 20480) (d : Fin 4096) :
    embOf E es ids (ix2 v d) = ∑ i : Fin 16384, if (ids (ix1 i)).toInt = (v.val : Int) then (E (ix2 i d) : EReal) * es (ix1 i) else 0 := by
  unfold embOf
  refine (scatterAdd_rows _ rfl rfl rfl rfl _ _ _ v d).trans ?_
  have e0 : broadcastInDim S20480x4096 ![] bcast_S_S20480x4096 (constant (F := Ideal) S_ .f32 0#32) (ix2 v d) = (0 : EReal) := Ideal.ofBits_zero .f32
  rw [e0, zero_add]
  refine Finset.sum_congr rfl fun i _ => ?_
  have e1 : broadcastInDim S16384x1 ![0] bcast_S16384_S16384x1_0 ids (ix2 i (0 : Fin 1)) = ids (ix1 i) := by pointwise
  have e2 : mulf E (broadcastInDim S16384x4096 ![0, 1] bcast_S16384x1_S16384x4096_0_1 (broadcastInDim S16384x1 ![0] bcast_S16384_S16384x1_0 es)) (ix2 i d) = (E (ix2 i d) : EReal) * es (ix1 i) := by pointwise
  rw [e1, e2]

end Cert.ReferenceIdeal.Hand
-- ==== Proof.Equal.lean ====
/-
  The two results are equal: with the ids in ascending order and the logits and the activations' scales real numbers, the
  kernel's array is the reference's.
-/
module

public import proofs.«01_k».proof.Proof.MainHost
public import proofs.«01_k».proof.Proof.MainArray
public import proofs.«01_k».proof.Proof.HeadEq
public import proofs.«01_k».proof.Proof.EmbEq
public import proofs.«01_k».proof.Proof.RefValue

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pointwise Idealize.ShloMosaic.WordCmp
open Cert.ReferenceIdeal.Hand (headOf gradOf actOf embOf expOf maxOf headOf_apply gradOf_apply actOf_apply embOf_apply expOf_apply maxOf_apply)

/-! ## The table's words -/

theorem mask_at (ids : IVec S16384 32) (p : Fin 21) (q : Fin 16384) :
    tblMask ids (StableHlo.Predicate.ij p q) = IntOp.cmpi .slt (ids (Idealize.ShloMosaic.ix1 q)) (BitVec.ofNat 32 (p.val * 1024)) := by
  unfold tblMask
  refine congrArg₂ (IntOp.cmpi .slt) (congrArg ids (funext fun a => ?_)) ?_
  · match a with
    | 0 => rfl
  · show BitVec.ofNat 32 p.val * 1024#32 = _
    rw [BitVec.ofNat_mul]

theorem tblOf_eq (ids : IVec S16384 32) (j : Fin 21) :
    (tblOf ids (Idealize.ShloMosaic.ix1 j)).toNat = below (fun i => ids (Idealize.ShloMosaic.ix1 i)) (j.val * 1024 : ℕ) := by
  have hj := j.isLt
  unfold tblOf below
  refine (StableHlo.Predicate.toNat_reduce_count_cols (by decide) (tblMask ids) natLt_1_32 reducesTo_S21x16384_S21_d1 h_S_ (Idealize.ShloMosaic.ix1 j)).trans ?_
  refine congrArg Finset.card (Finset.filter_congr fun q _ => ?_)
  have e : tblMask ids (StableHlo.Predicate.ij j q) = _ := mask_at ids j q
  refine (Eq.to_iff (congrArg (· = 1#1) e)).trans ?_
  have hw : (BitVec.ofNat 32 (j.val * 1024)).toInt = ((j.val * 1024 : ℕ) : ℤ) := by
    rw [BitVec.toInt_eq_toNat_of_lt (by rw [BitVec.toNat_ofNat]; omega), BitVec.toNat_ofNat]
    omega
  rw [cmpi_slt_eq, hw]
  by_cases h : (ids (Idealize.ShloMosaic.ix1 q)).toInt < ((j.val * 1024 : ℕ) : ℤ)
  · simp only [h, decide_true]; decide
  · simp only [h, decide_false]; decide

variable (m : (ℓ : Loc nD τ sig) → Buf (Elt Ideal) ℓ)

/-- The arguments: the logits, the labels, the activations and their scales, the embedding rows and their scales, the ids. -/
def A0 (c : Dev nD) : S8x2048x20480.Idx → EReal := (m ((c : Thread nD τ).loc main_arg0) : Vec Ideal S8x2048x20480 .bf16)
def A1 (c : Dev nD) : S8x2048.Idx → BitVec 32 := (m ((c : Thread nD τ).loc main_arg1) : Vec Ideal S8x2048 .i32)
def A2 (c : Dev nD) : S8x2048x4096.Idx → EReal := (m ((c : Thread nD τ).loc main_arg2) : Vec Ideal S8x2048x4096 .fp8e4m3)
def A3 (c : Dev nD) : S8x2048.Idx → EReal := (m ((c : Thread nD τ).loc main_arg3) : Vec Ideal S8x2048 .f32)
def A4 (c : Dev nD) : S16384x4096.Idx → EReal := (m ((c : Thread nD τ).loc main_arg4) : Vec Ideal S16384x4096 .fp8e5m2)
def A5 (c : Dev nD) : S16384.Idx → EReal := (m ((c : Thread nD τ).loc main_arg5) : Vec Ideal S16384 .f32)
def A6 (c : Dev nD) : S16384.Idx → BitVec 32 := (m ((c : Thread nD τ).loc main_arg6) : Vec Ideal S16384 .i32)

theorem tblW_eq (c : Dev nD) (j : ℕ) (hj : j < 21) :
    tblW (E3 m) c j = below (fun i => A6 m c (Idealize.ShloMosaic.ix1 i)) (j * 1024 : ℕ) := by
  unfold tblW
  rw [dif_pos hj, E3_v11]
  exact tblOf_eq _ ⟨j, hj⟩

/-! ## One token -/

theorem v0_tok (c : Dev nD) (b : Fin 8) (s : Fin 2048) (v : Fin 20480) :
    ((E1 m c main_v0 : Vec Ideal S16384x20480 .bf16) (ix2 (tok b s) v) : EReal) = A0 m c (ix3 b s v) := v0_at m c b s v

theorem max_at_tok (c : Dev nD) (b : Fin 8) (s : Fin 2048) :
    rMax (E1 m c main_v0) (tok b s) = Finset.univ.sup fun v : Fin 20480 => (A0 m c (ix3 b s v) : EReal) :=
  Finset.sup_congr rfl fun v _ => v0_tok m c b s v

theorem v1_max (c : Dev nD) (b : Fin 8) (s : Fin 2048) :
    (E3 m c main_v1 : Vec Ideal S2x16384 .f32) (ix2 (0 : Fin 2) (tok b s)) = Finset.univ.sup fun v : Fin 20480 => (A0 m c (ix3 b s v) : EReal) := by
  rw [E3_v1, out1_eq]
  exact (if_pos rfl).trans (max_at_tok m c b s)

theorem v1_sum (c : Dev nD) (b : Fin 8) (s : Fin 2048) :
    (E3 m c main_v1 : Vec Ideal S2x16384 .f32) (ix2 (1 : Fin 2) (tok b s)) = Ideal.div 1 (∑ u : Fin 20480, ker_exp ((A0 m c (ix3 b s u) : EReal)
      - Finset.univ.sup fun v : Fin 20480 => (A0 m c (ix3 b s v) : EReal))) := by
  rw [E3_v1, out1_eq]
  refine (if_neg (by show ¬ (1 = 0); decide)).trans (congrArg (Ideal.div 1) ?_)
  unfold rSum
  refine Finset.sum_congr rfl fun u _ => ?_
  exact congrArg ker_exp (congrArg₂ (· - ·) (v0_tok m c b s u) (max_at_tok m c b s))

theorem gradAt_congr (z mx si : EReal) {xs xs' : EReal} {l l' : BitVec 32} (hx : xs = xs') (hl : l = l') (vid : BitVec 32) :
    gradAt z mx si xs l vid = gradAt z mx si xs' l' vid := by
  rw [hx, hl]

theorem tok_eq (c : Dev nD) (b : Fin 8) (s : Fin 2048) (v : Fin 20480) (d : Fin 4096)
    (hl : ∀ i, ∃ r : ℝ, (A0 m c i : EReal) = r)
    (hx : ∀ i, ∃ r : ℝ, (A3 m c i : EReal) = r) :
    tokT (E3 m) c (BitVec.ofNat 32 v.val) v (tok b s) d
      = (gradOf (A0 m c) (A1 m c) (ix3 b s v) : EReal)
        * actOf (A2 m c) (A3 m c) (ix3 b s d) := by
  rw [gradOf_apply, actOf_apply]
  simp only [expOf_apply, maxOf_apply]
  have e : tokT (E3 m) c (BitVec.ofNat 32 v.val) v (tok b s) d = gradAt (A0 m c (ix3 b s v)) (Finset.univ.sup fun v : Fin 20480 => A0 m c (ix3 b s v))
      (Ideal.div 1 (∑ u : Fin 20480, ker_exp (A0 m c (ix3 b s u) - Finset.univ.sup fun v : Fin 20480 => A0 m c (ix3 b s v)))) (A3 m c (ix2 b s)) (A1 m c (ix2 b s)) (BitVec.ofNat 32 v.val) * A2 m c (ix3 b s d) := by
    unfold tokT
    rw [v1_max, v1_sum, E3_v0]
    refine congrArg₂ (· * ·) ?_ (v14_at m c b s d)
    rw [v0_tok]
    exact gradAt_congr _ _ _ (v13_at m c b s) (v12_at m c b s) _
  rw [e]
  exact token_eq (fun v : Fin 20480 => (A0 m c (ix3 b s v) : EReal)) (fun v => hl _) _ (hx _) _ _ v _ _
    (by simp [Ideal.ofBits, Ideal.ieee])

/-! ## The result -/

theorem res_eq (c : Dev nD)
    (hs : ∀ i j : Fin 16384, i ≤ j → (A6 m c (Idealize.ShloMosaic.ix1 i)).toInt ≤ (A6 m c (Idealize.ShloMosaic.ix1 j)).toInt)
    (hl : ∀ i, ∃ r : ℝ, (A0 m c i : EReal) = r)
    (hx : ∀ i, ∃ r : ℝ, (A3 m c i : EReal) = r) :
    (resG (E3 m) c : Vec Ideal S20480x4096 .f32)
      = addf (headOf (gradOf (A0 m c) (A1 m c))
          (actOf (A2 m c) (A3 m c)))
        (embOf (A4 m c) (A5 m c) (A6 m c)) := by
  funext y
  obtain ⟨v, d, rfl⟩ : ∃ (v : Fin 20480) (d : Fin 4096), y = ix2 v d := ⟨y 0, y 1, by funext a; match a with | 0 => rfl | 1 => rfl⟩
  have hv := v.isLt
  have hdm : v.val / 1024 * 1024 + v.val % 1024 = v.val := by omega
  show baseT (E3 m) c (v.val / 1024) (ix2 (⟨v.val % 1024, Nat.mod_lt _ (by decide)⟩ : Fin 1024) d)
      + ∑ n : Fin 16384, tokT (E3 m) c (vocab (v.val / 1024) (v.val % 1024)) v n d
    = (headOf (gradOf (A0 m c) (A1 m c))
          (actOf (A2 m c) (A3 m c)) (ix2 v d) : EReal)
      + embOf (A4 m c) (A5 m c) (A6 m c) (ix2 v d)
  rw [headOf_apply, embOf_apply, vocab_eq, hdm, add_comm]
  refine congrArg₂ (· + ·) ?_ ?_
  · rw [Fin.sum_univ_tiles 8 2048 rfl]
    refine Finset.sum_congr rfl fun b _ => Finset.sum_congr rfl fun s _ => ?_
    exact tok_eq m c b s v d hl hx
  · unfold baseT
    refine (emb_eq (fun i => A6 m c (Idealize.ShloMosaic.ix1 i)) hs _ _ _
      (fun i => (A5 m c (Idealize.ShloMosaic.ix1 i) : EReal))
      (v15_at m c) (v16_at m c) (v.val / 1024) (v.val % 1024) v hdm.symm (Nat.mod_lt _ (by decide)) _ rfl _ _
      (tblW_eq m c _ (by omega)) (tblW_eq m c _ (by omega))).trans ?_
    rw [E3_arg4]
    rfl

end Cert.KernelIdeal.Hand
-- ==== Proof.PreEq.lean ====
/-
  What the precondition says of the arguments: the ids ascend, every logit and every scale of the activations is a real
  number.
-/
module

public import proofs.«01_k».proof.Pre_sorted_and_finite
public import Idealize.ShloMosaic.Lib.ReduceAll
public import Idealize.ShloMosaic.Lib.WordCmp
public import Idealize.ShloMosaic.Lib.Pointwise.Select
public import Idealize.ShloMosaic.Lib.Pointwise
public import Idealize.ShloMosaic.Lib.Affine

@[expose] public section

noncomputable section

namespace Cert.Pre_sorted_and_finite

open Idealize.ShloMosaic Idealize.ShloMosaic.WordCmp

/-- The shape facts the precondition's operations take. -/
instance facts : Facts where
  slices_S16384_S16383_1 := by decide
  slices_S16384_S16383_0 := by decide
  reducesTo_S16383_S_d0 := by decide
  h_S_ := by decide
  bitsLt_bf16_f32 := by decide
  bcast_S_S8x2048x20480 := by decide
  reducesTo_S8x2048x20480_S_d0_1_2 := by decide
  bcast_S_S8x2048 := by decide
  reducesTo_S8x2048_S_d0_1 := by decide

theorem one_idx : Subsingleton S_.Idx := ⟨fun a b => funext fun x => x.elim0⟩

theorem and3 (A B C : IVec S_ 1) (h : andi (andi A B) C = fun _ => 1#1) (j : S_.Idx) : A j = 1#1 ∧ B j = 1#1 ∧ C j = 1#1 := by
  have e : IntOp.andi (IntOp.andi (A j) (B j)) (C j) = 1#1 := congrFun h j
  obtain ⟨h12, h3⟩ := IntOp.andi_eq_one.1 e
  obtain ⟨h1, h2⟩ := IntOp.andi_eq_one.1 h12
  exact ⟨h1, h2, h3⟩

/-- A number whose absolute value is below infinity is real. -/
theorem real_of_lt (x : EReal) (h : Ideal.cmp .olt (max x (-x)) (Ideal.ofBits .f32 0x7F800000#32) = 1#1) : ∃ r : ℝ, x = r := by
  have e : Ideal.ofBits .f32 0x7F800000#32 = (⊤ : EReal) := by simp [Ideal.ofBits, Ideal.ieee]
  rw [e, Ideal.cmp_olt] at h
  have h' : max x (-x) < ⊤ := by
    by_contra hn
    rw [decide_eq_false hn] at h
    exact absurd h (by decide)
  induction x with
  | bot => simp at h'
  | top => simp at h'
  | coe r => exact ⟨r, rfl⟩

theorem ge_of_bit (x y : BitVec 32) (h : IntOp.cmpi .sge x y = 1#1) : y.toInt ≤ x.toInt := by
  rw [cmpi_sge_eq] at h
  by_contra hn
  rw [decide_eq_false hn] at h
  exact absurd h (by decide)

/-- A sequence each of whose elements is at most the next ascends. -/
theorem ascend (f : Fin 16384 → ℤ) (h : ∀ k (hk : k + 1 < 16384), f ⟨k, by omega⟩ ≤ f ⟨k + 1, hk⟩) (i j : Fin 16384) (hij : i ≤ j) : f i ≤ f j := by
  obtain ⟨i, hi⟩ := i
  obtain ⟨j, hj⟩ := j
  have hij' : i ≤ j := hij
  clear hij
  induction j, hij' using Nat.le_induction with
  | base => exact le_refl _
  | succ n hn ih => exact (ih (by omega)).trans (h n hj)

theorem of_fn [Facts] (a0 : FVec Ideal S8x2048x20480 .bf16) (a1 : IVec S8x2048 32) (a2 : FVec Ideal S8x2048x4096 .fp8e4m3) (a3 : FVec Ideal S8x2048 .f32)
    (a4 : FVec Ideal S16384x4096 .fp8e5m2) (a5 : FVec Ideal S16384 .f32) (a6 : IVec S16384 32) (h : fn (F := Ideal) a0 a1 a2 a3 a4 a5 a6 = fun _ => 1#1) :
    (∀ i j : Fin 16384, i ≤ j → (a6 (ix1 i)).toInt ≤ (a6 (ix1 j)).toInt) ∧ (∀ i, ∃ r : ℝ, (a0 i : EReal) = r) ∧ ∀ i, ∃ r : ℝ, (a3 i : EReal) = r := by
  haveI := one_idx
  obtain ⟨h1, h2, h3⟩ := and3 _ _ _ h (Shape.Idx.first Facts.h_S_)
  refine ⟨fun i j => ascend (fun i => (a6 (ix1 i)).toInt) (fun k hk => ?_) i j, fun i => ?_, fun i => ?_⟩
  · have hb := Host.reduce_andi_all _ _ _ _ _ h1 (ix1 (⟨k, by omega⟩ : Fin 16383))
    have hc := ge_of_bit _ _ hb
    have e1 : extractStridedSlice S16383 ![1] a6 Facts.slices_S16384_S16383_1 (ix1 (⟨k, by omega⟩ : Fin 16383)) = a6 (ix1 (⟨k + 1, hk⟩ : Fin 16384)) := by
      refine congrArg a6 (funext fun a => Fin.ext ?_)
      match a with
      | 0 => exact Nat.add_comm 1 k
    have e0 : extractStridedSlice S16383 ![0] a6 Facts.slices_S16384_S16383_0 (ix1 (⟨k, by omega⟩ : Fin 16383)) = a6 (ix1 (⟨k, by omega⟩ : Fin 16384)) := by
      refine congrArg a6 (funext fun a => Fin.ext ?_)
      match a with
      | 0 => exact Nat.zero_add k
    beta_reduce at hc
    rw [e1, e0] at hc
    exact hc
  · exact real_of_lt _ (Host.reduce_andi_all _ _ _ _ _ h2 i)
  · exact real_of_lt _ (Host.reduce_andi_all _ _ _ _ _ h3 i)

end Cert.Pre_sorted_and_finite
-- ==== Proof.Algebraic.lean ====
/-
  The value claim: under the precondition the idealized kernel and the reference end with the same result.
-/
module

public import proofs.«01_k».proof.Defs
public import proofs.«01_k».proof.Proof.Equal
public import proofs.«01_k».proof.Proof.PreEq

@[expose] public section

set_option maxRecDepth 16384

noncomputable section

namespace Cert.Proof

open Idealize.ShloMosaic Idealize.ShloMosaic.TcCoe Idealize.SL.Sem
open Cert.ReferenceIdeal.Hand (headOf gradOf actOf embOf)
open Cert.ReferenceIdeal (S8x2048x20480 S8x2048 S8x2048x4096 S16384x4096 S16384 S20480x4096)

/-- The reference's result from its seven arguments. -/
def refOf (a0 : S8x2048x20480.Idx → EReal) (a1 : S8x2048.Idx → BitVec 32) (a2 : S8x2048x4096.Idx → EReal) (a3 : S8x2048.Idx → EReal)
    (a4 : S16384x4096.Idx → EReal) (a5 : S16384.Idx → EReal) (a6 : S16384.Idx → BitVec 32) : S20480x4096.Idx → EReal :=
  (addf (headOf (gradOf a0 a1) (actOf a2 a3)) (embOf a4 a5 a6) : FVec Ideal S20480x4096 .f32)

theorem refOf_congr {a0 b0 : S8x2048x20480.Idx → EReal} {a1 b1 : S8x2048.Idx → BitVec 32} {a2 b2 : S8x2048x4096.Idx → EReal} {a3 b3 : S8x2048.Idx → EReal}
    {a4 b4 : S16384x4096.Idx → EReal} {a5 b5 : S16384.Idx → EReal} {a6 b6 : S16384.Idx → BitVec 32}
    (h0 : a0 = b0) (h1 : a1 = b1) (h2 : a2 = b2) (h3 : a3 = b3) (h4 : a4 = b4) (h5 : a5 = b5) (h6 : a6 = b6) :
    refOf a0 a1 a2 a3 a4 a5 a6 = refOf b0 b1 b2 b3 b4 b5 b6 := by
  rw [h0, h1, h2, h3, h4, h5, h6]

section Kernel

open Cert.KernelIdeal Cert.KernelIdeal.Gen Cert.KernelIdeal.Hand

/-- The kernel's result is the reference's function of the kernel's arguments. -/
theorem kernel_value (m : (ℓ : Loc Cert.KernelIdeal.nD Cert.KernelIdeal.τ Cert.KernelIdeal.sig) → Buf (Elt Ideal) ℓ) (hpre : Cert.Pre_KernelIdeal_sorted_and_finite m) (c : Dev Cert.KernelIdeal.nD) :
    (out2 m (tableOk m) c : Cert.ReferenceIdeal.S20480x4096.Idx → EReal) = refOf (A0 m c) (A1 m c) (A2 m c) (A3 m c) (A4 m c) (A5 m c) (A6 m c) := by
  obtain ⟨hs, hl, hx⟩ := Cert.Pre_sorted_and_finite.of_fn _ _ _ _ _ _ _ (hpre c)
  have hle : ∀ (c : Dev Cert.KernelIdeal.nD) (j : Fin 21), ((E3 m c main_v11 : Vec Ideal S21 .i32) (Idealize.ShloMosaic.ix1 j)).toNat ≤ 16384 := by
    intro c j
    rw [E3_v11]
    exact tblOf_le _ _
  unfold out2
  exact (arr_eq (E3 m) (adm m 1) (tableOk m) hle c).trans (res_eq m c hs hl hx)

end Kernel

section Reference

open Cert.ReferenceIdeal Cert.ReferenceIdeal.Gen Cert.ReferenceIdeal.Hand

variable (m : (ℓ : Loc nD τ sig) → Buf (Elt Ideal) ℓ)

/-- The reference's arguments, in the order of `refOf`. -/
def B0 (c : Dev nD) : Cert.ReferenceIdeal.S8x2048x20480.Idx → EReal := m ((c : Thread nD τ).loc main_arg0)
def B1 (c : Dev nD) : Cert.ReferenceIdeal.S8x2048.Idx → BitVec 32 := m ((c : Thread nD τ).loc main_arg1)
def B2 (c : Dev nD) : Cert.ReferenceIdeal.S8x2048x4096.Idx → EReal := m ((c : Thread nD τ).loc main_arg2)
def B3 (c : Dev nD) : Cert.ReferenceIdeal.S8x2048.Idx → EReal := m ((c : Thread nD τ).loc main_arg3)
def B4 (c : Dev nD) : Cert.ReferenceIdeal.S16384x4096.Idx → EReal := m ((c : Thread nD τ).loc main_arg4)
def B5 (c : Dev nD) : Cert.ReferenceIdeal.S16384.Idx → EReal := m ((c : Thread nD τ).loc main_arg5)
def B6 (c : Dev nD) : Cert.ReferenceIdeal.S16384.Idx → BitVec 32 := m ((c : Thread nD τ).loc main_arg6)

theorem reference_run (g : Dev nD → PrngReg) :
    θ_run (defs (F := Ideal)) (onTc (τ := τ) (main (F := Ideal))) ⟨m, fun _ => 0, g⟩ (fun r => ∀ c : Dev nD,
      r.2.mem ((c.tc : Thread nD τ).loc main_v33) = refOf (B0 m c) (B1 m c) (B2 m c) (B3 m c) (B4 m c) (B5 m c) (B6 m c)) := by
  refine (θ_run (defs (F := Ideal)) _ _).mono (fun r h c => ?_) (run_main (F := Ideal) m g)
  have e := (h c).2 main_v33 (Pipeline.mem_restRefs_of main_v33 (by decide) (by decide))
  rw [tail_v33 m c] at e
  exact e

end Reference

theorem algebraic : Cert.algebraic_KernelIdeal_ReferenceIdeal_pre_sorted_and_finite := by
  intro m g m' g' hpre hag
  refine ⟨fun c => Cert.KernelIdeal.Hand.out2 m (Cert.KernelIdeal.Hand.tableOk m) c, ?_, ?_⟩
  · refine (θ_run (Cert.KernelIdeal.defs (F := Ideal)) _ _).mono (fun r h c => ?_) (Cert.KernelIdeal.Hand.run_main m g (Cert.KernelIdeal.Hand.tableOk m))
    exact ⟨(h.1 c).2.2.2.2.2.2.2, (h.1 c).1, (h.1 c).2.1, (h.1 c).2.2.1, (h.1 c).2.2.2.1, (h.1 c).2.2.2.2.1, (h.1 c).2.2.2.2.2.1, (h.1 c).2.2.2.2.2.2.1⟩
  · refine (θ_run (Cert.ReferenceIdeal.defs (F := Ideal)) _ _).mono (fun r h c => ⟨?_, h.2 c⟩) (θ_run_and (reference_run m' g') (Cert.ReferenceIdeal.Gen.unchanged (F := Ideal) m' g'))
    refine (h.1 c).trans ?_
    obtain ⟨h0, h1, h2, h3, h4, h5, h6⟩ := hag c
    have e : refOf (B0 m' c) (B1 m' c) (B2 m' c) (B3 m' c) (B4 m' c) (B5 m' c) (B6 m' c) = refOf (Cert.KernelIdeal.Hand.A0 m c) (Cert.KernelIdeal.Hand.A1 m c) (Cert.KernelIdeal.Hand.A2 m c)
        (Cert.KernelIdeal.Hand.A3 m c) (Cert.KernelIdeal.Hand.A4 m c) (Cert.KernelIdeal.Hand.A5 m c) (Cert.KernelIdeal.Hand.A6 m c) := refOf_congr h0 h1 h2 h3 h4 h5 h6
    exact e.trans (kernel_value m hpre c).symm

end Cert.Proof
-- ==== Proof.lean ====
module

public import proofs.«01_k».proof.Defs
public import proofs.«01_k».proof.Proof.Table
public import proofs.«01_k».proof.Proof.Printed.Table
public import proofs.«01_k».proof.Proof.Gen.ReferenceIdeal.Frame
public import proofs.«01_k».proof.Proof.Algebraic

@[expose] public section

noncomputable section

namespace Cert.Proof

open Idealize.ShloMosaic Idealize.SL.Sem

theorem frame_kernel : Cert.quiescent_Kernel := fun m g _ =>
  (θ_run Cert.Kernel.defs _ _).mono (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (Cert.Kernel.Hand.run_main m g (Cert.Kernel.Hand.tableOk m))

theorem frame_kernelIdeal : Cert.quiescent_KernelIdeal := fun m g _ =>
  (θ_run Cert.KernelIdeal.defs _ _).mono (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (Cert.KernelIdeal.Hand.run_main m g (Cert.KernelIdeal.Hand.tableOk m))

theorem frame_referenceIdeal : Cert.quiescent_ReferenceIdeal := fun m g _ => Cert.ReferenceIdeal.Gen.frame m g

theorem preserves : Cert.preserves_Kernel_KernelIdeal :=
  IdealRules.named_const.statement Cert.KernelIdeal.κ "log2e" .f32 0x3FB8AA3B#32 (((Real.log 2)⁻¹ : ℝ) : EReal) rfl

theorem claim : Cert.Claim := ⟨Cert.Kernel.Gen.facts, Cert.KernelIdeal.Gen.facts, Cert.ReferenceIdeal.Gen.facts, Cert.Pre_sorted_and_finite.facts,
  frame_kernel, frame_kernelIdeal, fun m g _ => frame_kernelIdeal m g trivial, frame_referenceIdeal,
  fun m g _ => frame_referenceIdeal m g trivial, preserves, algebraic⟩

end Cert.Proof

end
